-- ==== Defs.lean ====
def Pre_FfnProj (m : (ℓ : Loc Cert.FfnProj.nD Cert.FfnProj.τ Cert.FfnProj.sig) → Buf (Elt Bits) ℓ) : Prop :=
  True

def Pre_FfnProjIdeal [hPre_finite2 : Cert.Pre_finite2.Facts] (m : (ℓ : Loc Cert.FfnProjIdeal.nD Cert.FfnProjIdeal.τ Cert.FfnProjIdeal.sig) → Buf (Elt Ideal) ℓ) : Prop :=
  ∀ c : Dev Cert.FfnProjIdeal.nD,
    (Cert.Pre_finite2.fn (F := Ideal) (m ((c.tc : Thread Cert.FfnProjIdeal.nD Cert.FfnProjIdeal.τ).loc Cert.FfnProjIdeal.main_arg0)) (m ((c.tc : Thread Cert.FfnProjIdeal.nD Cert.FfnProjIdeal.τ).loc Cert.FfnProjIdeal.main_arg1)) (m ((c.tc : Thread Cert.FfnProjIdeal.nD Cert.FfnProjIdeal.τ).loc Cert.FfnProjIdeal.main_arg2)) (m ((c.tc : Thread Cert.FfnProjIdeal.nD Cert.FfnProjIdeal.τ).loc Cert.FfnProjIdeal.main_arg3)) (m ((c.tc : Thread Cert.FfnProjIdeal.nD Cert.FfnProjIdeal.τ).loc Cert.FfnProjIdeal.main_arg4)) (m ((c.tc : Thread Cert.FfnProjIdeal.nD Cert.FfnProjIdeal.τ).loc Cert.FfnProjIdeal.main_arg5)) (m ((c.tc : Thread Cert.FfnProjIdeal.nD Cert.FfnProjIdeal.τ).loc Cert.FfnProjIdeal.main_arg6))).1 = (fun _ => 1#1)
    ∧ (Cert.Pre_finite2.fn (F := Ideal) (m ((c.tc : Thread Cert.FfnProjIdeal.nD Cert.FfnProjIdeal.τ).loc Cert.FfnProjIdeal.main_arg0)) (m ((c.tc : Thread Cert.FfnProjIdeal.nD Cert.FfnProjIdeal.τ).loc Cert.FfnProjIdeal.main_arg1)) (m ((c.tc : Thread Cert.FfnProjIdeal.nD Cert.FfnProjIdeal.τ).loc Cert.FfnProjIdeal.main_arg2)) (m ((c.tc : Thread Cert.FfnProjIdeal.nD Cert.FfnProjIdeal.τ).loc Cert.FfnProjIdeal.main_arg3)) (m ((c.tc : Thread Cert.FfnProjIdeal.nD Cert.FfnProjIdeal.τ).loc Cert.FfnProjIdeal.main_arg4)) (m ((c.tc : Thread Cert.FfnProjIdeal.nD Cert.FfnProjIdeal.τ).loc Cert.FfnProjIdeal.main_arg5)) (m ((c.tc : Thread Cert.FfnProjIdeal.nD Cert.FfnProjIdeal.τ).loc Cert.FfnProjIdeal.main_arg6))).2 = (fun _ => 1#1)

def Pre_FfnProjIdeal_none (m : (ℓ : Loc Cert.FfnProjIdeal.nD Cert.FfnProjIdeal.τ Cert.FfnProjIdeal.sig) → Buf (Elt Ideal) ℓ) : Prop :=
  True

def Pre_FfnProjRefIdeal [hPre_finite2 : Cert.Pre_finite2.Facts] (m : (ℓ : Loc Cert.FfnProjRefIdeal.nD Cert.FfnProjRefIdeal.τ Cert.FfnProjRefIdeal.sig) → Buf (Elt Ideal) ℓ) : Prop :=
  ∀ c : Dev Cert.FfnProjRefIdeal.nD,
    (Cert.Pre_finite2.fn (F := Ideal) (m ((c.tc : Thread Cert.FfnProjRefIdeal.nD Cert.FfnProjRefIdeal.τ).loc Cert.FfnProjRefIdeal.main_arg0)) (m ((c.tc : Thread Cert.FfnProjRefIdeal.nD Cert.FfnProjRefIdeal.τ).loc Cert.FfnProjRefIdeal.main_arg1)) (m ((c.tc : Thread Cert.FfnProjRefIdeal.nD Cert.FfnProjRefIdeal.τ).loc Cert.FfnProjRefIdeal.main_arg2)) (m ((c.tc : Thread Cert.FfnProjRefIdeal.nD Cert.FfnProjRefIdeal.τ).loc Cert.FfnProjRefIdeal.main_arg3)) (m ((c.tc : Thread Cert.FfnProjRefIdeal.nD Cert.FfnProjRefIdeal.τ).loc Cert.FfnProjRefIdeal.main_arg4)) (m ((c.tc : Thread Cert.FfnProjRefIdeal.nD Cert.FfnProjRefIdeal.τ).loc Cert.FfnProjRefIdeal.main_arg5)) (m ((c.tc : Thread Cert.FfnProjRefIdeal.nD Cert.FfnProjRefIdeal.τ).loc Cert.FfnProjRefIdeal.main_arg6))).1 = (fun _ => 1#1)
    ∧ (Cert.Pre_finite2.fn (F := Ideal) (m ((c.tc : Thread Cert.FfnProjRefIdeal.nD Cert.FfnProjRefIdeal.τ).loc Cert.FfnProjRefIdeal.main_arg0)) (m ((c.tc : Thread Cert.FfnProjRefIdeal.nD Cert.FfnProjRefIdeal.τ).loc Cert.FfnProjRefIdeal.main_arg1)) (m ((c.tc : Thread Cert.FfnProjRefIdeal.nD Cert.FfnProjRefIdeal.τ).loc Cert.FfnProjRefIdeal.main_arg2)) (m ((c.tc : Thread Cert.FfnProjRefIdeal.nD Cert.FfnProjRefIdeal.τ).loc Cert.FfnProjRefIdeal.main_arg3)) (m ((c.tc : Thread Cert.FfnProjRefIdeal.nD Cert.FfnProjRefIdeal.τ).loc Cert.FfnProjRefIdeal.main_arg4)) (m ((c.tc : Thread Cert.FfnProjRefIdeal.nD Cert.FfnProjRefIdeal.τ).loc Cert.FfnProjRefIdeal.main_arg5)) (m ((c.tc : Thread Cert.FfnProjRefIdeal.nD Cert.FfnProjRefIdeal.τ).loc Cert.FfnProjRefIdeal.main_arg6))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixTail (m : (ℓ : Loc Cert.MixTail.nD Cert.MixTail.τ Cert.MixTail.sig) → Buf (Elt Bits) ℓ) : Prop :=
  True

def Pre_MixTailIdeal [hPre_finite3 : Cert.Pre_finite3.Facts] (m : (ℓ : Loc Cert.MixTailIdeal.nD Cert.MixTailIdeal.τ Cert.MixTailIdeal.sig) → Buf (Elt Ideal) ℓ) : Prop :=
  ∀ c : Dev Cert.MixTailIdeal.nD,
    (Cert.Pre_finite3.fn (F := Ideal) (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13))).1 = (fun _ => 1#1)
    ∧ (Cert.Pre_finite3.fn (F := Ideal) (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13))).2.1 = (fun _ => 1#1)
    ∧ (Cert.Pre_finite3.fn (F := Ideal) (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13))).2.2.1 = (fun _ => 1#1)
    ∧ (Cert.Pre_finite3.fn (F := Ideal) (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13))).2.2.2 = (fun _ => 1#1)

def Pre_MixTailIdeal_none (m : (ℓ : Loc Cert.MixTailIdeal.nD Cert.MixTailIdeal.τ Cert.MixTailIdeal.sig) → Buf (Elt Ideal) ℓ) : Prop :=
  True

def Pre_MixTailRefIdeal [hPre_finite3 : Cert.Pre_finite3.Facts] (m : (ℓ : Loc Cert.MixTailRefIdeal.nD Cert.MixTailRefIdeal.τ Cert.MixTailRefIdeal.sig) → Buf (Elt Ideal) ℓ) : Prop :=
  ∀ c : Dev Cert.MixTailRefIdeal.nD,
    (Cert.Pre_finite3.fn (F := Ideal) (m ((c.tc : Thread Cert.MixTailRefIdeal.nD Cert.MixTailRefIdeal.τ).loc Cert.MixTailRefIdeal.main_arg0)) (m ((c.tc : Thread Cert.MixTailRefIdeal.nD Cert.MixTailRefIdeal.τ).loc Cert.MixTailRefIdeal.main_arg1)) (m ((c.tc : Thread Cert.MixTailRefIdeal.nD Cert.MixTailRefIdeal.τ).loc Cert.MixTailRefIdeal.main_arg2)) (m ((c.tc : Thread Cert.MixTailRefIdeal.nD Cert.MixTailRefIdeal.τ).loc Cert.MixTailRefIdeal.main_arg3)) (m ((c.tc : Thread Cert.MixTailRefIdeal.nD Cert.MixTailRefIdeal.τ).loc Cert.MixTailRefIdeal.main_arg4)) (m ((c.tc : Thread Cert.MixTailRefIdeal.nD Cert.MixTailRefIdeal.τ).loc Cert.MixTailRefIdeal.main_arg5)) (m ((c.tc : Thread Cert.MixTailRefIdeal.nD Cert.MixTailRefIdeal.τ).loc Cert.MixTailRefIdeal.main_arg6)) (m ((c.tc : Thread Cert.MixTailRefIdeal.nD Cert.MixTailRefIdeal.τ).loc Cert.MixTailRefIdeal.main_arg7)) (m ((c.tc : Thread Cert.MixTailRefIdeal.nD Cert.MixTailRefIdeal.τ).loc Cert.MixTailRefIdeal.main_arg8)) (m ((c.tc : Thread Cert.MixTailRefIdeal.nD Cert.MixTailRefIdeal.τ).loc Cert.MixTailRefIdeal.main_arg9)) (m ((c.tc : Thread Cert.MixTailRefIdeal.nD Cert.MixTailRefIdeal.τ).loc Cert.MixTailRefIdeal.main_arg10)) (m ((c.tc : Thread Cert.MixTailRefIdeal.nD Cert.MixTailRefIdeal.τ).loc Cert.MixTailRefIdeal.main_arg11)) (m ((c.tc : Thread Cert.MixTailRefIdeal.nD Cert.MixTailRefIdeal.τ).loc Cert.MixTailRefIdeal.main_arg12)) (m ((c.tc : Thread Cert.MixTailRefIdeal.nD Cert.MixTailRefIdeal.τ).loc Cert.MixTailRefIdeal.main_arg13))).1 = (fun _ => 1#1)
    ∧ (Cert.Pre_finite3.fn (F := Ideal) (m ((c.tc : Thread Cert.MixTailRefIdeal.nD Cert.MixTailRefIdeal.τ).loc Cert.MixTailRefIdeal.main_arg0)) (m ((c.tc : Thread Cert.MixTailRefIdeal.nD Cert.MixTailRefIdeal.τ).loc Cert.MixTailRefIdeal.main_arg1)) (m ((c.tc : Thread Cert.MixTailRefIdeal.nD Cert.MixTailRefIdeal.τ).loc Cert.MixTailRefIdeal.main_arg2)) (m ((c.tc : Thread Cert.MixTailRefIdeal.nD Cert.MixTailRefIdeal.τ).loc Cert.MixTailRefIdeal.main_arg3)) (m ((c.tc : Thread Cert.MixTailRefIdeal.nD Cert.MixTailRefIdeal.τ).loc Cert.MixTailRefIdeal.main_arg4)) (m ((c.tc : Thread Cert.MixTailRefIdeal.nD Cert.MixTailRefIdeal.τ).loc Cert.MixTailRefIdeal.main_arg5)) (m ((c.tc : Thread Cert.MixTailRefIdeal.nD Cert.MixTailRefIdeal.τ).loc Cert.MixTailRefIdeal.main_arg6)) (m ((c.tc : Thread Cert.MixTailRefIdeal.nD Cert.MixTailRefIdeal.τ).loc Cert.MixTailRefIdeal.main_arg7)) (m ((c.tc : Thread Cert.MixTailRefIdeal.nD Cert.MixTailRefIdeal.τ).loc Cert.MixTailRefIdeal.main_arg8)) (m ((c.tc : Thread Cert.MixTailRefIdeal.nD Cert.MixTailRefIdeal.τ).loc Cert.MixTailRefIdeal.main_arg9)) (m ((c.tc : Thread Cert.MixTailRefIdeal.nD Cert.MixTailRefIdeal.τ).loc Cert.MixTailRefIdeal.main_arg10)) (m ((c.tc : Thread Cert.MixTailRefIdeal.nD Cert.MixTailRefIdeal.τ).loc Cert.MixTailRefIdeal.main_arg11)) (m ((c.tc : Thread Cert.MixTailRefIdeal.nD Cert.MixTailRefIdeal.τ).loc Cert.MixTailRefIdeal.main_arg12)) (m ((c.tc : Thread Cert.MixTailRefIdeal.nD Cert.MixTailRefIdeal.τ).loc Cert.MixTailRefIdeal.main_arg13))).2.1 = (fun _ => 1#1)
    ∧ (Cert.Pre_finite3.fn (F := Ideal) (m ((c.tc : Thread Cert.MixTailRefIdeal.nD Cert.MixTailRefIdeal.τ).loc Cert.MixTailRefIdeal.main_arg0)) (m ((c.tc : Thread Cert.MixTailRefIdeal.nD Cert.MixTailRefIdeal.τ).loc Cert.MixTailRefIdeal.main_arg1)) (m ((c.tc : Thread Cert.MixTailRefIdeal.nD Cert.MixTailRefIdeal.τ).loc Cert.MixTailRefIdeal.main_arg2)) (m ((c.tc : Thread Cert.MixTailRefIdeal.nD Cert.MixTailRefIdeal.τ).loc Cert.MixTailRefIdeal.main_arg3)) (m ((c.tc : Thread Cert.MixTailRefIdeal.nD Cert.MixTailRefIdeal.τ).loc Cert.MixTailRefIdeal.main_arg4)) (m ((c.tc : Thread Cert.MixTailRefIdeal.nD Cert.MixTailRefIdeal.τ).loc Cert.MixTailRefIdeal.main_arg5)) (m ((c.tc : Thread Cert.MixTailRefIdeal.nD Cert.MixTailRefIdeal.τ).loc Cert.MixTailRefIdeal.main_arg6)) (m ((c.tc : Thread Cert.MixTailRefIdeal.nD Cert.MixTailRefIdeal.τ).loc Cert.MixTailRefIdeal.main_arg7)) (m ((c.tc : Thread Cert.MixTailRefIdeal.nD Cert.MixTailRefIdeal.τ).loc Cert.MixTailRefIdeal.main_arg8)) (m ((c.tc : Thread Cert.MixTailRefIdeal.nD Cert.MixTailRefIdeal.τ).loc Cert.MixTailRefIdeal.main_arg9)) (m ((c.tc : Thread Cert.MixTailRefIdeal.nD Cert.MixTailRefIdeal.τ).loc Cert.MixTailRefIdeal.main_arg10)) (m ((c.tc : Thread Cert.MixTailRefIdeal.nD Cert.MixTailRefIdeal.τ).loc Cert.MixTailRefIdeal.main_arg11)) (m ((c.tc : Thread Cert.MixTailRefIdeal.nD Cert.MixTailRefIdeal.τ).loc Cert.MixTailRefIdeal.main_arg12)) (m ((c.tc : Thread Cert.MixTailRefIdeal.nD Cert.MixTailRefIdeal.τ).loc Cert.MixTailRefIdeal.main_arg13))).2.2.1 = (fun _ => 1#1)
    ∧ (Cert.Pre_finite3.fn (F := Ideal) (m ((c.tc : Thread Cert.MixTailRefIdeal.nD Cert.MixTailRefIdeal.τ).loc Cert.MixTailRefIdeal.main_arg0)) (m ((c.tc : Thread Cert.MixTailRefIdeal.nD Cert.MixTailRefIdeal.τ).loc Cert.MixTailRefIdeal.main_arg1)) (m ((c.tc : Thread Cert.MixTailRefIdeal.nD Cert.MixTailRefIdeal.τ).loc Cert.MixTailRefIdeal.main_arg2)) (m ((c.tc : Thread Cert.MixTailRefIdeal.nD Cert.MixTailRefIdeal.τ).loc Cert.MixTailRefIdeal.main_arg3)) (m ((c.tc : Thread Cert.MixTailRefIdeal.nD Cert.MixTailRefIdeal.τ).loc Cert.MixTailRefIdeal.main_arg4)) (m ((c.tc : Thread Cert.MixTailRefIdeal.nD Cert.MixTailRefIdeal.τ).loc Cert.MixTailRefIdeal.main_arg5)) (m ((c.tc : Thread Cert.MixTailRefIdeal.nD Cert.MixTailRefIdeal.τ).loc Cert.MixTailRefIdeal.main_arg6)) (m ((c.tc : Thread Cert.MixTailRefIdeal.nD Cert.MixTailRefIdeal.τ).loc Cert.MixTailRefIdeal.main_arg7)) (m ((c.tc : Thread Cert.MixTailRefIdeal.nD Cert.MixTailRefIdeal.τ).loc Cert.MixTailRefIdeal.main_arg8)) (m ((c.tc : Thread Cert.MixTailRefIdeal.nD Cert.MixTailRefIdeal.τ).loc Cert.MixTailRefIdeal.main_arg9)) (m ((c.tc : Thread Cert.MixTailRefIdeal.nD Cert.MixTailRefIdeal.τ).loc Cert.MixTailRefIdeal.main_arg10)) (m ((c.tc : Thread Cert.MixTailRefIdeal.nD Cert.MixTailRefIdeal.τ).loc Cert.MixTailRefIdeal.main_arg11)) (m ((c.tc : Thread Cert.MixTailRefIdeal.nD Cert.MixTailRefIdeal.τ).loc Cert.MixTailRefIdeal.main_arg12)) (m ((c.tc : Thread Cert.MixTailRefIdeal.nD Cert.MixTailRefIdeal.τ).loc Cert.MixTailRefIdeal.main_arg13))).2.2.2 = (fun _ => 1#1)

def Pre_MixGla (m : (ℓ : Loc Cert.MixGla.nD Cert.MixGla.τ Cert.MixGla.sig) → Buf (Elt Bits) ℓ) : Prop :=
  True

def Pre_MixGlaIdeal (m : (ℓ : Loc Cert.MixGlaIdeal.nD Cert.MixGlaIdeal.τ Cert.MixGlaIdeal.sig) → Buf (Elt Ideal) ℓ) : Prop :=
  True

def Pre_MixGlaRefIdeal (m : (ℓ : Loc Cert.MixGlaRefIdeal.nD Cert.MixGlaRefIdeal.τ Cert.MixGlaRefIdeal.sig) → Buf (Elt Ideal) ℓ) : Prop :=
  True

def quiescent_FfnProj [hFfnProj : Cert.FfnProj.Facts] : Prop :=
  ∀ (m : (ℓ : Loc Cert.FfnProj.nD Cert.FfnProj.τ Cert.FfnProj.sig) → Buf (Elt Bits) ℓ) (g : Dev Cert.FfnProj.nD → PrngReg), Pre_FfnProj m →
    θ_run (Cert.FfnProj.defs (F := Bits)) (onTc (τ := Cert.FfnProj.τ) (Cert.FfnProj.main (F := Bits))) ⟨m, fun _ => 0, g⟩ (fun r => (∀ c : Dev Cert.FfnProj.nD,
      r.2.mem ((c.tc : Thread Cert.FfnProj.nD Cert.FfnProj.τ).loc Cert.FfnProj.main_arg0) = m ((c.tc : Thread Cert.FfnProj.nD Cert.FfnProj.τ).loc Cert.FfnProj.main_arg0)
      ∧ r.2.mem ((c.tc : Thread Cert.FfnProj.nD Cert.FfnProj.τ).loc Cert.FfnProj.main_arg1) = m ((c.tc : Thread Cert.FfnProj.nD Cert.FfnProj.τ).loc Cert.FfnProj.main_arg1)
      ∧ r.2.mem ((c.tc : Thread Cert.FfnProj.nD Cert.FfnProj.τ).loc Cert.FfnProj.main_arg2) = m ((c.tc : Thread Cert.FfnProj.nD Cert.FfnProj.τ).loc Cert.FfnProj.main_arg2)
      ∧ r.2.mem ((c.tc : Thread Cert.FfnProj.nD Cert.FfnProj.τ).loc Cert.FfnProj.main_arg3) = m ((c.tc : Thread Cert.FfnProj.nD Cert.FfnProj.τ).loc Cert.FfnProj.main_arg3)
      ∧ r.2.mem ((c.tc : Thread Cert.FfnProj.nD Cert.FfnProj.τ).loc Cert.FfnProj.main_arg4) = m ((c.tc : Thread Cert.FfnProj.nD Cert.FfnProj.τ).loc Cert.FfnProj.main_arg4)
      ∧ r.2.mem ((c.tc : Thread Cert.FfnProj.nD Cert.FfnProj.τ).loc Cert.FfnProj.main_arg5) = m ((c.tc : Thread Cert.FfnProj.nD Cert.FfnProj.τ).loc Cert.FfnProj.main_arg5)
      ∧ r.2.mem ((c.tc : Thread Cert.FfnProj.nD Cert.FfnProj.τ).loc Cert.FfnProj.main_arg6) = m ((c.tc : Thread Cert.FfnProj.nD Cert.FfnProj.τ).loc Cert.FfnProj.main_arg6))
      ∧ r.2.sem = fun _ => 0)

def quiescent_FfnProjIdeal [hFfnProjIdeal : Cert.FfnProjIdeal.Facts] [hPre_finite2 : Cert.Pre_finite2.Facts] : Prop :=
  ∀ (m : (ℓ : Loc Cert.FfnProjIdeal.nD Cert.FfnProjIdeal.τ Cert.FfnProjIdeal.sig) → Buf (Elt Ideal) ℓ) (g : Dev Cert.FfnProjIdeal.nD → PrngReg), Pre_FfnProjIdeal m →
    θ_run (Cert.FfnProjIdeal.defs (F := Ideal)) (onTc (τ := Cert.FfnProjIdeal.τ) (Cert.FfnProjIdeal.main (F := Ideal))) ⟨m, fun _ => 0, g⟩ (fun r => (∀ c : Dev Cert.FfnProjIdeal.nD,
      r.2.mem ((c.tc : Thread Cert.FfnProjIdeal.nD Cert.FfnProjIdeal.τ).loc Cert.FfnProjIdeal.main_arg0) = m ((c.tc : Thread Cert.FfnProjIdeal.nD Cert.FfnProjIdeal.τ).loc Cert.FfnProjIdeal.main_arg0)
      ∧ r.2.mem ((c.tc : Thread Cert.FfnProjIdeal.nD Cert.FfnProjIdeal.τ).loc Cert.FfnProjIdeal.main_arg1) = m ((c.tc : Thread Cert.FfnProjIdeal.nD Cert.FfnProjIdeal.τ).loc Cert.FfnProjIdeal.main_arg1)
      ∧ r.2.mem ((c.tc : Thread Cert.FfnProjIdeal.nD Cert.FfnProjIdeal.τ).loc Cert.FfnProjIdeal.main_arg2) = m ((c.tc : Thread Cert.FfnProjIdeal.nD Cert.FfnProjIdeal.τ).loc Cert.FfnProjIdeal.main_arg2)
      ∧ r.2.mem ((c.tc : Thread Cert.FfnProjIdeal.nD Cert.FfnProjIdeal.τ).loc Cert.FfnProjIdeal.main_arg3) = m ((c.tc : Thread Cert.FfnProjIdeal.nD Cert.FfnProjIdeal.τ).loc Cert.FfnProjIdeal.main_arg3)
      ∧ r.2.mem ((c.tc : Thread Cert.FfnProjIdeal.nD Cert.FfnProjIdeal.τ).loc Cert.FfnProjIdeal.main_arg4) = m ((c.tc : Thread Cert.FfnProjIdeal.nD Cert.FfnProjIdeal.τ).loc Cert.FfnProjIdeal.main_arg4)
      ∧ r.2.mem ((c.tc : Thread Cert.FfnProjIdeal.nD Cert.FfnProjIdeal.τ).loc Cert.FfnProjIdeal.main_arg5) = m ((c.tc : Thread Cert.FfnProjIdeal.nD Cert.FfnProjIdeal.τ).loc Cert.FfnProjIdeal.main_arg5)
      ∧ r.2.mem ((c.tc : Thread Cert.FfnProjIdeal.nD Cert.FfnProjIdeal.τ).loc Cert.FfnProjIdeal.main_arg6) = m ((c.tc : Thread Cert.FfnProjIdeal.nD Cert.FfnProjIdeal.τ).loc Cert.FfnProjIdeal.main_arg6))
      ∧ r.2.sem = fun _ => 0)

def quiescent_FfnProjIdeal_pre_none [hFfnProjIdeal : Cert.FfnProjIdeal.Facts] : Prop :=
  ∀ (m : (ℓ : Loc Cert.FfnProjIdeal.nD Cert.FfnProjIdeal.τ Cert.FfnProjIdeal.sig) → Buf (Elt Ideal) ℓ) (g : Dev Cert.FfnProjIdeal.nD → PrngReg), Pre_FfnProjIdeal_none m →
    θ_run (Cert.FfnProjIdeal.defs (F := Ideal)) (onTc (τ := Cert.FfnProjIdeal.τ) (Cert.FfnProjIdeal.main (F := Ideal))) ⟨m, fun _ => 0, g⟩ (fun r => (∀ c : Dev Cert.FfnProjIdeal.nD,
      r.2.mem ((c.tc : Thread Cert.FfnProjIdeal.nD Cert.FfnProjIdeal.τ).loc Cert.FfnProjIdeal.main_arg0) = m ((c.tc : Thread Cert.FfnProjIdeal.nD Cert.FfnProjIdeal.τ).loc Cert.FfnProjIdeal.main_arg0)
      ∧ r.2.mem ((c.tc : Thread Cert.FfnProjIdeal.nD Cert.FfnProjIdeal.τ).loc Cert.FfnProjIdeal.main_arg1) = m ((c.tc : Thread Cert.FfnProjIdeal.nD Cert.FfnProjIdeal.τ).loc Cert.FfnProjIdeal.main_arg1)
      ∧ r.2.mem ((c.tc : Thread Cert.FfnProjIdeal.nD Cert.FfnProjIdeal.τ).loc Cert.FfnProjIdeal.main_arg2) = m ((c.tc : Thread Cert.FfnProjIdeal.nD Cert.FfnProjIdeal.τ).loc Cert.FfnProjIdeal.main_arg2)
      ∧ r.2.mem ((c.tc : Thread Cert.FfnProjIdeal.nD Cert.FfnProjIdeal.τ).loc Cert.FfnProjIdeal.main_arg3) = m ((c.tc : Thread Cert.FfnProjIdeal.nD Cert.FfnProjIdeal.τ).loc Cert.FfnProjIdeal.main_arg3)
      ∧ r.2.mem ((c.tc : Thread Cert.FfnProjIdeal.nD Cert.FfnProjIdeal.τ).loc Cert.FfnProjIdeal.main_arg4) = m ((c.tc : Thread Cert.FfnProjIdeal.nD Cert.FfnProjIdeal.τ).loc Cert.FfnProjIdeal.main_arg4)
      ∧ r.2.mem ((c.tc : Thread Cert.FfnProjIdeal.nD Cert.FfnProjIdeal.τ).loc Cert.FfnProjIdeal.main_arg5) = m ((c.tc : Thread Cert.FfnProjIdeal.nD Cert.FfnProjIdeal.τ).loc Cert.FfnProjIdeal.main_arg5)
      ∧ r.2.mem ((c.tc : Thread Cert.FfnProjIdeal.nD Cert.FfnProjIdeal.τ).loc Cert.FfnProjIdeal.main_arg6) = m ((c.tc : Thread Cert.FfnProjIdeal.nD Cert.FfnProjIdeal.τ).loc Cert.FfnProjIdeal.main_arg6))
      ∧ r.2.sem = fun _ => 0)

def quiescent_FfnProjRefIdeal [hFfnProjRefIdeal : Cert.FfnProjRefIdeal.Facts] [hPre_finite2 : Cert.Pre_finite2.Facts] : Prop :=
  ∀ (m : (ℓ : Loc Cert.FfnProjRefIdeal.nD Cert.FfnProjRefIdeal.τ Cert.FfnProjRefIdeal.sig) → Buf (Elt Ideal) ℓ) (g : Dev Cert.FfnProjRefIdeal.nD → PrngReg), Pre_FfnProjRefIdeal m →
    θ_run (Cert.FfnProjRefIdeal.defs (F := Ideal)) (onTc (τ := Cert.FfnProjRefIdeal.τ) (Cert.FfnProjRefIdeal.main (F := Ideal))) ⟨m, fun _ => 0, g⟩ (fun r => (∀ c : Dev Cert.FfnProjRefIdeal.nD,
      r.2.mem ((c.tc : Thread Cert.FfnProjRefIdeal.nD Cert.FfnProjRefIdeal.τ).loc Cert.FfnProjRefIdeal.main_arg0) = m ((c.tc : Thread Cert.FfnProjRefIdeal.nD Cert.FfnProjRefIdeal.τ).loc Cert.FfnProjRefIdeal.main_arg0)
      ∧ r.2.mem ((c.tc : Thread Cert.FfnProjRefIdeal.nD Cert.FfnProjRefIdeal.τ).loc Cert.FfnProjRefIdeal.main_arg1) = m ((c.tc : Thread Cert.FfnProjRefIdeal.nD Cert.FfnProjRefIdeal.τ).loc Cert.FfnProjRefIdeal.main_arg1)
      ∧ r.2.mem ((c.tc : Thread Cert.FfnProjRefIdeal.nD Cert.FfnProjRefIdeal.τ).loc Cert.FfnProjRefIdeal.main_arg2) = m ((c.tc : Thread Cert.FfnProjRefIdeal.nD Cert.FfnProjRefIdeal.τ).loc Cert.FfnProjRefIdeal.main_arg2)
      ∧ r.2.mem ((c.tc : Thread Cert.FfnProjRefIdeal.nD Cert.FfnProjRefIdeal.τ).loc Cert.FfnProjRefIdeal.main_arg3) = m ((c.tc : Thread Cert.FfnProjRefIdeal.nD Cert.FfnProjRefIdeal.τ).loc Cert.FfnProjRefIdeal.main_arg3)
      ∧ r.2.mem ((c.tc : Thread Cert.FfnProjRefIdeal.nD Cert.FfnProjRefIdeal.τ).loc Cert.FfnProjRefIdeal.main_arg4) = m ((c.tc : Thread Cert.FfnProjRefIdeal.nD Cert.FfnProjRefIdeal.τ).loc Cert.FfnProjRefIdeal.main_arg4)
      ∧ r.2.mem ((c.tc : Thread Cert.FfnProjRefIdeal.nD Cert.FfnProjRefIdeal.τ).loc Cert.FfnProjRefIdeal.main_arg5) = m ((c.tc : Thread Cert.FfnProjRefIdeal.nD Cert.FfnProjRefIdeal.τ).loc Cert.FfnProjRefIdeal.main_arg5)
      ∧ r.2.mem ((c.tc : Thread Cert.FfnProjRefIdeal.nD Cert.FfnProjRefIdeal.τ).loc Cert.FfnProjRefIdeal.main_arg6) = m ((c.tc : Thread Cert.FfnProjRefIdeal.nD Cert.FfnProjRefIdeal.τ).loc Cert.FfnProjRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18)
      ∧ r.2.mem ((c.tc : Thread Cert.Mix.nD Cert.Mix.τ).loc Cert.Mix.main_arg19) = m ((c.tc : Thread Cert.Mix.nD Cert.Mix.τ).loc Cert.Mix.main_arg19))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19))
      ∧ r.2.sem = fun _ => 0)

def quiescent_MixTail [hMixTail : Cert.MixTail.Facts] : Prop :=
  ∀ (m : (ℓ : Loc Cert.MixTail.nD Cert.MixTail.τ Cert.MixTail.sig) → Buf (Elt Bits) ℓ) (g : Dev Cert.MixTail.nD → PrngReg), Pre_MixTail m →
    θ_run (Cert.MixTail.defs (F := Bits)) (onTc (τ := Cert.MixTail.τ) (Cert.MixTail.main (F := Bits))) ⟨m, fun _ => 0, g⟩ (fun r => (∀ c : Dev Cert.MixTail.nD,
      r.2.mem ((c.tc : Thread Cert.MixTail.nD Cert.MixTail.τ).loc Cert.MixTail.main_arg0) = m ((c.tc : Thread Cert.MixTail.nD Cert.MixTail.τ).loc Cert.MixTail.main_arg0)
      ∧ r.2.mem ((c.tc : Thread Cert.MixTail.nD Cert.MixTail.τ).loc Cert.MixTail.main_arg1) = m ((c.tc : Thread Cert.MixTail.nD Cert.MixTail.τ).loc Cert.MixTail.main_arg1)
      ∧ r.2.mem ((c.tc : Thread Cert.MixTail.nD Cert.MixTail.τ).loc Cert.MixTail.main_arg2) = m ((c.tc : Thread Cert.MixTail.nD Cert.MixTail.τ).loc Cert.MixTail.main_arg2)
      ∧ r.2.mem ((c.tc : Thread Cert.MixTail.nD Cert.MixTail.τ).loc Cert.MixTail.main_arg3) = m ((c.tc : Thread Cert.MixTail.nD Cert.MixTail.τ).loc Cert.MixTail.main_arg3)
      ∧ r.2.mem ((c.tc : Thread Cert.MixTail.nD Cert.MixTail.τ).loc Cert.MixTail.main_arg4) = m ((c.tc : Thread Cert.MixTail.nD Cert.MixTail.τ).loc Cert.MixTail.main_arg4)
      ∧ r.2.mem ((c.tc : Thread Cert.MixTail.nD Cert.MixTail.τ).loc Cert.MixTail.main_arg5) = m ((c.tc : Thread Cert.MixTail.nD Cert.MixTail.τ).loc Cert.MixTail.main_arg5)
      ∧ r.2.mem ((c.tc : Thread Cert.MixTail.nD Cert.MixTail.τ).loc Cert.MixTail.main_arg6) = m ((c.tc : Thread Cert.MixTail.nD Cert.MixTail.τ).loc Cert.MixTail.main_arg6)
      ∧ r.2.mem ((c.tc : Thread Cert.MixTail.nD Cert.MixTail.τ).loc Cert.MixTail.main_arg7) = m ((c.tc : Thread Cert.MixTail.nD Cert.MixTail.τ).loc Cert.MixTail.main_arg7)
      ∧ r.2.mem ((c.tc : Thread Cert.MixTail.nD Cert.MixTail.τ).loc Cert.MixTail.main_arg8) = m ((c.tc : Thread Cert.MixTail.nD Cert.MixTail.τ).loc Cert.MixTail.main_arg8)
      ∧ r.2.mem ((c.tc : Thread Cert.MixTail.nD Cert.MixTail.τ).loc Cert.MixTail.main_arg9) = m ((c.tc : Thread Cert.MixTail.nD Cert.MixTail.τ).loc Cert.MixTail.main_arg9)
      ∧ r.2.mem ((c.tc : Thread Cert.MixTail.nD Cert.MixTail.τ).loc Cert.MixTail.main_arg10) = m ((c.tc : Thread Cert.MixTail.nD Cert.MixTail.τ).loc Cert.MixTail.main_arg10)
      ∧ r.2.mem ((c.tc : Thread Cert.MixTail.nD Cert.MixTail.τ).loc Cert.MixTail.main_arg11) = m ((c.tc : Thread Cert.MixTail.nD Cert.MixTail.τ).loc Cert.MixTail.main_arg11)
      ∧ r.2.mem ((c.tc : Thread Cert.MixTail.nD Cert.MixTail.τ).loc Cert.MixTail.main_arg12) = m ((c.tc : Thread Cert.MixTail.nD Cert.MixTail.τ).loc Cert.MixTail.main_arg12)
      ∧ r.2.mem ((c.tc : Thread Cert.MixTail.nD Cert.MixTail.τ).loc Cert.MixTail.main_arg13) = m ((c.tc : Thread Cert.MixTail.nD Cert.MixTail.τ).loc Cert.MixTail.main_arg13))
      ∧ r.2.sem = fun _ => 0)

def quiescent_MixTailIdeal [hMixTailIdeal : Cert.MixTailIdeal.Facts] [hPre_finite3 : Cert.Pre_finite3.Facts] : Prop :=
  ∀ (m : (ℓ : Loc Cert.MixTailIdeal.nD Cert.MixTailIdeal.τ Cert.MixTailIdeal.sig) → Buf (Elt Ideal) ℓ) (g : Dev Cert.MixTailIdeal.nD → PrngReg), Pre_MixTailIdeal m →
    θ_run (Cert.MixTailIdeal.defs (F := Ideal)) (onTc (τ := Cert.MixTailIdeal.τ) (Cert.MixTailIdeal.main (F := Ideal))) ⟨m, fun _ => 0, g⟩ (fun r => (∀ c : Dev Cert.MixTailIdeal.nD,
      r.2.mem ((c.tc : Thread Cert.MixTailIdeal.nD Cert.MixTailIdeal.τ).loc Cert.MixTailIdeal.main_arg0) = m ((c.tc : Thread Cert.MixTailIdeal.nD Cert.MixTailIdeal.τ).loc Cert.MixTailIdeal.main_arg0)
      ∧ r.2.mem ((c.tc : Thread Cert.MixTailIdeal.nD Cert.MixTailIdeal.τ).loc Cert.MixTailIdeal.main_arg1) = m ((c.tc : Thread Cert.MixTailIdeal.nD Cert.MixTailIdeal.τ).loc Cert.MixTailIdeal.main_arg1)
      ∧ r.2.mem ((c.tc : Thread Cert.MixTailIdeal.nD Cert.MixTailIdeal.τ).loc Cert.MixTailIdeal.main_arg2) = m ((c.tc : Thread Cert.MixTailIdeal.nD Cert.MixTailIdeal.τ).loc Cert.MixTailIdeal.main_arg2)
      ∧ r.2.mem ((c.tc : Thread Cert.MixTailIdeal.nD Cert.MixTailIdeal.τ).loc Cert.MixTailIdeal.main_arg3) = m ((c.tc : Thread Cert.MixTailIdeal.nD Cert.MixTailIdeal.τ).loc Cert.MixTailIdeal.main_arg3)
      ∧ r.2.mem ((c.tc : Thread Cert.MixTailIdeal.nD Cert.MixTailIdeal.τ).loc Cert.MixTailIdeal.main_arg4) = m ((c.tc : Thread Cert.MixTailIdeal.nD Cert.MixTailIdeal.τ).loc Cert.MixTailIdeal.main_arg4)
      ∧ r.2.mem ((c.tc : Thread Cert.MixTailIdeal.nD Cert.MixTailIdeal.τ).loc Cert.MixTailIdeal.main_arg5) = m ((c.tc : Thread Cert.MixTailIdeal.nD Cert.MixTailIdeal.τ).loc Cert.MixTailIdeal.main_arg5)
      ∧ r.2.mem ((c.tc : Thread Cert.MixTailIdeal.nD Cert.MixTailIdeal.τ).loc Cert.MixTailIdeal.main_arg6) = m ((c.tc : Thread Cert.MixTailIdeal.nD Cert.MixTailIdeal.τ).loc Cert.MixTailIdeal.main_arg6)
      ∧ r.2.mem ((c.tc : Thread Cert.MixTailIdeal.nD Cert.MixTailIdeal.τ).loc Cert.MixTailIdeal.main_arg7) = m ((c.tc : Thread Cert.MixTailIdeal.nD Cert.MixTailIdeal.τ).loc Cert.MixTailIdeal.main_arg7)
      ∧ r.2.mem ((c.tc : Thread Cert.MixTailIdeal.nD Cert.MixTailIdeal.τ).loc Cert.MixTailIdeal.main_arg8) = m ((c.tc : Thread Cert.MixTailIdeal.nD Cert.MixTailIdeal.τ).loc Cert.MixTailIdeal.main_arg8)
      ∧ r.2.mem ((c.tc : Thread Cert.MixTailIdeal.nD Cert.MixTailIdeal.τ).loc Cert.MixTailIdeal.main_arg9) = m ((c.tc : Thread Cert.MixTailIdeal.nD Cert.MixTailIdeal.τ).loc Cert.MixTailIdeal.main_arg9)
      ∧ r.2.mem ((c.tc : Thread Cert.MixTailIdeal.nD Cert.MixTailIdeal.τ).loc Cert.MixTailIdeal.main_arg10) = m ((c.tc : Thread Cert.MixTailIdeal.nD Cert.MixTailIdeal.τ).loc Cert.MixTailIdeal.main_arg10)
      ∧ r.2.mem ((c.tc : Thread Cert.MixTailIdeal.nD Cert.MixTailIdeal.τ).loc Cert.MixTailIdeal.main_arg11) = m ((c.tc : Thread Cert.MixTailIdeal.nD Cert.MixTailIdeal.τ).loc Cert.MixTailIdeal.main_arg11)
      ∧ r.2.mem ((c.tc : Thread Cert.MixTailIdeal.nD Cert.MixTailIdeal.τ).loc Cert.MixTailIdeal.main_arg12) = m ((c.tc : Thread Cert.MixTailIdeal.nD Cert.MixTailIdeal.τ).loc Cert.MixTailIdeal.main_arg12)
      ∧ r.2.mem ((c.tc : Thread Cert.MixTailIdeal.nD Cert.MixTailIdeal.τ).loc Cert.MixTailIdeal.main_arg13) = m ((c.tc : Thread Cert.MixTailIdeal.nD Cert.MixTailIdeal.τ).loc Cert.MixTailIdeal.main_arg13))
      ∧ r.2.sem = fun _ => 0)

def quiescent_MixTailIdeal_pre_none [hMixTailIdeal : Cert.MixTailIdeal.Facts] : Prop :=
  ∀ (m : (ℓ : Loc Cert.MixTailIdeal.nD Cert.MixTailIdeal.τ Cert.MixTailIdeal.sig) → Buf (Elt Ideal) ℓ) (g : Dev Cert.MixTailIdeal.nD → PrngReg), Pre_MixTailIdeal_none m →
    θ_run (Cert.MixTailIdeal.defs (F := Ideal)) (onTc (τ := Cert.MixTailIdeal.τ) (Cert.MixTailIdeal.main (F := Ideal))) ⟨m, fun _ => 0, g⟩ (fun r => (∀ c : Dev Cert.MixTailIdeal.nD,
      r.2.mem ((c.tc : Thread Cert.MixTailIdeal.nD Cert.MixTailIdeal.τ).loc Cert.MixTailIdeal.main_arg0) = m ((c.tc : Thread Cert.MixTailIdeal.nD Cert.MixTailIdeal.τ).loc Cert.MixTailIdeal.main_arg0)
      ∧ r.2.mem ((c.tc : Thread Cert.MixTailIdeal.nD Cert.MixTailIdeal.τ).loc Cert.MixTailIdeal.main_arg1) = m ((c.tc : Thread Cert.MixTailIdeal.nD Cert.MixTailIdeal.τ).loc Cert.MixTailIdeal.main_arg1)
      ∧ r.2.mem ((c.tc : Thread Cert.MixTailIdeal.nD Cert.MixTailIdeal.τ).loc Cert.MixTailIdeal.main_arg2) = m ((c.tc : Thread Cert.MixTailIdeal.nD Cert.MixTailIdeal.τ).loc Cert.MixTailIdeal.main_arg2)
      ∧ r.2.mem ((c.tc : Thread Cert.MixTailIdeal.nD Cert.MixTailIdeal.τ).loc Cert.MixTailIdeal.main_arg3) = m ((c.tc : Thread Cert.MixTailIdeal.nD Cert.MixTailIdeal.τ).loc Cert.MixTailIdeal.main_arg3)
      ∧ r.2.mem ((c.tc : Thread Cert.MixTailIdeal.nD Cert.MixTailIdeal.τ).loc Cert.MixTailIdeal.main_arg4) = m ((c.tc : Thread Cert.MixTailIdeal.nD Cert.MixTailIdeal.τ).loc Cert.MixTailIdeal.main_arg4)
      ∧ r.2.mem ((c.tc : Thread Cert.MixTailIdeal.nD Cert.MixTailIdeal.τ).loc Cert.MixTailIdeal.main_arg5) = m ((c.tc : Thread Cert.MixTailIdeal.nD Cert.MixTailIdeal.τ).loc Cert.MixTailIdeal.main_arg5)
      ∧ r.2.mem ((c.tc : Thread Cert.MixTailIdeal.nD Cert.MixTailIdeal.τ).loc Cert.MixTailIdeal.main_arg6) = m ((c.tc : Thread Cert.MixTailIdeal.nD Cert.MixTailIdeal.τ).loc Cert.MixTailIdeal.main_arg6)
      ∧ r.2.mem ((c.tc : Thread Cert.MixTailIdeal.nD Cert.MixTailIdeal.τ).loc Cert.MixTailIdeal.main_arg7) = m ((c.tc : Thread Cert.MixTailIdeal.nD Cert.MixTailIdeal.τ).loc Cert.MixTailIdeal.main_arg7)
      ∧ r.2.mem ((c.tc : Thread Cert.MixTailIdeal.nD Cert.MixTailIdeal.τ).loc Cert.MixTailIdeal.main_arg8) = m ((c.tc : Thread Cert.MixTailIdeal.nD Cert.MixTailIdeal.τ).loc Cert.MixTailIdeal.main_arg8)
      ∧ r.2.mem ((c.tc : Thread Cert.MixTailIdeal.nD Cert.MixTailIdeal.τ).loc Cert.MixTailIdeal.main_arg9) = m ((c.tc : Thread Cert.MixTailIdeal.nD Cert.MixTailIdeal.τ).loc Cert.MixTailIdeal.main_arg9)
      ∧ r.2.mem ((c.tc : Thread Cert.MixTailIdeal.nD Cert.MixTailIdeal.τ).loc Cert.MixTailIdeal.main_arg10) = m ((c.tc : Thread Cert.MixTailIdeal.nD Cert.MixTailIdeal.τ).loc Cert.MixTailIdeal.main_arg10)
      ∧ r.2.mem ((c.tc : Thread Cert.MixTailIdeal.nD Cert.MixTailIdeal.τ).loc Cert.MixTailIdeal.main_arg11) = m ((c.tc : Thread Cert.MixTailIdeal.nD Cert.MixTailIdeal.τ).loc Cert.MixTailIdeal.main_arg11)
      ∧ r.2.mem ((c.tc : Thread Cert.MixTailIdeal.nD Cert.MixTailIdeal.τ).loc Cert.MixTailIdeal.main_arg12) = m ((c.tc : Thread Cert.MixTailIdeal.nD Cert.MixTailIdeal.τ).loc Cert.MixTailIdeal.main_arg12)
      ∧ r.2.mem ((c.tc : Thread Cert.MixTailIdeal.nD Cert.MixTailIdeal.τ).loc Cert.MixTailIdeal.main_arg13) = m ((c.tc : Thread Cert.MixTailIdeal.nD Cert.MixTailIdeal.τ).loc Cert.MixTailIdeal.main_arg13))
      ∧ r.2.sem = fun _ => 0)

def quiescent_MixTailRefIdeal [hMixTailRefIdeal : Cert.MixTailRefIdeal.Facts] [hPre_finite3 : Cert.Pre_finite3.Facts] : Prop :=
  ∀ (m : (ℓ : Loc Cert.MixTailRefIdeal.nD Cert.MixTailRefIdeal.τ Cert.MixTailRefIdeal.sig) → Buf (Elt Ideal) ℓ) (g : Dev Cert.MixTailRefIdeal.nD → PrngReg), Pre_MixTailRefIdeal m →
    θ_run (Cert.MixTailRefIdeal.defs (F := Ideal)) (onTc (τ := Cert.MixTailRefIdeal.τ) (Cert.MixTailRefIdeal.main (F := Ideal))) ⟨m, fun _ => 0, g⟩ (fun r => (∀ c : Dev Cert.MixTailRefIdeal.nD,
      r.2.mem ((c.tc : Thread Cert.MixTailRefIdeal.nD Cert.MixTailRefIdeal.τ).loc Cert.MixTailRefIdeal.main_arg0) = m ((c.tc : Thread Cert.MixTailRefIdeal.nD Cert.MixTailRefIdeal.τ).loc Cert.MixTailRefIdeal.main_arg0)
      ∧ r.2.mem ((c.tc : Thread Cert.MixTailRefIdeal.nD Cert.MixTailRefIdeal.τ).loc Cert.MixTailRefIdeal.main_arg1) = m ((c.tc : Thread Cert.MixTailRefIdeal.nD Cert.MixTailRefIdeal.τ).loc Cert.MixTailRefIdeal.main_arg1)
      ∧ r.2.mem ((c.tc : Thread Cert.MixTailRefIdeal.nD Cert.MixTailRefIdeal.τ).loc Cert.MixTailRefIdeal.main_arg2) = m ((c.tc : Thread Cert.MixTailRefIdeal.nD Cert.MixTailRefIdeal.τ).loc Cert.MixTailRefIdeal.main_arg2)
      ∧ r.2.mem ((c.tc : Thread Cert.MixTailRefIdeal.nD Cert.MixTailRefIdeal.τ).loc Cert.MixTailRefIdeal.main_arg3) = m ((c.tc : Thread Cert.MixTailRefIdeal.nD Cert.MixTailRefIdeal.τ).loc Cert.MixTailRefIdeal.main_arg3)
      ∧ r.2.mem ((c.tc : Thread Cert.MixTailRefIdeal.nD Cert.MixTailRefIdeal.τ).loc Cert.MixTailRefIdeal.main_arg4) = m ((c.tc : Thread Cert.MixTailRefIdeal.nD Cert.MixTailRefIdeal.τ).loc Cert.MixTailRefIdeal.main_arg4)
      ∧ r.2.mem ((c.tc : Thread Cert.MixTailRefIdeal.nD Cert.MixTailRefIdeal.τ).loc Cert.MixTailRefIdeal.main_arg5) = m ((c.tc : Thread Cert.MixTailRefIdeal.nD Cert.MixTailRefIdeal.τ).loc Cert.MixTailRefIdeal.main_arg5)
      ∧ r.2.mem ((c.tc : Thread Cert.MixTailRefIdeal.nD Cert.MixTailRefIdeal.τ).loc Cert.MixTailRefIdeal.main_arg6) = m ((c.tc : Thread Cert.MixTailRefIdeal.nD Cert.MixTailRefIdeal.τ).loc Cert.MixTailRefIdeal.main_arg6)
      ∧ r.2.mem ((c.tc : Thread Cert.MixTailRefIdeal.nD Cert.MixTailRefIdeal.τ).loc Cert.MixTailRefIdeal.main_arg7) = m ((c.tc : Thread Cert.MixTailRefIdeal.nD Cert.MixTailRefIdeal.τ).loc Cert.MixTailRefIdeal.main_arg7)
      ∧ r.2.mem ((c.tc : Thread Cert.MixTailRefIdeal.nD Cert.MixTailRefIdeal.τ).loc Cert.MixTailRefIdeal.main_arg8) = m ((c.tc : Thread Cert.MixTailRefIdeal.nD Cert.MixTailRefIdeal.τ).loc Cert.MixTailRefIdeal.main_arg8)
      ∧ r.2.mem ((c.tc : Thread Cert.MixTailRefIdeal.nD Cert.MixTailRefIdeal.τ).loc Cert.MixTailRefIdeal.main_arg9) = m ((c.tc : Thread Cert.MixTailRefIdeal.nD Cert.MixTailRefIdeal.τ).loc Cert.MixTailRefIdeal.main_arg9)
      ∧ r.2.mem ((c.tc : Thread Cert.MixTailRefIdeal.nD Cert.MixTailRefIdeal.τ).loc Cert.MixTailRefIdeal.main_arg10) = m ((c.tc : Thread Cert.MixTailRefIdeal.nD Cert.MixTailRefIdeal.τ).loc Cert.MixTailRefIdeal.main_arg10)
      ∧ r.2.mem ((c.tc : Thread Cert.MixTailRefIdeal.nD Cert.MixTailRefIdeal.τ).loc Cert.MixTailRefIdeal.main_arg11) = m ((c.tc : Thread Cert.MixTailRefIdeal.nD Cert.MixTailRefIdeal.τ).loc Cert.MixTailRefIdeal.main_arg11)
      ∧ r.2.mem ((c.tc : Thread Cert.MixTailRefIdeal.nD Cert.MixTailRefIdeal.τ).loc Cert.MixTailRefIdeal.main_arg12) = m ((c.tc : Thread Cert.MixTailRefIdeal.nD Cert.MixTailRefIdeal.τ).loc Cert.MixTailRefIdeal.main_arg12)
      ∧ r.2.mem ((c.tc : Thread Cert.MixTailRefIdeal.nD Cert.MixTailRefIdeal.τ).loc Cert.MixTailRefIdeal.main_arg13) = m ((c.tc : Thread Cert.MixTailRefIdeal.nD Cert.MixTailRefIdeal.τ).loc Cert.MixTailRefIdeal.main_arg13))
      ∧ r.2.sem = fun _ => 0)

def quiescent_MixGla [hMixGla : Cert.MixGla.Facts] : Prop :=
  ∀ (m : (ℓ : Loc Cert.MixGla.nD Cert.MixGla.τ Cert.MixGla.sig) → Buf (Elt Bits) ℓ) (g : Dev Cert.MixGla.nD → PrngReg), Pre_MixGla m →
    θ_run (Cert.MixGla.defs (F := Bits)) (onTc (τ := Cert.MixGla.τ) (Cert.MixGla.main (F := Bits))) ⟨m, fun _ => 0, g⟩ (fun r => (∀ c : Dev Cert.MixGla.nD,
      r.2.mem ((c.tc : Thread Cert.MixGla.nD Cert.MixGla.τ).loc Cert.MixGla.main_arg0) = m ((c.tc : Thread Cert.MixGla.nD Cert.MixGla.τ).loc Cert.MixGla.main_arg0)
      ∧ r.2.mem ((c.tc : Thread Cert.MixGla.nD Cert.MixGla.τ).loc Cert.MixGla.main_arg1) = m ((c.tc : Thread Cert.MixGla.nD Cert.MixGla.τ).loc Cert.MixGla.main_arg1)
      ∧ r.2.mem ((c.tc : Thread Cert.MixGla.nD Cert.MixGla.τ).loc Cert.MixGla.main_arg2) = m ((c.tc : Thread Cert.MixGla.nD Cert.MixGla.τ).loc Cert.MixGla.main_arg2))
      ∧ r.2.sem = fun _ => 0)

def quiescent_MixGlaIdeal [hMixGlaIdeal : Cert.MixGlaIdeal.Facts] : Prop :=
  ∀ (m : (ℓ : Loc Cert.MixGlaIdeal.nD Cert.MixGlaIdeal.τ Cert.MixGlaIdeal.sig) → Buf (Elt Ideal) ℓ) (g : Dev Cert.MixGlaIdeal.nD → PrngReg), Pre_MixGlaIdeal m →
    θ_run (Cert.MixGlaIdeal.defs (F := Ideal)) (onTc (τ := Cert.MixGlaIdeal.τ) (Cert.MixGlaIdeal.main (F := Ideal))) ⟨m, fun _ => 0, g⟩ (fun r => (∀ c : Dev Cert.MixGlaIdeal.nD,
      r.2.mem ((c.tc : Thread Cert.MixGlaIdeal.nD Cert.MixGlaIdeal.τ).loc Cert.MixGlaIdeal.main_arg0) = m ((c.tc : Thread Cert.MixGlaIdeal.nD Cert.MixGlaIdeal.τ).loc Cert.MixGlaIdeal.main_arg0)
      ∧ r.2.mem ((c.tc : Thread Cert.MixGlaIdeal.nD Cert.MixGlaIdeal.τ).loc Cert.MixGlaIdeal.main_arg1) = m ((c.tc : Thread Cert.MixGlaIdeal.nD Cert.MixGlaIdeal.τ).loc Cert.MixGlaIdeal.main_arg1)
      ∧ r.2.mem ((c.tc : Thread Cert.MixGlaIdeal.nD Cert.MixGlaIdeal.τ).loc Cert.MixGlaIdeal.main_arg2) = m ((c.tc : Thread Cert.MixGlaIdeal.nD Cert.MixGlaIdeal.τ).loc Cert.MixGlaIdeal.main_arg2))
      ∧ r.2.sem = fun _ => 0)

def quiescent_MixGlaRefIdeal [hMixGlaRefIdeal : Cert.MixGlaRefIdeal.Facts] : Prop :=
  ∀ (m : (ℓ : Loc Cert.MixGlaRefIdeal.nD Cert.MixGlaRefIdeal.τ Cert.MixGlaRefIdeal.sig) → Buf (Elt Ideal) ℓ) (g : Dev Cert.MixGlaRefIdeal.nD → PrngReg), Pre_MixGlaRefIdeal m →
    θ_run (Cert.MixGlaRefIdeal.defs (F := Ideal)) (onTc (τ := Cert.MixGlaRefIdeal.τ) (Cert.MixGlaRefIdeal.main (F := Ideal))) ⟨m, fun _ => 0, g⟩ (fun r => (∀ c : Dev Cert.MixGlaRefIdeal.nD,
      r.2.mem ((c.tc : Thread Cert.MixGlaRefIdeal.nD Cert.MixGlaRefIdeal.τ).loc Cert.MixGlaRefIdeal.main_arg0) = m ((c.tc : Thread Cert.MixGlaRefIdeal.nD Cert.MixGlaRefIdeal.τ).loc Cert.MixGlaRefIdeal.main_arg0)
      ∧ r.2.mem ((c.tc : Thread Cert.MixGlaRefIdeal.nD Cert.MixGlaRefIdeal.τ).loc Cert.MixGlaRefIdeal.main_arg1) = m ((c.tc : Thread Cert.MixGlaRefIdeal.nD Cert.MixGlaRefIdeal.τ).loc Cert.MixGlaRefIdeal.main_arg1)
      ∧ r.2.mem ((c.tc : Thread Cert.MixGlaRefIdeal.nD Cert.MixGlaRefIdeal.τ).loc Cert.MixGlaRefIdeal.main_arg2) = m ((c.tc : Thread Cert.MixGlaRefIdeal.nD Cert.MixGlaRefIdeal.τ).loc Cert.MixGlaRefIdeal.main_arg2))
      ∧ r.2.sem = fun _ => 0)

def preserves_FfnProj_FfnProjIdeal : Prop :=
  IdealRules.named_const.Statement Cert.FfnProjIdeal.κ "half_over_alpha" .f32 0x3ED744FD#32 (((1 / 2) * (Real.sqrt (Real.sqrt 2))⁻¹ : ℝ) : EReal)
  ∧ IdealRules.named_const.Statement Cert.FfnProjIdeal.κ "eps_over_alpha2" .f32 0x36ED4403#32 (((1 / 100000) * (Real.sqrt 2)⁻¹ : ℝ) : EReal)

def algebraic_FfnProjIdeal_FfnProjRefIdeal [hFfnProjIdeal : Cert.FfnProjIdeal.Facts] [hFfnProjRefIdeal : Cert.FfnProjRefIdeal.Facts] [hPre_finite2 : Cert.Pre_finite2.Facts] : Prop :=
  ∀ (m : (ℓ : Loc Cert.FfnProjIdeal.nD Cert.FfnProjIdeal.τ Cert.FfnProjIdeal.sig) → Buf (Elt Ideal) ℓ) (g : Dev Cert.FfnProjIdeal.nD → PrngReg)
    (m' : (ℓ : Loc Cert.FfnProjRefIdeal.nD Cert.FfnProjRefIdeal.τ Cert.FfnProjRefIdeal.sig) → Buf (Elt Ideal) ℓ) (g' : Dev Cert.FfnProjRefIdeal.nD → PrngReg), Pre_FfnProjIdeal m →
    (∀ c : Dev Cert.FfnProjIdeal.nD,
      m' ((c.tc : Thread Cert.FfnProjRefIdeal.nD Cert.FfnProjRefIdeal.τ).loc Cert.FfnProjRefIdeal.main_arg0) = m ((c.tc : Thread Cert.FfnProjIdeal.nD Cert.FfnProjIdeal.τ).loc Cert.FfnProjIdeal.main_arg0)
      ∧ m' ((c.tc : Thread Cert.FfnProjRefIdeal.nD Cert.FfnProjRefIdeal.τ).loc Cert.FfnProjRefIdeal.main_arg1) = m ((c.tc : Thread Cert.FfnProjIdeal.nD Cert.FfnProjIdeal.τ).loc Cert.FfnProjIdeal.main_arg1)
      ∧ m' ((c.tc : Thread Cert.FfnProjRefIdeal.nD Cert.FfnProjRefIdeal.τ).loc Cert.FfnProjRefIdeal.main_arg2) = m ((c.tc : Thread Cert.FfnProjIdeal.nD Cert.FfnProjIdeal.τ).loc Cert.FfnProjIdeal.main_arg2)
      ∧ m' ((c.tc : Thread Cert.FfnProjRefIdeal.nD Cert.FfnProjRefIdeal.τ).loc Cert.FfnProjRefIdeal.main_arg3) = m ((c.tc : Thread Cert.FfnProjIdeal.nD Cert.FfnProjIdeal.τ).loc Cert.FfnProjIdeal.main_arg3)
      ∧ m' ((c.tc : Thread Cert.FfnProjRefIdeal.nD Cert.FfnProjRefIdeal.τ).loc Cert.FfnProjRefIdeal.main_arg4) = m ((c.tc : Thread Cert.FfnProjIdeal.nD Cert.FfnProjIdeal.τ).loc Cert.FfnProjIdeal.main_arg4)
      ∧ m' ((c.tc : Thread Cert.FfnProjRefIdeal.nD Cert.FfnProjRefIdeal.τ).loc Cert.FfnProjRefIdeal.main_arg5) = m ((c.tc : Thread Cert.FfnProjIdeal.nD Cert.FfnProjIdeal.τ).loc Cert.FfnProjIdeal.main_arg5)
      ∧ m' ((c.tc : Thread Cert.FfnProjRefIdeal.nD Cert.FfnProjRefIdeal.τ).loc Cert.FfnProjRefIdeal.main_arg6) = m ((c.tc : Thread Cert.FfnProjIdeal.nD Cert.FfnProjIdeal.τ).loc Cert.FfnProjIdeal.main_arg6)) →
    ∃ (v0 : (c : Dev Cert.FfnProjIdeal.nD) → Buf (Elt Ideal) ((c.tc : Thread Cert.FfnProjIdeal.nD Cert.FfnProjIdeal.τ).loc Cert.FfnProjIdeal.main_v0_0)) (v1 : (c : Dev Cert.FfnProjIdeal.nD) → Buf (Elt Ideal) ((c.tc : Thread Cert.FfnProjIdeal.nD Cert.FfnProjIdeal.τ).loc Cert.FfnProjIdeal.main_v0_1)),
      θ_run (Cert.FfnProjIdeal.defs (F := Ideal)) (onTc (τ := Cert.FfnProjIdeal.τ) (Cert.FfnProjIdeal.main (F := Ideal))) ⟨m, fun _ => 0, g⟩ (fun r => ∀ c : Dev Cert.FfnProjIdeal.nD,
          r.2.mem ((c.tc : Thread Cert.FfnProjIdeal.nD Cert.FfnProjIdeal.τ).loc Cert.FfnProjIdeal.main_v0_0) = v0 c
          ∧ r.2.mem ((c.tc : Thread Cert.FfnProjIdeal.nD Cert.FfnProjIdeal.τ).loc Cert.FfnProjIdeal.main_v0_1) = v1 c
          ∧ r.2.mem ((c.tc : Thread Cert.FfnProjIdeal.nD Cert.FfnProjIdeal.τ).loc Cert.FfnProjIdeal.main_arg0) = m ((c.tc : Thread Cert.FfnProjIdeal.nD Cert.FfnProjIdeal.τ).loc Cert.FfnProjIdeal.main_arg0)
          ∧ r.2.mem ((c.tc : Thread Cert.FfnProjIdeal.nD Cert.FfnProjIdeal.τ).loc Cert.FfnProjIdeal.main_arg1) = m ((c.tc : Thread Cert.FfnProjIdeal.nD Cert.FfnProjIdeal.τ).loc Cert.FfnProjIdeal.main_arg1)
          ∧ r.2.mem ((c.tc : Thread Cert.FfnProjIdeal.nD Cert.FfnProjIdeal.τ).loc Cert.FfnProjIdeal.main_arg2) = m ((c.tc : Thread Cert.FfnProjIdeal.nD Cert.FfnProjIdeal.τ).loc Cert.FfnProjIdeal.main_arg2)
          ∧ r.2.mem ((c.tc : Thread Cert.FfnProjIdeal.nD Cert.FfnProjIdeal.τ).loc Cert.FfnProjIdeal.main_arg3) = m ((c.tc : Thread Cert.FfnProjIdeal.nD Cert.FfnProjIdeal.τ).loc Cert.FfnProjIdeal.main_arg3)
          ∧ r.2.mem ((c.tc : Thread Cert.FfnProjIdeal.nD Cert.FfnProjIdeal.τ).loc Cert.FfnProjIdeal.main_arg4) = m ((c.tc : Thread Cert.FfnProjIdeal.nD Cert.FfnProjIdeal.τ).loc Cert.FfnProjIdeal.main_arg4)
          ∧ r.2.mem ((c.tc : Thread Cert.FfnProjIdeal.nD Cert.FfnProjIdeal.τ).loc Cert.FfnProjIdeal.main_arg5) = m ((c.tc : Thread Cert.FfnProjIdeal.nD Cert.FfnProjIdeal.τ).loc Cert.FfnProjIdeal.main_arg5)
          ∧ r.2.mem ((c.tc : Thread Cert.FfnProjIdeal.nD Cert.FfnProjIdeal.τ).loc Cert.FfnProjIdeal.main_arg6) = m ((c.tc : Thread Cert.FfnProjIdeal.nD Cert.FfnProjIdeal.τ).loc Cert.FfnProjIdeal.main_arg6))
      ∧ θ_run (Cert.FfnProjRefIdeal.defs (F := Ideal)) (onTc (τ := Cert.FfnProjRefIdeal.τ) (Cert.FfnProjRefIdeal.main (F := Ideal))) ⟨m', fun _ => 0, g'⟩ (fun r => ∀ c : Dev Cert.FfnProjRefIdeal.nD,
          r.2.mem ((c.tc : Thread Cert.FfnProjRefIdeal.nD Cert.FfnProjRefIdeal.τ).loc Cert.FfnProjRefIdeal.main_v38) = v0 c
          ∧ r.2.mem ((c.tc : Thread Cert.FfnProjRefIdeal.nD Cert.FfnProjRefIdeal.τ).loc Cert.FfnProjRefIdeal.main_v39) = v1 c
          ∧ r.2.mem ((c.tc : Thread Cert.FfnProjRefIdeal.nD Cert.FfnProjRefIdeal.τ).loc Cert.FfnProjRefIdeal.main_arg0) = m' ((c.tc : Thread Cert.FfnProjRefIdeal.nD Cert.FfnProjRefIdeal.τ).loc Cert.FfnProjRefIdeal.main_arg0)
          ∧ r.2.mem ((c.tc : Thread Cert.FfnProjRefIdeal.nD Cert.FfnProjRefIdeal.τ).loc Cert.FfnProjRefIdeal.main_arg1) = m' ((c.tc : Thread Cert.FfnProjRefIdeal.nD Cert.FfnProjRefIdeal.τ).loc Cert.FfnProjRefIdeal.main_arg1)
          ∧ r.2.mem ((c.tc : Thread Cert.FfnProjRefIdeal.nD Cert.FfnProjRefIdeal.τ).loc Cert.FfnProjRefIdeal.main_arg2) = m' ((c.tc : Thread Cert.FfnProjRefIdeal.nD Cert.FfnProjRefIdeal.τ).loc Cert.FfnProjRefIdeal.main_arg2)
          ∧ r.2.mem ((c.tc : Thread Cert.FfnProjRefIdeal.nD Cert.FfnProjRefIdeal.τ).loc Cert.FfnProjRefIdeal.main_arg3) = m' ((c.tc : Thread Cert.FfnProjRefIdeal.nD Cert.FfnProjRefIdeal.τ).loc Cert.FfnProjRefIdeal.main_arg3)
          ∧ r.2.mem ((c.tc : Thread Cert.FfnProjRefIdeal.nD Cert.FfnProjRefIdeal.τ).loc Cert.FfnProjRefIdeal.main_arg4) = m' ((c.tc : Thread Cert.FfnProjRefIdeal.nD Cert.FfnProjRefIdeal.τ).loc Cert.FfnProjRefIdeal.main_arg4)
          ∧ r.2.mem ((c.tc : Thread Cert.FfnProjRefIdeal.nD Cert.FfnProjRefIdeal.τ).loc Cert.FfnProjRefIdeal.main_arg5) = m' ((c.tc : Thread Cert.FfnProjRefIdeal.nD Cert.FfnProjRefIdeal.τ).loc Cert.FfnProjRefIdeal.main_arg5)
          ∧ r.2.mem ((c.tc : Thread Cert.FfnProjRefIdeal.nD Cert.FfnProjRefIdeal.τ).loc Cert.FfnProjRefIdeal.main_arg6) = m' ((c.tc : Thread Cert.FfnProjRefIdeal.nD Cert.FfnProjRefIdeal.τ).loc Cert.FfnProjRefIdeal.main_arg6))

def preserves_Mix_MixIdeal : Prop :=
  IdealRules.named_const.Statement Cert.MixIdeal.κ "half_over_alpha" .f32 0x3ED744FD#32 (((1 / 2) * (Real.sqrt (Real.sqrt 2))⁻¹ : ℝ) : EReal)
  ∧ IdealRules.named_const.Statement Cert.MixIdeal.κ "eps_over_alpha2" .f32 0x36ED4403#32 (((1 / 100000) * (Real.sqrt 2)⁻¹ : ℝ) : EReal)
  ∧ IdealRules.named_const.Statement Cert.MixIdeal.κ "one_over_alpha" .f32 0x3F5744FD#32 (((Real.sqrt (Real.sqrt 2))⁻¹ : ℝ) : EReal)

def preserves_MixTail_MixTailIdeal : Prop :=
  IdealRules.named_const.Statement Cert.MixTailIdeal.κ "one_over_alpha" .f32 0x3F5744FD#32 (((Real.sqrt (Real.sqrt 2))⁻¹ : ℝ) : EReal)
  ∧ IdealRules.named_const.Statement Cert.MixTailIdeal.κ "eps_over_alpha2" .f32 0x36ED4403#32 (((1 / 100000) * (Real.sqrt 2)⁻¹ : ℝ) : EReal)
  ∧ IdealRules.named_const.Statement Cert.MixTailIdeal.κ "half_over_alpha" .f32 0x3ED744FD#32 (((1 / 2) * (Real.sqrt (Real.sqrt 2))⁻¹ : ℝ) : EReal)

def algebraic_MixTailIdeal_MixTailRefIdeal [hMixTailIdeal : Cert.MixTailIdeal.Facts] [hMixTailRefIdeal : Cert.MixTailRefIdeal.Facts] [hPre_finite3 : Cert.Pre_finite3.Facts] : Prop :=
  ∀ (m : (ℓ : Loc Cert.MixTailIdeal.nD Cert.MixTailIdeal.τ Cert.MixTailIdeal.sig) → Buf (Elt Ideal) ℓ) (g : Dev Cert.MixTailIdeal.nD → PrngReg)
    (m' : (ℓ : Loc Cert.MixTailRefIdeal.nD Cert.MixTailRefIdeal.τ Cert.MixTailRefIdeal.sig) → Buf (Elt Ideal) ℓ) (g' : Dev Cert.MixTailRefIdeal.nD → PrngReg), Pre_MixTailIdeal m →
    (∀ c : Dev Cert.MixTailIdeal.nD,
      m' ((c.tc : Thread Cert.MixTailRefIdeal.nD Cert.MixTailRefIdeal.τ).loc Cert.MixTailRefIdeal.main_arg0) = m ((c.tc : Thread Cert.MixTailIdeal.nD Cert.MixTailIdeal.τ).loc Cert.MixTailIdeal.main_arg0)
      ∧ m' ((c.tc : Thread Cert.MixTailRefIdeal.nD Cert.MixTailRefIdeal.τ).loc Cert.MixTailRefIdeal.main_arg1) = m ((c.tc : Thread Cert.MixTailIdeal.nD Cert.MixTailIdeal.τ).loc Cert.MixTailIdeal.main_arg1)
      ∧ m' ((c.tc : Thread Cert.MixTailRefIdeal.nD Cert.MixTailRefIdeal.τ).loc Cert.MixTailRefIdeal.main_arg2) = m ((c.tc : Thread Cert.MixTailIdeal.nD Cert.MixTailIdeal.τ).loc Cert.MixTailIdeal.main_arg2)
      ∧ m' ((c.tc : Thread Cert.MixTailRefIdeal.nD Cert.MixTailRefIdeal.τ).loc Cert.MixTailRefIdeal.main_arg3) = m ((c.tc : Thread Cert.MixTailIdeal.nD Cert.MixTailIdeal.τ).loc Cert.MixTailIdeal.main_arg3)
      ∧ m' ((c.tc : Thread Cert.MixTailRefIdeal.nD Cert.MixTailRefIdeal.τ).loc Cert.MixTailRefIdeal.main_arg4) = m ((c.tc : Thread Cert.MixTailIdeal.nD Cert.MixTailIdeal.τ).loc Cert.MixTailIdeal.main_arg4)
      ∧ m' ((c.tc : Thread Cert.MixTailRefIdeal.nD Cert.MixTailRefIdeal.τ).loc Cert.MixTailRefIdeal.main_arg5) = m ((c.tc : Thread Cert.MixTailIdeal.nD Cert.MixTailIdeal.τ).loc Cert.MixTailIdeal.main_arg5)
      ∧ m' ((c.tc : Thread Cert.MixTailRefIdeal.nD Cert.MixTailRefIdeal.τ).loc Cert.MixTailRefIdeal.main_arg6) = m ((c.tc : Thread Cert.MixTailIdeal.nD Cert.MixTailIdeal.τ).loc Cert.MixTailIdeal.main_arg6)
      ∧ m' ((c.tc : Thread Cert.MixTailRefIdeal.nD Cert.MixTailRefIdeal.τ).loc Cert.MixTailRefIdeal.main_arg7) = m ((c.tc : Thread Cert.MixTailIdeal.nD Cert.MixTailIdeal.τ).loc Cert.MixTailIdeal.main_arg7)
      ∧ m' ((c.tc : Thread Cert.MixTailRefIdeal.nD Cert.MixTailRefIdeal.τ).loc Cert.MixTailRefIdeal.main_arg8) = m ((c.tc : Thread Cert.MixTailIdeal.nD Cert.MixTailIdeal.τ).loc Cert.MixTailIdeal.main_arg8)
      ∧ m' ((c.tc : Thread Cert.MixTailRefIdeal.nD Cert.MixTailRefIdeal.τ).loc Cert.MixTailRefIdeal.main_arg9) = m ((c.tc : Thread Cert.MixTailIdeal.nD Cert.MixTailIdeal.τ).loc Cert.MixTailIdeal.main_arg9)
      ∧ m' ((c.tc : Thread Cert.MixTailRefIdeal.nD Cert.MixTailRefIdeal.τ).loc Cert.MixTailRefIdeal.main_arg10) = m ((c.tc : Thread Cert.MixTailIdeal.nD Cert.MixTailIdeal.τ).loc Cert.MixTailIdeal.main_arg10)
      ∧ m' ((c.tc : Thread Cert.MixTailRefIdeal.nD Cert.MixTailRefIdeal.τ).loc Cert.MixTailRefIdeal.main_arg11) = m ((c.tc : Thread Cert.MixTailIdeal.nD Cert.MixTailIdeal.τ).loc Cert.MixTailIdeal.main_arg11)
      ∧ m' ((c.tc : Thread Cert.MixTailRefIdeal.nD Cert.MixTailRefIdeal.τ).loc Cert.MixTailRefIdeal.main_arg12) = m ((c.tc : Thread Cert.MixTailIdeal.nD Cert.MixTailIdeal.τ).loc Cert.MixTailIdeal.main_arg12)
      ∧ m' ((c.tc : Thread Cert.MixTailRefIdeal.nD Cert.MixTailRefIdeal.τ).loc Cert.MixTailRefIdeal.main_arg13) = m ((c.tc : Thread Cert.MixTailIdeal.nD Cert.MixTailIdeal.τ).loc Cert.MixTailIdeal.main_arg13)) →
    ∃ (v0 : (c : Dev Cert.MixTailIdeal.nD) → Buf (Elt Ideal) ((c.tc : Thread Cert.MixTailIdeal.nD Cert.MixTailIdeal.τ).loc Cert.MixTailIdeal.main_v0)),
      θ_run (Cert.MixTailIdeal.defs (F := Ideal)) (onTc (τ := Cert.MixTailIdeal.τ) (Cert.MixTailIdeal.main (F := Ideal))) ⟨m, fun _ => 0, g⟩ (fun r => ∀ c : Dev Cert.MixTailIdeal.nD,
          r.2.mem ((c.tc : Thread Cert.MixTailIdeal.nD Cert.MixTailIdeal.τ).loc Cert.MixTailIdeal.main_v0) = v0 c
          ∧ r.2.mem ((c.tc : Thread Cert.MixTailIdeal.nD Cert.MixTailIdeal.τ).loc Cert.MixTailIdeal.main_arg0) = m ((c.tc : Thread Cert.MixTailIdeal.nD Cert.MixTailIdeal.τ).loc Cert.MixTailIdeal.main_arg0)
          ∧ r.2.mem ((c.tc : Thread Cert.MixTailIdeal.nD Cert.MixTailIdeal.τ).loc Cert.MixTailIdeal.main_arg1) = m ((c.tc : Thread Cert.MixTailIdeal.nD Cert.MixTailIdeal.τ).loc Cert.MixTailIdeal.main_arg1)
          ∧ r.2.mem ((c.tc : Thread Cert.MixTailIdeal.nD Cert.MixTailIdeal.τ).loc Cert.MixTailIdeal.main_arg2) = m ((c.tc : Thread Cert.MixTailIdeal.nD Cert.MixTailIdeal.τ).loc Cert.MixTailIdeal.main_arg2)
          ∧ r.2.mem ((c.tc : Thread Cert.MixTailIdeal.nD Cert.MixTailIdeal.τ).loc Cert.MixTailIdeal.main_arg3) = m ((c.tc : Thread Cert.MixTailIdeal.nD Cert.MixTailIdeal.τ).loc Cert.MixTailIdeal.main_arg3)
          ∧ r.2.mem ((c.tc : Thread Cert.MixTailIdeal.nD Cert.MixTailIdeal.τ).loc Cert.MixTailIdeal.main_arg4) = m ((c.tc : Thread Cert.MixTailIdeal.nD Cert.MixTailIdeal.τ).loc Cert.MixTailIdeal.main_arg4)
          ∧ r.2.mem ((c.tc : Thread Cert.MixTailIdeal.nD Cert.MixTailIdeal.τ).loc Cert.MixTailIdeal.main_arg5) = m ((c.tc : Thread Cert.MixTailIdeal.nD Cert.MixTailIdeal.τ).loc Cert.MixTailIdeal.main_arg5)
          ∧ r.2.mem ((c.tc : Thread Cert.MixTailIdeal.nD Cert.MixTailIdeal.τ).loc Cert.MixTailIdeal.main_arg6) = m ((c.tc : Thread Cert.MixTailIdeal.nD Cert.MixTailIdeal.τ).loc Cert.MixTailIdeal.main_arg6)
          ∧ r.2.mem ((c.tc : Thread Cert.MixTailIdeal.nD Cert.MixTailIdeal.τ).loc Cert.MixTailIdeal.main_arg7) = m ((c.tc : Thread Cert.MixTailIdeal.nD Cert.MixTailIdeal.τ).loc Cert.MixTailIdeal.main_arg7)
          ∧ r.2.mem ((c.tc : Thread Cert.MixTailIdeal.nD Cert.MixTailIdeal.τ).loc Cert.MixTailIdeal.main_arg8) = m ((c.tc : Thread Cert.MixTailIdeal.nD Cert.MixTailIdeal.τ).loc Cert.MixTailIdeal.main_arg8)
          ∧ r.2.mem ((c.tc : Thread Cert.MixTailIdeal.nD Cert.MixTailIdeal.τ).loc Cert.MixTailIdeal.main_arg9) = m ((c.tc : Thread Cert.MixTailIdeal.nD Cert.MixTailIdeal.τ).loc Cert.MixTailIdeal.main_arg9)
          ∧ r.2.mem ((c.tc : Thread Cert.MixTailIdeal.nD Cert.MixTailIdeal.τ).loc Cert.MixTailIdeal.main_arg10) = m ((c.tc : Thread Cert.MixTailIdeal.nD Cert.MixTailIdeal.τ).loc Cert.MixTailIdeal.main_arg10)
          ∧ r.2.mem ((c.tc : Thread Cert.MixTailIdeal.nD Cert.MixTailIdeal.τ).loc Cert.MixTailIdeal.main_arg11) = m ((c.tc : Thread Cert.MixTailIdeal.nD Cert.MixTailIdeal.τ).loc Cert.MixTailIdeal.main_arg11)
          ∧ r.2.mem ((c.tc : Thread Cert.MixTailIdeal.nD Cert.MixTailIdeal.τ).loc Cert.MixTailIdeal.main_arg12) = m ((c.tc : Thread Cert.MixTailIdeal.nD Cert.MixTailIdeal.τ).loc Cert.MixTailIdeal.main_arg12)
          ∧ r.2.mem ((c.tc : Thread Cert.MixTailIdeal.nD Cert.MixTailIdeal.τ).loc Cert.MixTailIdeal.main_arg13) = m ((c.tc : Thread Cert.MixTailIdeal.nD Cert.MixTailIdeal.τ).loc Cert.MixTailIdeal.main_arg13))
      ∧ θ_run (Cert.MixTailRefIdeal.defs (F := Ideal)) (onTc (τ := Cert.MixTailRefIdeal.τ) (Cert.MixTailRefIdeal.main (F := Ideal))) ⟨m', fun _ => 0, g'⟩ (fun r => ∀ c : Dev Cert.MixTailRefIdeal.nD,
          r.2.mem ((c.tc : Thread Cert.MixTailRefIdeal.nD Cert.MixTailRefIdeal.τ).loc Cert.MixTailRefIdeal.main_v121) = v0 c
          ∧ r.2.mem ((c.tc : Thread Cert.MixTailRefIdeal.nD Cert.MixTailRefIdeal.τ).loc Cert.MixTailRefIdeal.main_arg0) = m' ((c.tc : Thread Cert.MixTailRefIdeal.nD Cert.MixTailRefIdeal.τ).loc Cert.MixTailRefIdeal.main_arg0)
          ∧ r.2.mem ((c.tc : Thread Cert.MixTailRefIdeal.nD Cert.MixTailRefIdeal.τ).loc Cert.MixTailRefIdeal.main_arg1) = m' ((c.tc : Thread Cert.MixTailRefIdeal.nD Cert.MixTailRefIdeal.τ).loc Cert.MixTailRefIdeal.main_arg1)
          ∧ r.2.mem ((c.tc : Thread Cert.MixTailRefIdeal.nD Cert.MixTailRefIdeal.τ).loc Cert.MixTailRefIdeal.main_arg2) = m' ((c.tc : Thread Cert.MixTailRefIdeal.nD Cert.MixTailRefIdeal.τ).loc Cert.MixTailRefIdeal.main_arg2)
          ∧ r.2.mem ((c.tc : Thread Cert.MixTailRefIdeal.nD Cert.MixTailRefIdeal.τ).loc Cert.MixTailRefIdeal.main_arg3) = m' ((c.tc : Thread Cert.MixTailRefIdeal.nD Cert.MixTailRefIdeal.τ).loc Cert.MixTailRefIdeal.main_arg3)
          ∧ r.2.mem ((c.tc : Thread Cert.MixTailRefIdeal.nD Cert.MixTailRefIdeal.τ).loc Cert.MixTailRefIdeal.main_arg4) = m' ((c.tc : Thread Cert.MixTailRefIdeal.nD Cert.MixTailRefIdeal.τ).loc Cert.MixTailRefIdeal.main_arg4)
          ∧ r.2.mem ((c.tc : Thread Cert.MixTailRefIdeal.nD Cert.MixTailRefIdeal.τ).loc Cert.MixTailRefIdeal.main_arg5) = m' ((c.tc : Thread Cert.MixTailRefIdeal.nD Cert.MixTailRefIdeal.τ).loc Cert.MixTailRefIdeal.main_arg5)
          ∧ r.2.mem ((c.tc : Thread Cert.MixTailRefIdeal.nD Cert.MixTailRefIdeal.τ).loc Cert.MixTailRefIdeal.main_arg6) = m' ((c.tc : Thread Cert.MixTailRefIdeal.nD Cert.MixTailRefIdeal.τ).loc Cert.MixTailRefIdeal.main_arg6)
          ∧ r.2.mem ((c.tc : Thread Cert.MixTailRefIdeal.nD Cert.MixTailRefIdeal.τ).loc Cert.MixTailRefIdeal.main_arg7) = m' ((c.tc : Thread Cert.MixTailRefIdeal.nD Cert.MixTailRefIdeal.τ).loc Cert.MixTailRefIdeal.main_arg7)
          ∧ r.2.mem ((c.tc : Thread Cert.MixTailRefIdeal.nD Cert.MixTailRefIdeal.τ).loc Cert.MixTailRefIdeal.main_arg8) = m' ((c.tc : Thread Cert.MixTailRefIdeal.nD Cert.MixTailRefIdeal.τ).loc Cert.MixTailRefIdeal.main_arg8)
          ∧ r.2.mem ((c.tc : Thread Cert.MixTailRefIdeal.nD Cert.MixTailRefIdeal.τ).loc Cert.MixTailRefIdeal.main_arg9) = m' ((c.tc : Thread Cert.MixTailRefIdeal.nD Cert.MixTailRefIdeal.τ).loc Cert.MixTailRefIdeal.main_arg9)
          ∧ r.2.mem ((c.tc : Thread Cert.MixTailRefIdeal.nD Cert.MixTailRefIdeal.τ).loc Cert.MixTailRefIdeal.main_arg10) = m' ((c.tc : Thread Cert.MixTailRefIdeal.nD Cert.MixTailRefIdeal.τ).loc Cert.MixTailRefIdeal.main_arg10)
          ∧ r.2.mem ((c.tc : Thread Cert.MixTailRefIdeal.nD Cert.MixTailRefIdeal.τ).loc Cert.MixTailRefIdeal.main_arg11) = m' ((c.tc : Thread Cert.MixTailRefIdeal.nD Cert.MixTailRefIdeal.τ).loc Cert.MixTailRefIdeal.main_arg11)
          ∧ r.2.mem ((c.tc : Thread Cert.MixTailRefIdeal.nD Cert.MixTailRefIdeal.τ).loc Cert.MixTailRefIdeal.main_arg12) = m' ((c.tc : Thread Cert.MixTailRefIdeal.nD Cert.MixTailRefIdeal.τ).loc Cert.MixTailRefIdeal.main_arg12)
          ∧ r.2.mem ((c.tc : Thread Cert.MixTailRefIdeal.nD Cert.MixTailRefIdeal.τ).loc Cert.MixTailRefIdeal.main_arg13) = m' ((c.tc : Thread Cert.MixTailRefIdeal.nD Cert.MixTailRefIdeal.τ).loc Cert.MixTailRefIdeal.main_arg13))

def preserves_MixGla_MixGlaIdeal : Prop :=
  True

def algebraic_MixGlaIdeal_MixGlaRefIdeal [hMixGlaIdeal : Cert.MixGlaIdeal.Facts] [hMixGlaRefIdeal : Cert.MixGlaRefIdeal.Facts] : Prop :=
  ∀ (m : (ℓ : Loc Cert.MixGlaIdeal.nD Cert.MixGlaIdeal.τ Cert.MixGlaIdeal.sig) → Buf (Elt Ideal) ℓ) (g : Dev Cert.MixGlaIdeal.nD → PrngReg)
    (m' : (ℓ : Loc Cert.MixGlaRefIdeal.nD Cert.MixGlaRefIdeal.τ Cert.MixGlaRefIdeal.sig) → Buf (Elt Ideal) ℓ) (g' : Dev Cert.MixGlaRefIdeal.nD → PrngReg), Pre_MixGlaIdeal m →
    (∀ c : Dev Cert.MixGlaIdeal.nD,
      m' ((c.tc : Thread Cert.MixGlaRefIdeal.nD Cert.MixGlaRefIdeal.τ).loc Cert.MixGlaRefIdeal.main_arg0) = m ((c.tc : Thread Cert.MixGlaIdeal.nD Cert.MixGlaIdeal.τ).loc Cert.MixGlaIdeal.main_arg0)
      ∧ m' ((c.tc : Thread Cert.MixGlaRefIdeal.nD Cert.MixGlaRefIdeal.τ).loc Cert.MixGlaRefIdeal.main_arg1) = m ((c.tc : Thread Cert.MixGlaIdeal.nD Cert.MixGlaIdeal.τ).loc Cert.MixGlaIdeal.main_arg1)
      ∧ m' ((c.tc : Thread Cert.MixGlaRefIdeal.nD Cert.MixGlaRefIdeal.τ).loc Cert.MixGlaRefIdeal.main_arg2) = m ((c.tc : Thread Cert.MixGlaIdeal.nD Cert.MixGlaIdeal.τ).loc Cert.MixGlaIdeal.main_arg2)) →
    ∃ (v0 : (c : Dev Cert.MixGlaIdeal.nD) → Buf (Elt Ideal) ((c.tc : Thread Cert.MixGlaIdeal.nD Cert.MixGlaIdeal.τ).loc Cert.MixGlaIdeal.main_v0)),
      θ_run (Cert.MixGlaIdeal.defs (F := Ideal)) (onTc (τ := Cert.MixGlaIdeal.τ) (Cert.MixGlaIdeal.main (F := Ideal))) ⟨m, fun _ => 0, g⟩ (fun r => ∀ c : Dev Cert.MixGlaIdeal.nD,
          r.2.mem ((c.tc : Thread Cert.MixGlaIdeal.nD Cert.MixGlaIdeal.τ).loc Cert.MixGlaIdeal.main_v0) = v0 c
          ∧ r.2.mem ((c.tc : Thread Cert.MixGlaIdeal.nD Cert.MixGlaIdeal.τ).loc Cert.MixGlaIdeal.main_arg0) = m ((c.tc : Thread Cert.MixGlaIdeal.nD Cert.MixGlaIdeal.τ).loc Cert.MixGlaIdeal.main_arg0)
          ∧ r.2.mem ((c.tc : Thread Cert.MixGlaIdeal.nD Cert.MixGlaIdeal.τ).loc Cert.MixGlaIdeal.main_arg1) = m ((c.tc : Thread Cert.MixGlaIdeal.nD Cert.MixGlaIdeal.τ).loc Cert.MixGlaIdeal.main_arg1)
          ∧ r.2.mem ((c.tc : Thread Cert.MixGlaIdeal.nD Cert.MixGlaIdeal.τ).loc Cert.MixGlaIdeal.main_arg2) = m ((c.tc : Thread Cert.MixGlaIdeal.nD Cert.MixGlaIdeal.τ).loc Cert.MixGlaIdeal.main_arg2))
      ∧ θ_run (Cert.MixGlaRefIdeal.defs (F := Ideal)) (onTc (τ := Cert.MixGlaRefIdeal.τ) (Cert.MixGlaRefIdeal.main (F := Ideal))) ⟨m', fun _ => 0, g'⟩ (fun r => ∀ c : Dev Cert.MixGlaRefIdeal.nD,
          r.2.mem ((c.tc : Thread Cert.MixGlaRefIdeal.nD Cert.MixGlaRefIdeal.τ).loc Cert.MixGlaRefIdeal.main_v36) = v0 c
          ∧ r.2.mem ((c.tc : Thread Cert.MixGlaRefIdeal.nD Cert.MixGlaRefIdeal.τ).loc Cert.MixGlaRefIdeal.main_arg0) = m' ((c.tc : Thread Cert.MixGlaRefIdeal.nD Cert.MixGlaRefIdeal.τ).loc Cert.MixGlaRefIdeal.main_arg0)
          ∧ r.2.mem ((c.tc : Thread Cert.MixGlaRefIdeal.nD Cert.MixGlaRefIdeal.τ).loc Cert.MixGlaRefIdeal.main_arg1) = m' ((c.tc : Thread Cert.MixGlaRefIdeal.nD Cert.MixGlaRefIdeal.τ).loc Cert.MixGlaRefIdeal.main_arg1)
          ∧ r.2.mem ((c.tc : Thread Cert.MixGlaRefIdeal.nD Cert.MixGlaRefIdeal.τ).loc Cert.MixGlaRefIdeal.main_arg2) = m' ((c.tc : Thread Cert.MixGlaRefIdeal.nD Cert.MixGlaRefIdeal.τ).loc Cert.MixGlaRefIdeal.main_arg2))

def Claim : Prop :=
  ∃ (hFfnProj : Cert.FfnProj.Facts) (hFfnProjIdeal : Cert.FfnProjIdeal.Facts) (hFfnProjRefIdeal : Cert.FfnProjRefIdeal.Facts) (hMix : Cert.Mix.Facts) (hMixIdeal : Cert.MixIdeal.Facts) (hMixTail : Cert.MixTail.Facts) (hMixTailIdeal : Cert.MixTailIdeal.Facts) (hMixTailRefIdeal : Cert.MixTailRefIdeal.Facts) (hMixGla : Cert.MixGla.Facts) (hMixGlaIdeal : Cert.MixGlaIdeal.Facts) (hMixGlaRefIdeal : Cert.MixGlaRefIdeal.Facts) (hPre_finite2 : Cert.Pre_finite2.Facts) (hPre_finite3 : Cert.Pre_finite3.Facts),
    quiescent_FfnProj (hFfnProj := hFfnProj)
    ∧ quiescent_FfnProjIdeal (hFfnProjIdeal := hFfnProjIdeal) (hPre_finite2 := hPre_finite2)
    ∧ quiescent_FfnProjIdeal_pre_none (hFfnProjIdeal := hFfnProjIdeal)
    ∧ quiescent_FfnProjRefIdeal (hFfnProjRefIdeal := hFfnProjRefIdeal) (hPre_finite2 := hPre_finite2)
    ∧ quiescent_Mix (hMix := hMix)
    ∧ quiescent_MixIdeal (hMixIdeal := hMixIdeal)
    ∧ quiescent_MixTail (hMixTail := hMixTail)
    ∧ quiescent_MixTailIdeal (hMixTailIdeal := hMixTailIdeal) (hPre_finite3 := hPre_finite3)
    ∧ quiescent_MixTailIdeal_pre_none (hMixTailIdeal := hMixTailIdeal)
    ∧ quiescent_MixTailRefIdeal (hMixTailRefIdeal := hMixTailRefIdeal) (hPre_finite3 := hPre_finite3)
    ∧ quiescent_MixGla (hMixGla := hMixGla)
    ∧ quiescent_MixGlaIdeal (hMixGlaIdeal := hMixGlaIdeal)
    ∧ quiescent_MixGlaRefIdeal (hMixGlaRefIdeal := hMixGlaRefIdeal)
    ∧ preserves_FfnProj_FfnProjIdeal
    ∧ algebraic_FfnProjIdeal_FfnProjRefIdeal (hFfnProjIdeal := hFfnProjIdeal) (hFfnProjRefIdeal := hFfnProjRefIdeal) (hPre_finite2 := hPre_finite2)
    ∧ preserves_Mix_MixIdeal
    ∧ preserves_MixTail_MixTailIdeal
    ∧ algebraic_MixTailIdeal_MixTailRefIdeal (hMixTailIdeal := hMixTailIdeal) (hMixTailRefIdeal := hMixTailRefIdeal) (hPre_finite3 := hPre_finite3)
    ∧ preserves_MixGla_MixGlaIdeal
    ∧ algebraic_MixGlaIdeal_MixGlaRefIdeal (hMixGlaIdeal := hMixGlaIdeal) (hMixGlaRefIdeal := hMixGlaRefIdeal)
-- ==== Pre_finite2.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S1024x3200 : Shape := ⟨2, ![1024, 3200]⟩
abbrev S_ : Shape := ⟨0, ![]⟩

class Facts : Prop where
  bcast_S_S32768x1024 : S_.BroadcastsInDim S32768x1024 (![] : Fin 0 → Fin S32768x1024.rank)
  bitsLt_bf16_f32 : FTy.bits .bf16 < FTy.bits .f32
  bcast_S_S1024x2816 : S_.BroadcastsInDim S1024x2816 (![] : Fin 0 → Fin S1024x2816.rank)

variable [Facts]

def fn {F : FTy → Type} [FloatOps F] (main_arg0 : FVec F S32768x1024 .f32) (main_arg1 : FVec F S1024x2816 .bf16) (main_arg2 : FVec F S1024x2816 .bf16) (main_arg3 : FVec F S2816x1024 .bf16) (main_arg4 : FVec F S1x1024 .f32) (main_arg5 : FVec F S1x1024 .f32) (main_arg6 : FVec F S1024x3200 .bf16) : IVec S32768x1024 1 × IVec S1024x2816 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024x2816 .f32 := (extf .f32 · bitsLt_bf16_f32) main_arg1
  let main_v4 : FVec F S1024x2816 .f32 := Host.absf main_v3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  (main_v2, main_v6)
-- ==== Pre_finite3.lean ====
abbrev S32768x3200 : Shape := ⟨2, ![32768, 3200]⟩
abbrev S32768x512 : Shape := ⟨2, ![32768, 512]⟩
abbrev S32768x1024 : Shape := ⟨2, ![32768, 1024]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  slices_S32768x3200_S32768x512_0_1024 : S32768x3200.Slices ![0, 1024] S32768x512
  bcast_S_S32768x512 : S_.BroadcastsInDim S32768x512 (![] : Fin 0 → Fin S32768x512.rank)
  bcast_S_S1x1024 : S_.BroadcastsInDim S1x1024 (![] : Fin 0 → Fin S1x1024.rank)
  bitsLt_bf16_f32 : FTy.bits .bf16 < FTy.bits .f32
  bcast_S_S1024x2816 : S_.BroadcastsInDim S1024x2816 (![] : Fin 0 → Fin S1024x2816.rank)

variable [Facts]

def fn {F : FTy → Type} [FloatOps F] (main_arg0 : FVec F S32768x3200 .f32) (main_arg1 : FVec F S32768x512 .f32) (main_arg2 : FVec F S32768x512 .f32) (main_arg3 : FVec F S32768x1024 .f32) (main_arg4 : FVec F S1x512 .f32) (main_arg5 : FVec F S1x512 .f32) (main_arg6 : FVec F S1024x1024 .bf16) (main_arg7 : FVec F S1x1024 .f32) (main_arg8 : FVec F S1x1024 .f32) (main_arg9 : FVec F S1024x2816 .bf16) (main_arg10 : FVec F S1024x2816 .bf16) (main_arg11 : FVec F S2816x1024 .bf16) (main_arg12 : FVec F S1x1024 .f32) (main_arg13 : FVec F S1x1024 .f32) : IVec S32768x512 1 × IVec S1x1024 1 × IVec S1x1024 1 × IVec S1024x2816 1 :=
  let main_v0 : FVec F S32768x512 .f32 := (extractStridedSlice S32768x512 ![0, 1024] · slices_S32768x3200_S32768x512_0_1024) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_v4 : FVec F S1x1024 .f32 := Host.absf main_arg7
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg8
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1024x2816 .f32 := (extf .f32 · bitsLt_bf16_f32) main_arg9
  let main_v11 : FVec F S1024x2816 .f32 := Host.absf main_v10
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  (main_v3, main_v6, main_v9, main_v13)
-- ==== FfnProj.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S1024x3200 : Shape := ⟨2, ![1024, 3200]⟩
abbrev S32768x3200 : Shape := ⟨2, ![32768, 3200]⟩
abbrev S512x1024 : Shape := ⟨2, ![512, 1024]⟩
abbrev S512x3200 : Shape := ⟨2, ![512, 3200]⟩
abbrev S256x1024 : Shape := ⟨2, ![256, 1024]⟩
abbrev S1024x512 : Shape := ⟨2, ![1024, 512]⟩
abbrev S256x512 : Shape := ⟨2, ![256, 512]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩
abbrev S1024x1024 : Shape := ⟨2, ![1024, 1024]⟩
abbrev S1024x128 : Shape := ⟨2, ![1024, 128]⟩
abbrev S256x128 : Shape := ⟨2, ![256, 128]⟩

abbrev nBuf : Space → Nat
  | .hbm => 9
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S1024x3200, .bf16⟩
  | .hbm, ⟨7, _⟩ => ⟨S32768x1024, .f32⟩
  | .hbm, ⟨8, _⟩ => ⟨S32768x3200, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x3200, .bf16⟩
  | .local _ .vmem, ⟨8, _⟩ => ⟨S512x1024, .f32⟩
  | .local _ .vmem, ⟨9, _⟩ => ⟨S512x1024, .f32⟩
  | .local _ .vmem, ⟨10, _⟩ => ⟨S512x3200, .f32⟩
  | .local _ .vmem, ⟨11, _⟩ => ⟨S512x3200, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3200 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnProjIdeal.lean ====
variable {F : FTy → Type} [FloatOps F] [Named F]
def κ : String → Option EReal := fun
  | "eps_over_alpha2" => some (((1 / 100000) * (Real.sqrt 2)⁻¹ : ℝ) : EReal)
  | "half_over_alpha" => some (((1 / 2) * (Real.sqrt (Real.sqrt 2))⁻¹ : ℝ) : EReal)
  | _ => none
-- ==== FfnProjRefIdeal.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S1024x3200 : Shape := ⟨2, ![1024, 3200]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩
abbrev S32768x3200 : Shape := ⟨2, ![32768, 3200]⟩

abbrev nBuf : Space → Nat
  | .hbm => 63
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S1024x3200, .bf16⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024x3200, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S_, .f32⟩
  | .hbm, ⟨20, _⟩ => ⟨S32768x2816, .f32⟩
  | .hbm, ⟨21, _⟩ => ⟨S32768x2816, .f32⟩
  | .hbm, ⟨22, _⟩ => ⟨S_, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x3200, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_cst_2 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Mix.lean ====
abbrev S32768x3200 : Shape := ⟨2, ![32768, 3200]⟩
abbrev S32768x1024 : Shape := ⟨2, ![32768, 1024]⟩
abbrev S1x16x256 : Shape := ⟨3, ![1, 16, 256]⟩
abbrev S1x256 : Shape := ⟨2, ![1, 256]⟩
abbrev S1x512 : Shape := ⟨2, ![1, 512]⟩
abbrev S1x4x512 : Shape := ⟨3, ![1, 4, 512]⟩
abbrev S1x4x128x64 : Shape := ⟨4, ![1, 4, 128, 64]⟩
abbrev S1x4 : Shape := ⟨2, ![1, 4]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S128x256 : Shape := ⟨2, ![128, 256]⟩
abbrev S16x256 : Shape := ⟨2, ![16, 256]⟩
abbrev S1 : Shape := ⟨1, ![1]⟩
abbrev S1x128 : Shape := ⟨2, ![1, 128]⟩
abbrev S4 : Shape := ⟨1, ![4]⟩
abbrev S2 : Shape := ⟨1, ![2]⟩
abbrev S1x2x128x64 : Shape := ⟨4, ![1, 2, 128, 64]⟩
abbrev S2x128x64 : Shape := ⟨3, ![2, 128, 64]⟩
abbrev S2x2 : Shape := ⟨2, ![2, 2]⟩
abbrev S2x128x1x64 : Shape := ⟨4, ![2, 128, 1, 64]⟩
abbrev S2x1x2x1 : Shape := ⟨4, ![2, 1, 2, 1]⟩
abbrev S2x128x2x64 : Shape := ⟨4, ![2, 128, 2, 64]⟩
abbrev S256x128 : Shape := ⟨2, ![256, 128]⟩
abbrev S256x256 : Shape := ⟨2, ![256, 256]⟩
abbrev S1x256x256 : Shape := ⟨3, ![1, 256, 256]⟩
abbrev S2x256x256 : Shape := ⟨3, ![2, 256, 256]⟩
abbrev S4x512 : Shape := ⟨2, ![4, 512]⟩
abbrev S256x3200 : Shape := ⟨2, ![256, 3200]⟩
abbrev S256x1024 : Shape := ⟨2, ![256, 1024]⟩
abbrev S2x256x1024 : Shape := ⟨3, ![2, 256, 1024]⟩
abbrev S8x256 : Shape := ⟨2, ![8, 256]⟩
abbrev S8x128 : Shape := ⟨2, ![8, 128]⟩
abbrev S264x512 : Shape := ⟨2, ![264, 512]⟩
abbrev S256x512 : Shape := ⟨2, ![256, 512]⟩
abbrev S1x256x1024 : Shape := ⟨3, ![1, 256, 1024]⟩
abbrev S8x512 : Shape := ⟨2, ![8, 512]⟩
abbrev S1024x512 : Shape := ⟨2, ![1024, 512]⟩
abbrev S512x1024 : Shape := ⟨2, ![512, 1024]⟩
abbrev S64x256 : Shape := ⟨2, ![64, 256]⟩
abbrev S64x128 : Shape := ⟨2, ![64, 128]⟩
abbrev S64x1 : Shape := ⟨2, ![64, 1]⟩
abbrev S256 : Shape := ⟨1, ![256]⟩
abbrev S128x128 : Shape := ⟨2, ![128, 128]⟩
abbrev S64 : Shape := ⟨1, ![64]⟩
abbrev S8x1 : Shape := ⟨2, ![8, 1]⟩
abbrev S1024x256 : Shape := ⟨2, ![1024, 256]⟩
abbrev S256x1 : Shape := ⟨2, ![256, 1]⟩

abbrev nBuf : Space → Nat
  | .hbm => 111
  | .vmem => 36
  | .smem => 0
  | _ => 0

abbrev bufTy : (tb : Table) → Fin (tcTables nBuf tb) → BufTy
  | .hbm, ⟨0, _⟩ => ⟨S32768x3200, .f32⟩
  | .hbm, ⟨1, _⟩ => ⟨S32768x1024, .f32⟩
  | .hbm, ⟨2, _⟩ => ⟨S1x16x256, .f32⟩
  | .hbm, ⟨3, _⟩ => ⟨S1x256, .f32⟩
  | .hbm, ⟨4, _⟩ => ⟨S1x512, .f32⟩
  | .hbm, ⟨5, _⟩ => ⟨S1x4x512, .f32⟩
  | .hbm, ⟨6, _⟩ => ⟨S1x512, .f32⟩
  | .hbm, ⟨7, _⟩ => ⟨S1x4x128x64, .f32⟩
  | .hbm, ⟨8, _⟩ => ⟨S1x4x128x64, .f32⟩
  | .hbm, ⟨9, _⟩ => ⟨S1x4, .f32⟩
  | .hbm, ⟨10, _⟩ => ⟨S1x4, .f32⟩
  | .hbm, ⟨11, _⟩ => ⟨S1x512, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S128x256, .f32⟩
  | .hbm, ⟨22, _⟩ => ⟨S16x256, .f32⟩
  | .hbm, ⟨23, _⟩ => ⟨S_, .i32⟩
  | .hbm, ⟨24, _⟩ => ⟨S1, .i32⟩
  | .hbm, ⟨25, _⟩ => ⟨S128x256, .f32⟩
  | .hbm, ⟨26, _⟩ => ⟨S_, .f32⟩
  | .hbm, ⟨27, _⟩ => ⟨S1x128, .f32⟩
  | .hbm, ⟨28, _⟩ => ⟨S4, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S4, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x128, .f32⟩
  | .hbm, ⟨42, _⟩ => ⟨S1x2x128x64, .f32⟩
  | .hbm, ⟨43, _⟩ => ⟨S2x128x64, .f32⟩
  | .hbm, ⟨44, _⟩ => ⟨S2x2, .i32⟩
  | .hbm, ⟨45, _⟩ => ⟨S2x2, .i32⟩
  | .hbm, ⟨46, _⟩ => ⟨S_, .i32⟩
  | .hbm, ⟨47, _⟩ => ⟨S2x2, .i32⟩
  | .hbm, ⟨48, _⟩ => ⟨S2x2, .i32⟩
  | .hbm, ⟨49, _⟩ => ⟨S2x2, .i1⟩
  | .hbm, ⟨50, _⟩ => ⟨S2x2, .f32⟩
  | .hbm, ⟨51, _⟩ => ⟨S2x128x1x64, .f32⟩
  | .hbm, ⟨52, _⟩ => ⟨S2x1x2x1, .f32⟩
  | .hbm, ⟨53, _⟩ => ⟨S2x128x2x64, .f32⟩
  | .hbm, ⟨54, _⟩ => ⟨S2x128x2x64, .f32⟩
  | .hbm, ⟨55, _⟩ => ⟨S2x128x2x64, .f32⟩
  | .hbm, ⟨56, _⟩ => ⟨S256x128, .f32⟩
  | .hbm, ⟨57, _⟩ => ⟨S1x2x128x64, .f32⟩
  | .hbm, ⟨58, _⟩ => ⟨S2x128x64, .f32⟩
  | .hbm, ⟨59, _⟩ => ⟨S2x2, .i32⟩
  | .hbm, ⟨60, _⟩ => ⟨S2x2, .i32⟩
  | .hbm, ⟨61, _⟩ => ⟨S_, .i32⟩
  | .hbm, ⟨62, _⟩ => ⟨S2x2, .i32⟩
  | .hbm, ⟨63, _⟩ => ⟨S2x2, .i32⟩
  | .hbm, ⟨64, _⟩ => ⟨S2x2, .i1⟩
  | .hbm, ⟨65, _⟩ => ⟨S2x2, .f32⟩
  | .hbm, ⟨66, _⟩ => ⟨S2x128x1x64, .f32⟩
  | .hbm, ⟨67, _⟩ => ⟨S2x1x2x1, .f32⟩
  | .hbm, ⟨68, _⟩ => ⟨S2x128x2x64, .f32⟩
  | .hbm, ⟨69, _⟩ => ⟨S2x128x2x64, .f32⟩
  | .hbm, ⟨70, _⟩ => ⟨S2x128x2x64, .f32⟩
  | .hbm, ⟨71, _⟩ => ⟨S256x128, .f32⟩
  | .hbm, ⟨72, _⟩ => ⟨S256x256, .f32⟩
  | .hbm, ⟨73, _⟩ => ⟨S1x2x128x64, .f32⟩
  | .hbm, ⟨74, _⟩ => ⟨S2x128x64, .f32⟩
  | .hbm, ⟨75, _⟩ => ⟨S2x2, .i32⟩
  | .hbm, ⟨76, _⟩ => ⟨S2x2, .i32⟩
  | .hbm, ⟨77, _⟩ => ⟨S_, .i32⟩
  | .hbm, ⟨78, _⟩ => ⟨S2x2, .i32⟩
  | .hbm, ⟨79, _⟩ => ⟨S2x2, .i32⟩
  | .hbm, ⟨80, _⟩ => ⟨S2x2, .i1⟩
  | .hbm, ⟨81, _⟩ => ⟨S2x2, .f32⟩
  | .hbm, ⟨82, _⟩ => ⟨S2x128x1x64, .f32⟩
  | .hbm, ⟨83, _⟩ => ⟨S2x1x2x1, .f32⟩
  | .hbm, ⟨84, _⟩ => ⟨S2x128x2x64, .f32⟩
  | .hbm, ⟨85, _⟩ => ⟨S2x128x2x64, .f32⟩
  | .hbm, ⟨86, _⟩ => ⟨S2x128x2x64, .f32⟩
  | .hbm, ⟨87, _⟩ => ⟨S256x128, .f32⟩
  | .hbm, ⟨88, _⟩ => ⟨S1x2x128x64, .f32⟩
  | .hbm, ⟨89, _⟩ => ⟨S2x128x64, .f32⟩
  | .hbm, ⟨90, _⟩ => ⟨S2x2, .i32⟩
  | .hbm, ⟨91, _⟩ => ⟨S2x2, .i32⟩
  | .hbm, ⟨92, _⟩ => ⟨S_, .i32⟩
  | .hbm, ⟨93, _⟩ => ⟨S2x2, .i32⟩
  | .hbm, ⟨94, _⟩ => ⟨S2x2, .i32⟩
  | .hbm, ⟨95, _⟩ => ⟨S2x2, .i1⟩
  | .hbm, ⟨96, _⟩ => ⟨S2x2, .f32⟩
  | .hbm, ⟨97, _⟩ => ⟨S2x128x1x64, .f32⟩
  | .hbm, ⟨98, _⟩ => ⟨S2x1x2x1, .f32⟩
  | .hbm, ⟨99, _⟩ => ⟨S2x128x2x64, .f32⟩
  | .hbm, ⟨100, _⟩ => ⟨S2x128x2x64, .f32⟩
  | .hbm, ⟨101, _⟩ => ⟨S2x128x2x64, .f32⟩
  | .hbm, ⟨102, _⟩ => ⟨S256x128, .f32⟩
  | .hbm, ⟨103, _⟩ => ⟨S256x256, .f32⟩
  | .hbm, ⟨104, _⟩ => ⟨S1x256x256, .f32⟩
  | .hbm, ⟨105, _⟩ => ⟨S1x256x256, .f32⟩
  | .hbm, ⟨106, _⟩ => ⟨S2x256x256, .f32⟩
  | .hbm, ⟨107, _⟩ => ⟨S128x256, .bf16⟩
  | .hbm, ⟨108, _⟩ => ⟨S4x512, .f32⟩
  | .hbm, ⟨109, _⟩ => ⟨S2x256x256, .bf16⟩
  | .hbm, ⟨110, _⟩ => ⟨S32768x1024, .f32⟩
  | .local _ .vmem, ⟨0, _⟩ => ⟨S256x3200, .f32⟩
  | .local _ .vmem, ⟨1, _⟩ => ⟨S256x3200, .f32⟩
  | .local _ .vmem, ⟨2, _⟩ => ⟨S256x1024, .f32⟩
  | .local _ .vmem, ⟨3, _⟩ => ⟨S256x1024, .f32⟩
  | .local _ .vmem, ⟨4, _⟩ => ⟨S128x256, .bf16⟩
  | .local _ .vmem, ⟨5, _⟩ => ⟨S1x256, .f32⟩
  | .local _ .vmem, ⟨6, _⟩ => ⟨S1x512, .f32⟩
  | .local _ .vmem, ⟨7, _⟩ => ⟨S4x512, .f32⟩
  | .local _ .vmem, ⟨8, _⟩ => ⟨S1x512, .f32⟩
  | .local _ .vmem, ⟨9, _⟩ => ⟨S2x256x256, .bf16⟩
  | .local _ .vmem, ⟨10, _⟩ => ⟨S1x128, .f32⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S2x256x1024, .f32⟩
  | .local _ .vmem, ⟨23, _⟩ => ⟨S128x256, .f32⟩
  | .local _ .vmem, ⟨24, _⟩ => ⟨S128x256, .f32⟩
  | .local _ .vmem, ⟨25, _⟩ => ⟨S8x256, .f32⟩
  | .local _ .vmem, ⟨26, _⟩ => ⟨S8x256, .f32⟩
  | .local _ .vmem, ⟨27, _⟩ => ⟨S8x128, .f32⟩
  | .local _ .vmem, ⟨28, _⟩ => ⟨S264x512, .f32⟩
  | .local _ .vmem, ⟨29, _⟩ => ⟨S256x256, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | _, _ => ⟨S32768x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_c_2 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_3 : Ref sig .tc := ⟨.hbm, 36, rfl⟩
abbrev main_v11 : Ref sig .tc := ⟨.hbm, 37, rfl⟩
abbrev main_c_4 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_8 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32_27 : BitVec 32 := 1#32
  let arg0 : BitVec 32 := BitVec.ofNat 32 (i 0).val
  let c2_i32 : BitVec 32 := 2#32
  let v0 : BitVec 32 := Scalar.remsi arg0 c2_i32
  let v70 : BitVec 32 := Scalar.subi c1_i32_27 v0
  let v71 : Index := Scalar.indexCast v70
  let c0_28 : Index := 0#32
  let c0_29 : Index := 0#32
  ![v71.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v2782 : Index := Scalar.indexCast v0
  let c0_992 : Index := 0#32
  let c0_993 : Index := 0#32
  ![v2782.toNat, 0, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixIdeal.lean ====
variable {F : FTy → Type} [FloatOps F] [Named F]
def κ : String → Option EReal := fun
  | "eps_over_alpha2" => some (((1 / 100000) * (Real.sqrt 2)⁻¹ : ℝ) : EReal)
  | "half_over_alpha" => some (((1 / 2) * (Real.sqrt (Real.sqrt 2))⁻¹ : ℝ) : EReal)
  | "one_over_alpha" => some (((Real.sqrt (Real.sqrt 2))⁻¹ : ℝ) : EReal)
  | _ => none
-- ==== MixTail.lean ====
abbrev S32768x3200 : Shape := ⟨2, ![32768, 3200]⟩
abbrev S32768x512 : Shape := ⟨2, ![32768, 512]⟩
abbrev S32768x1024 : Shape := ⟨2, ![32768, 1024]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x3200 : Shape := ⟨2, ![256, 3200]⟩
abbrev S256x512 : Shape := ⟨2, ![256, 512]⟩
abbrev S256x1024 : Shape := ⟨2, ![256, 1024]⟩
abbrev S2x256x1024 : Shape := ⟨3, ![2, 256, 1024]⟩
abbrev S1x256x1024 : Shape := ⟨3, ![1, 256, 1024]⟩
abbrev S1024x512 : Shape := ⟨2, ![1024, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S512x1024 : Shape := ⟨2, ![512, 1024]⟩
abbrev S1024x256 : Shape := ⟨2, ![1024, 256]⟩
abbrev S256x256 : Shape := ⟨2, ![256, 256]⟩

abbrev nBuf : Space → Nat
  | .hbm => 15
  | .vmem => 21
  | .smem => 0
  | _ => 0

abbrev bufTy : (tb : Table) → Fin (tcTables nBuf tb) → BufTy
  | .hbm, ⟨0, _⟩ => ⟨S32768x3200, .f32⟩
  | .hbm, ⟨1, _⟩ => ⟨S32768x512, .f32⟩
  | .hbm, ⟨2, _⟩ => ⟨S32768x512, .f32⟩
  | .hbm, ⟨3, _⟩ => ⟨S32768x1024, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S256x3200, .f32⟩
  | .local _ .vmem, ⟨1, _⟩ => ⟨S256x3200, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S2x256x1024, .f32⟩
  | _, _ => ⟨S32768x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v4 : BitVec 32 := Scalar.subi c1_i32 v0
  let v5 : Index := Scalar.indexCast v4
  let c0 : Index := 0#32
  let c0_1 : Index := 0#32
  ![v5.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v322 : Index := Scalar.indexCast v0
  let c0_158 : Index := 0#32
  let c0_159 : Index := 0#32
  ![v322.toNat, 0, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixTailIdeal.lean ====
variable {F : FTy → Type} [FloatOps F] [Named F]
def κ : String → Option EReal := fun
  | "eps_over_alpha2" => some (((1 / 100000) * (Real.sqrt 2)⁻¹ : ℝ) : EReal)
  | "half_over_alpha" => some (((1 / 2) * (Real.sqrt (Real.sqrt 2))⁻¹ : ℝ) : EReal)
  | "one_over_alpha" => some (((Real.sqrt (Real.sqrt 2))⁻¹ : ℝ) : EReal)
  | _ => none
-- ==== MixTailRefIdeal.lean ====
abbrev S32768x3200 : Shape := ⟨2, ![32768, 3200]⟩
abbrev S32768x512 : Shape := ⟨2, ![32768, 512]⟩
abbrev S32768x1024 : Shape := ⟨2, ![32768, 1024]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S32768x4x128 : Shape := ⟨3, ![32768, 4, 128]⟩
abbrev S512 : Shape := ⟨1, ![512]⟩
abbrev S_ : Shape := ⟨0, ![]⟩
abbrev S32768x4 : Shape := ⟨2, ![32768, 4]⟩
abbrev S32768x4x1 : Shape := ⟨3, ![32768, 4, 1]⟩
abbrev S4x128 : Shape := ⟨2, ![4, 128]⟩
abbrev S1x4x128 : Shape := ⟨3, ![1, 4, 128]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 177
  | .vmem => 0
  | .smem => 0
  | _ => 0

abbrev hbmTy0_0 (i : Nat) : BufTy := match i % 128 with
  | 0 => ⟨S32768x3200, .f32⟩
  | 1 => ⟨S32768x512, .f32⟩
  | 2 => ⟨S32768x512, .f32⟩
  | 3 => ⟨S32768x1024, .f32⟩
  | 4 => ⟨S1x512, .f32⟩
  | 5 => ⟨S1x512, .f32⟩
  | 6 => ⟨S1024x1024, .bf16⟩
  | 7 => ⟨S1x1024, .f32⟩
  | 8 => ⟨S1x1024, .f32⟩
  | 9 => ⟨S1024x2816, .bf16⟩
  | 10 => ⟨S1024x2816, .bf16⟩
  | 11 => ⟨S2816x1024, .bf16⟩
  | 12 => ⟨S1x1024, .f32⟩
  | 13 => ⟨S1x1024, .f32⟩
  | 14 => ⟨S1024x1024, .f32⟩
  | 15 => ⟨S1024x2816, .f32⟩
  | 16 => ⟨S1024x2816, .f32⟩
  | 17 => ⟨S2816x1024, .f32⟩
  | 18 => ⟨S32768x512, .f32⟩
  | 19 => ⟨S32768x512, .f32⟩
  | 20 => ⟨S32768x4x128, .f32⟩
  | 21 => ⟨S512, .f32⟩
  | 22 => ⟨S32768x4x128, .f32⟩
  | 23 => ⟨S_, .f32⟩
  | 24 => ⟨S32768x4, .f32⟩
  | 25 => ⟨S32768x4x1, .f32⟩
  | 26 => ⟨S_, .f32⟩
  | 27 => ⟨S32768x4x1, .f32⟩
  | 28 => ⟨S32768x4x1, .f32⟩
  | 29 => ⟨S_, .f32⟩
  | 30 => ⟨S32768x4x1, .f32⟩
  | 31 => ⟨S32768x4x1, .f32⟩
  | 32 => ⟨S32768x4x1, .f32⟩
  | 33 => ⟨S32768x4x128, .f32⟩
  | 34 => ⟨S32768x4x128, .f32⟩
  | 35 => ⟨S4x128, .f32⟩
  | 36 => ⟨S1x4x128, .f32⟩
  | 37 => ⟨S32768x4x128, .f32⟩
  | 38 => ⟨S32768x4x128, .f32⟩
  | 39 => ⟨S32768x512, .f32⟩
  | 40 => ⟨S32768x512, .f32⟩
  | 41 => ⟨S32768x512, .f32⟩
  | 42 => ⟨S_, .f32⟩
  | 43 => ⟨S32768x512, .f32⟩
  | 44 => ⟨S32768x512, .f32⟩
  | 45 => ⟨S_, .f32⟩
  | 46 => ⟨S32768x512, .f32⟩
  | 47 => ⟨S32768x512, .f32⟩
  | 48 => ⟨S32768x512, .f32⟩
  | 49 => ⟨S32768x512, .f32⟩
  | 50 => ⟨S32768x512, .f32⟩
  | 51 => ⟨S32768x512, .f32⟩
  | 52 => ⟨S_, .f32⟩
  | 53 => ⟨S32768x512, .f32⟩
  | 54 => ⟨S32768x512, .f32⟩
  | 55 => ⟨S_, .f32⟩
  | 56 => ⟨S32768x512, .f32⟩
  | 57 => ⟨S32768x512, .f32⟩
  | 58 => ⟨S32768x4x128, .f32⟩
  | 59 => ⟨S512, .f32⟩
  | 60 => ⟨S_, .f32⟩
  | 61 => ⟨S32768x4, .f32⟩
  | 62 => ⟨S32768x4x1, .f32⟩
  | 63 => ⟨S_, .f32⟩
  | 64 => ⟨S32768x4x1, .f32⟩
  | 65 => ⟨S32768x4x1, .f32⟩
  | 66 => ⟨S32768x4x128, .f32⟩
  | 67 => ⟨S32768x4x128, .f32⟩
  | 68 => ⟨S32768x4x128, .f32⟩
  | 69 => ⟨S_, .f32⟩
  | 70 => ⟨S32768x4, .f32⟩
  | 71 => ⟨S32768x4x1, .f32⟩
  | 72 => ⟨S_, .f32⟩
  | 73 => ⟨S32768x4x1, .f32⟩
  | 74 => ⟨S32768x4x1, .f32⟩
  | 75 => ⟨S32768x4x128, .f32⟩
  | 76 => ⟨S32768x4x128, .f32⟩
  | 77 => ⟨S_, .f32⟩
  | 78 => ⟨S32768x4x1, .f32⟩
  | 79 => ⟨S32768x4x1, .f32⟩
  | 80 => ⟨S32768x4x1, .f32⟩
  | 81 => ⟨S32768x4x128, .f32⟩
  | 82 => ⟨S32768x4x128, .f32⟩
  | 83 => ⟨S4x128, .f32⟩
  | 84 => ⟨S1x4x128, .f32⟩
  | 85 => ⟨S32768x4x128, .f32⟩
  | 86 => ⟨S32768x4x128, .f32⟩
  | 87 => ⟨S32768x512, .f32⟩
  | 88 => ⟨S32768x512, .f32⟩
  | 89 => ⟨S32768x1024, .f32⟩
  | 90 => ⟨S_, .f32⟩
  | 91 => ⟨S_, .f32⟩
  | 92 => ⟨S_, .f32⟩
  | 93 => ⟨S32768x1024, .f32⟩
  | 94 => ⟨S32768x1024, .f32⟩
  | 95 => ⟨S32768x1024, .f32⟩
  | 96 => ⟨S32768x1024, .f32⟩
  | 97 => ⟨S_, .f32⟩
  | 98 => ⟨S_, .f32⟩
  | 99 => ⟨S_, .f32⟩
  | 100 => ⟨S_, .f32⟩
  | 101 => ⟨S32768, .f32⟩
  | 102 => ⟨S32768x1, .f32⟩
  | 103 => ⟨S_, .f32⟩
  | 104 => ⟨S32768x1, .f32⟩
  | 105 => ⟨S32768x1, .f32⟩
  | 106 => ⟨S32768x1024, .f32⟩
  | 107 => ⟨S32768x1024, .f32⟩
  | 108 => ⟨S32768x1024, .f32⟩
  | 109 => ⟨S_, .f32⟩
  | 110 => ⟨S32768, .f32⟩
  | 111 => ⟨S32768x1, .f32⟩
  | 112 => ⟨S_, .f32⟩
  | 113 => ⟨S32768x1, .f32⟩
  | 114 => ⟨S32768x1, .f32⟩
  | 115 => ⟨S32768x1024, .f32⟩
  | 116 => ⟨S32768x1024, .f32⟩
  | 117 => ⟨S32768x1, .f32⟩
  | 118 => ⟨S32768x1, .f32⟩
  | 119 => ⟨S32768x1, .f32⟩
  | 120 => ⟨S32768x1024, .f32⟩
  | 121 => ⟨S32768x1024, .f32⟩
  | 122 => ⟨S32768x1024, .f32⟩
  | 123 => ⟨S32768x1024, .f32⟩
  | 124 => ⟨S32768x1024, .f32⟩
  | 125 => ⟨S32768x1024, .f32⟩
  | 126 => ⟨S_, .f32⟩
  | 127 => ⟨S_, .f32⟩
  | _ => ⟨S32768x3200, .f32⟩

abbrev hbmTy0_1 (i : Nat) : BufTy := match i % 128 with
  | 0 => ⟨S_, .f32⟩
  | 1 => ⟨S32768x1024, .f32⟩
  | 2 => ⟨S32768x1024, .f32⟩
  | 3 => ⟨S32768x2816, .f32⟩
  | 4 => ⟨S32768x2816, .f32⟩
  | 5 => ⟨S32768x2816, .f32⟩
  | 6 => ⟨S_, .f32⟩
  | 7 => ⟨S32768x2816, .f32⟩
  | 8 => ⟨S32768x2816, .f32⟩
  | 9 => ⟨S_, .f32⟩
  | 10 => ⟨S32768x2816, .f32⟩
  | 11 => ⟨S32768x2816, .f32⟩
  | 12 => ⟨S32768x2816, .f32⟩
  | 13 => ⟨S32768x2816, .f32⟩
  | 14 => ⟨S32768x2816, .f32⟩
  | 15 => ⟨S32768x1024, .f32⟩
  | 16 => ⟨S_, .f32⟩
  | 17 => ⟨S32768x1024, .f32⟩
  | 18 => ⟨S32768x1024, .f32⟩
  | 19 => ⟨S32768x1024, .f32⟩
  | 20 => ⟨S_, .f32⟩
  | 21 => ⟨S_, .f32⟩
  | 22 => ⟨S_, .f32⟩
  | 23 => ⟨S_, .f32⟩
  | 24 => ⟨S32768, .f32⟩
  | 25 => ⟨S32768x1, .f32⟩
  | 26 => ⟨S_, .f32⟩
  | 27 => ⟨S32768x1, .f32⟩
  | 28 => ⟨S32768x1, .f32⟩
  | 29 => ⟨S32768x1024, .f32⟩
  | 30 => ⟨S32768x1024, .f32⟩
  | 31 => ⟨S32768x1024, .f32⟩
  | 32 => ⟨S_, .f32⟩
  | 33 => ⟨S32768, .f32⟩
  | 34 => ⟨S32768x1, .f32⟩
  | 35 => ⟨S_, .f32⟩
  | 36 => ⟨S32768x1, .f32⟩
  | 37 => ⟨S32768x1, .f32⟩
  | 38 => ⟨S32768x1024, .f32⟩
  | 39 => ⟨S32768x1024, .f32⟩
  | 40 => ⟨S32768x1, .f32⟩
  | 41 => ⟨S32768x1, .f32⟩
  | 42 => ⟨S32768x1, .f32⟩
  | 43 => ⟨S32768x1024, .f32⟩
  | 44 => ⟨S32768x1024, .f32⟩
  | 45 => ⟨S32768x1024, .f32⟩
  | 46 => ⟨S32768x1024, .f32⟩
  | 47 => ⟨S32768x1024, .f32⟩
  | 48 => ⟨S32768x1024, .f32⟩
  | _ => ⟨S32768x3200, .f32⟩

abbrev hbmTy (i : Nat) : BufTy := match i / 128 with
  | 0 => hbmTy0_0 i
  | 1 => hbmTy0_1 i
  | _ => ⟨S32768x3200, .f32⟩

abbrev bufTy : (tb : Table) → Fin (tcTables nBuf tb) → BufTy
  | .hbm, ⟨i, _⟩ => hbmTy i
  | _, _ => ⟨S32768x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_8 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_cst_11 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_cst_15 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_17 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_18 : Ref sig .tc := ⟨.hbm, 148, rfl⟩
abbrev main_cst_19 : Ref sig .tc := ⟨.hbm, 149, rfl⟩
abbrev main_v99 : Ref sig .tc := ⟨.hbm, 150, rfl⟩
abbrev main_cst_20 : Ref sig .tc := ⟨.hbm, 151, rfl⟩
abbrev main_v100 : Ref sig .tc := ⟨.hbm, 152, rfl⟩
abbrev main_v101 : Ref sig .tc := ⟨.hbm, 153, rfl⟩
abbrev main_cst_21 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_22 : Ref sig .tc := ⟨.hbm, 160, rfl⟩
abbrev main_v107 : Ref sig .tc := ⟨.hbm, 161, rfl⟩
abbrev main_v108 : Ref sig .tc := ⟨.hbm, 162, rfl⟩
abbrev main_cst_23 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩

abbrev nD : Nat := 1
abbrev τ : Topo := Topo.v7x

variable {F : FTy → Type} [FloatOps F]
-- ==== MixGla.lean ====
abbrev S32768x3200 : Shape := ⟨2, ![32768, 3200]⟩
abbrev S128x256 : Shape := ⟨2, ![128, 256]⟩
abbrev S1x256 : Shape := ⟨2, ![1, 256]⟩
abbrev S32768x512 : Shape := ⟨2, ![32768, 512]⟩
abbrev S256x3200 : Shape := ⟨2, ![256, 3200]⟩
abbrev S256x512 : Shape := ⟨2, ![256, 512]⟩
abbrev S256x256 : Shape := ⟨2, ![256, 256]⟩
abbrev S256x128 : Shape := ⟨2, ![256, 128]⟩
abbrev S64x256 : Shape := ⟨2, ![64, 256]⟩
abbrev S64x128 : Shape := ⟨2, ![64, 128]⟩
abbrev S128x128 : Shape := ⟨2, ![128, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S32768x3200, .f32⟩
  | .hbm, ⟨1, _⟩ => ⟨S128x256, .bf16⟩
  | .hbm, ⟨2, _⟩ => ⟨S1x256, .f32⟩
  | .hbm, ⟨3, _⟩ => ⟨S32768x512, .f32⟩
  | .local _ .vmem, ⟨0, _⟩ => ⟨S256x3200, .f32⟩
  | .local _ .vmem, ⟨1, _⟩ => ⟨S256x3200, .f32⟩
  | .local _ .vmem, ⟨2, _⟩ => ⟨S128x256, .bf16⟩
  | .local _ .vmem, ⟨3, _⟩ => ⟨S1x256, .f32⟩
  | .local _ .vmem, ⟨4, _⟩ => ⟨S256x512, .f32⟩
  | .local _ .vmem, ⟨5, _⟩ => ⟨S256x512, .f32⟩
  | .local _ .vmem, ⟨6, _⟩ => ⟨S128x256, .f32⟩
  | .local _ .vmem, ⟨7, _⟩ => ⟨S256x256, .f32⟩
  | _, _ => ⟨S32768x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixGlaRefIdeal.lean ====
abbrev S32768x3200 : Shape := ⟨2, ![32768, 3200]⟩
abbrev S128x256 : Shape := ⟨2, ![128, 256]⟩
abbrev S1x256 : Shape := ⟨2, ![1, 256]⟩
abbrev S8x4096x3200 : Shape := ⟨3, ![8, 4096, 3200]⟩
abbrev S8x4096x256 : Shape := ⟨3, ![8, 4096, 256]⟩
abbrev S8x4096x512 : Shape := ⟨3, ![8, 4096, 512]⟩
abbrev S8x4096x128 : Shape := ⟨3, ![8, 4096, 128]⟩
abbrev S256 : Shape := ⟨1, ![256]⟩
abbrev S1x1x256 : Shape := ⟨3, ![1, 1, 256]⟩
abbrev S_ : Shape := ⟨0, ![]⟩
abbrev S8x4096x4x64 : Shape := ⟨4, ![8, 4096, 4, 64]⟩
abbrev S8x4096x4x128 : Shape := ⟨4, ![8, 4096, 4, 128]⟩
abbrev S8x64x64x4x64 : Shape := ⟨5, ![8, 64, 64, 4, 64]⟩
abbrev S64x8x4x64x64 : Shape := ⟨5, ![64, 8, 4, 64, 64]⟩
abbrev S8x64x64x4x128 : Shape := ⟨5, ![8, 64, 64, 4, 128]⟩
abbrev S64x8x4x64x128 : Shape := ⟨5, ![64, 8, 4, 64, 128]⟩
abbrev S64x64 : Shape := ⟨2, ![64, 64]⟩
abbrev S8x4x64x128 : Shape := ⟨4, ![8, 4, 64, 128]⟩
abbrev S1x8x4x64x64 : Shape := ⟨5, ![1, 8, 4, 64, 64]⟩
abbrev S8x4x64x64 : Shape := ⟨4, ![8, 4, 64, 64]⟩
abbrev S1x8x4x64x128 : Shape := ⟨5, ![1, 8, 4, 64, 128]⟩
abbrev S8x4x1x64 : Shape := ⟨4, ![8, 4, 1, 64]⟩
abbrev S8x4x64 : Shape := ⟨3, ![8, 4, 64]⟩
abbrev S8x4x64x1 : Shape := ⟨4, ![8, 4, 64, 1]⟩
abbrev S32768x512 : Shape := ⟨2, ![32768, 512]⟩

abbrev nBuf : Space → Nat
  | .hbm => 144
  | .vmem => 0
  | .smem => 0
  | _ => 0

abbrev hbmTy0_0 (i : Nat) : BufTy := match i % 128 with
  | 0 => ⟨S32768x3200, .f32⟩
  | 1 => ⟨S128x256, .bf16⟩
  | 2 => ⟨S1x256, .f32⟩
  | 3 => ⟨S8x4096x3200, .f32⟩
  | 4 => ⟨S8x4096x256, .f32⟩
  | 5 => ⟨S8x4096x256, .f32⟩
  | 6 => ⟨S8x4096x512, .f32⟩
  | 7 => ⟨S8x4096x128, .f32⟩
  | 8 => ⟨S128x256, .f32⟩
  | 9 => ⟨S8x4096x256, .f32⟩
  | 10 => ⟨S256, .f32⟩
  | 11 => ⟨S1x1x256, .f32⟩
  | 12 => ⟨S8x4096x256, .f32⟩
  | 13 => ⟨S8x4096x256, .f32⟩
  | 14 => ⟨S8x4096x256, .f32⟩
  | 15 => ⟨S_, .f32⟩
  | 16 => ⟨S8x4096x256, .f32⟩
  | 17 => ⟨S8x4096x256, .f32⟩
  | 18 => ⟨S8x4096x256, .f32⟩
  | 19 => ⟨S8x4096x256, .f32⟩
  | 20 => ⟨S8x4096x256, .i1⟩
  | 21 => ⟨S8x4096x256, .f32⟩
  | 22 => ⟨S8x4096x256, .f32⟩
  | 23 => ⟨S8x4096x256, .f32⟩
  | 24 => ⟨S8x4096x256, .f32⟩
  | 25 => ⟨S8x4096x256, .f32⟩
  | 26 => ⟨S8x4096x256, .f32⟩
  | 27 => ⟨S8x4096x256, .f32⟩
  | 28 => ⟨S8x4096x256, .f32⟩
  | 29 => ⟨S8x4096x256, .f32⟩
  | 30 => ⟨S_, .f32⟩
  | 31 => ⟨S8x4096x256, .f32⟩
  | 32 => ⟨S8x4096x256, .f32⟩
  | 33 => ⟨S8x4096x4x64, .f32⟩
  | 34 => ⟨S8x4096x4x64, .f32⟩
  | 35 => ⟨S8x4096x4x128, .f32⟩
  | 36 => ⟨S8x4096x4x64, .f32⟩
  | 37 => ⟨S_, .f32⟩
  | 38 => ⟨S8x4096x4x64, .f32⟩
  | 39 => ⟨S8x4096x4x64, .f32⟩
  | 40 => ⟨S8x64x64x4x64, .f32⟩
  | 41 => ⟨S64x8x4x64x64, .f32⟩
  | 42 => ⟨S8x64x64x4x64, .f32⟩
  | 43 => ⟨S64x8x4x64x64, .f32⟩
  | 44 => ⟨S8x64x64x4x128, .f32⟩
  | 45 => ⟨S64x8x4x64x128, .f32⟩
  | 46 => ⟨S8x64x64x4x64, .f32⟩
  | 47 => ⟨S64x8x4x64x64, .f32⟩
  | 48 => ⟨S_, .f32⟩
  | 49 => ⟨S_, .f32⟩
  | 50 => ⟨S64x8x4x64x64, .f32⟩
  | 51 => ⟨S_, .i1⟩
  | 52 => ⟨S64x64, .i1⟩
  | 53 => ⟨S64x64, .i32⟩
  | 54 => ⟨S_, .i32⟩
  | 55 => ⟨S64x64, .i32⟩
  | 56 => ⟨S64x64, .i32⟩
  | 57 => ⟨S64x64, .i32⟩
  | 58 => ⟨S64x64, .i1⟩
  | 59 => ⟨S_, .i1⟩
  | 60 => ⟨S64x64, .i1⟩
  | 61 => ⟨S64x64, .i1⟩
  | 62 => ⟨S_, .f32⟩
  | 63 => ⟨S8x4x64x128, .f32⟩
  | 64 => ⟨S_, .f32⟩
  | 65 => ⟨S64x8x4x64x128, .f32⟩
  | 66 => ⟨S_, .i32⟩
  | 67 => ⟨S64x8x4x64x64, .f32⟩
  | 68 => ⟨S64x8x4x64x64, .f32⟩
  | 69 => ⟨S64x8x4x64x128, .f32⟩
  | 70 => ⟨S64x8x4x64x64, .f32⟩
  | 71 => ⟨S64x64, .i1⟩
  | 72 => ⟨S_, .i32⟩
  | 73 => ⟨S8x4x64x128, .f32⟩
  | 74 => ⟨S64x8x4x64x128, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x8x4x64x64, .f32⟩
  | 82 => ⟨S8x4x64x64, .f32⟩
  | 83 => ⟨S_, .i32⟩
  | 84 => ⟨S_, .i32⟩
  | 85 => ⟨S_, .i32⟩
  | 86 => ⟨S_, .i32⟩
  | 87 => ⟨S1x8x4x64x64, .f32⟩
  | 88 => ⟨S8x4x64x64, .f32⟩
  | 89 => ⟨S_, .i32⟩
  | 90 => ⟨S_, .i32⟩
  | 91 => ⟨S_, .i32⟩
  | 92 => ⟨S_, .i32⟩
  | 93 => ⟨S1x8x4x64x128, .f32⟩
  | 94 => ⟨S8x4x64x128, .f32⟩
  | 95 => ⟨S_, .i32⟩
  | 96 => ⟨S_, .i32⟩
  | 97 => ⟨S_, .i32⟩
  | 98 => ⟨S_, .i32⟩
  | 99 => ⟨S1x8x4x64x64, .f32⟩
  | 100 => ⟨S8x4x64x64, .f32⟩
  | 101 => ⟨S8x4x1x64, .f32⟩
  | 102 => ⟨S8x4x1x64, .f32⟩
  | 103 => ⟨S8x4x64x64, .f32⟩
  | 104 => ⟨S8x4x64x64, .f32⟩
  | 105 => ⟨S8x4x64x128, .f32⟩
  | 106 => ⟨S8x4x64x64, .f32⟩
  | 107 => ⟨S8x4x64x64, .f32⟩
  | 108 => ⟨S8x4x64x64, .f32⟩
  | 109 => ⟨S8x4x64x64, .f32⟩
  | 110 => ⟨S8x4x64x64, .f32⟩
  | 111 => ⟨S8x4x64x64, .f32⟩
  | 112 => ⟨S8x4x64x64, .f32⟩
  | 113 => ⟨S8x4x64x64, .f32⟩
  | 114 => ⟨S8x4x64x64, .f32⟩
  | 115 => ⟨S_, .f32⟩
  | 116 => ⟨S_, .f32⟩
  | 117 => ⟨S8x4x64x64, .i1⟩
  | 118 => ⟨S8x4x64x64, .f32⟩
  | 119 => ⟨S8x4x64x64, .f32⟩
  | 120 => ⟨S8x4x64x128, .f32⟩
  | 121 => ⟨S8x4x64x64, .f32⟩
  | 122 => ⟨S8x4x64x64, .f32⟩
  | 123 => ⟨S8x4x64x64, .f32⟩
  | 124 => ⟨S8x4x64x64, .f32⟩
  | 125 => ⟨S8x4x64, .f32⟩
  | 126 => ⟨S8x4x64, .f32⟩
  | 127 => ⟨S8x4x64x1, .f32⟩
  | _ => ⟨S32768x3200, .f32⟩

abbrev hbmTy0_1 (i : Nat) : BufTy := match i % 128 with
  | 0 => ⟨S8x4x64x128, .f32⟩
  | 1 => ⟨S8x4x64x128, .f32⟩
  | 2 => ⟨S8x4x64x128, .f32⟩
  | 3 => ⟨S8x4x64x128, .f32⟩
  | 4 => ⟨S8x4x64x128, .f32⟩
  | 5 => ⟨S1x8x4x64x128, .f32⟩
  | 6 => ⟨S_, .i32⟩
  | 7 => ⟨S_, .i32⟩
  | 8 => ⟨S_, .i32⟩
  | 9 => ⟨S_, .i32⟩
  | 10 => ⟨S64x8x4x64x128, .f32⟩
  | 11 => ⟨S_, .i32⟩
  | 12 => ⟨S_, .i32⟩
  | 13 => ⟨S8x64x64x4x128, .f32⟩
  | 14 => ⟨S8x4096x4x128, .f32⟩
  | 15 => ⟨S32768x512, .f32⟩
  | _ => ⟨S32768x3200, .f32⟩

abbrev hbmTy (i : Nat) : BufTy := match i / 128 with
  | 0 => hbmTy0_0 i
  | 1 => hbmTy0_1 i
  | _ => ⟨S32768x3200, .f32⟩

abbrev bufTy : (tb : Table) → Fin (tcTables nBuf tb) → BufTy
  | .hbm, ⟨i, _⟩ => hbmTy i
  | _, _ => ⟨S32768x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_call0_cst : Ref sig .tc := ⟨.hbm, 48, rfl⟩
abbrev main_call1_call0_v0 : Ref sig .tc := ⟨.hbm, 49, rfl⟩
abbrev main_v28 : Ref sig .tc := ⟨.hbm, 50, rfl⟩
abbrev main_c : Ref sig .tc := ⟨.hbm, 51, rfl⟩
abbrev main_v29 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_0 : Ref sig .tc := ⟨.hbm, 59, rfl⟩
abbrev main_call2_v5 : Ref sig .tc := ⟨.hbm, 60, rfl⟩
abbrev main_v30 : Ref sig .tc := ⟨.hbm, 61, rfl⟩
abbrev main_cst_1 : Ref sig .tc := ⟨.hbm, 62, rfl⟩
abbrev main_v31 : Ref sig .tc := ⟨.hbm, 63, rfl⟩
abbrev main_cst_2 : Ref sig .tc := ⟨.hbm, 64, rfl⟩
abbrev main_v32 : Ref sig .tc := ⟨.hbm, 65, rfl⟩
abbrev main_c_3 : Ref sig .tc := ⟨.hbm, 66, rfl⟩
abbrev main_v33_0 : Ref sig .tc := ⟨.hbm, 67, rfl⟩
abbrev main_v33_1 : Ref sig .tc := ⟨.hbm, 68, rfl⟩
abbrev main_v33_2 : Ref sig .tc := ⟨.hbm, 69, rfl⟩
abbrev main_v33_3 : Ref sig .tc := ⟨.hbm, 70, rfl⟩
abbrev main_v33_4 : Ref sig .tc := ⟨.hbm, 71, rfl⟩
abbrev main_v33_5 : Ref sig .tc := ⟨.hbm, 72, rfl⟩
abbrev main_v33_6 : Ref sig .tc := ⟨.hbm, 73, rfl⟩
abbrev main_v33_7 : Ref sig .tc := ⟨.hbm, 74, rfl⟩
abbrev main_while0c_c_11 : Ref sig .tc := ⟨.hbm, 75, rfl⟩
abbrev main_while0c_v37 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_c_2 : Ref sig .tc := ⟨.hbm, 80, rfl⟩
abbrev main_while0b_call3_v0 : Ref sig .tc := ⟨.hbm, 81, rfl⟩
abbrev main_while0b_v37 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_c_2 : Ref sig .tc := ⟨.hbm, 86, rfl⟩
abbrev main_while0b_call4_v0 : Ref sig .tc := ⟨.hbm, 87, rfl⟩
abbrev main_while0b_v38 : Ref sig .tc := ⟨.hbm, 88, rfl⟩
abbrev main_while0b_call5_c : Ref sig .tc := ⟨.hbm, 89, rfl⟩
abbrev main_while0b_call5_c_0 : Ref sig .tc := ⟨.hbm, 90, rfl⟩
abbrev main_while0b_call5_c_1 : Ref sig .tc := ⟨.hbm, 91, rfl⟩
abbrev main_while0b_call5_c_2 : Ref sig .tc := ⟨.hbm, 92, rfl⟩
abbrev main_while0b_call5_v0 : Ref sig .tc := ⟨.hbm, 93, rfl⟩
abbrev main_while0b_v39 : Ref sig .tc := ⟨.hbm, 94, rfl⟩
abbrev main_while0b_call6_c : Ref sig .tc := ⟨.hbm, 95, rfl⟩
abbrev main_while0b_call6_c_0 : Ref sig .tc := ⟨.hbm, 96, rfl⟩
abbrev main_while0b_call6_c_1 : Ref sig .tc := ⟨.hbm, 97, rfl⟩
abbrev main_while0b_call6_c_2 : Ref sig .tc := ⟨.hbm, 98, rfl⟩
abbrev main_while0b_call6_v0 : Ref sig .tc := ⟨.hbm, 99, rfl⟩
abbrev main_while0b_v40 : Ref sig .tc := ⟨.hbm, 100, rfl⟩
abbrev main_while0b_v41 : Ref sig .tc := ⟨.hbm, 101, rfl⟩
abbrev main_while0b_v42 : Ref sig .tc := ⟨.hbm, 102, rfl⟩
abbrev main_while0b_v43 : Ref sig .tc := ⟨.hbm, 103, rfl⟩
abbrev main_while0b_v44 : Ref sig .tc := ⟨.hbm, 104, rfl⟩
abbrev main_while0b_v45 : Ref sig .tc := ⟨.hbm, 105, rfl⟩
abbrev main_while0b_v46 : Ref sig .tc := ⟨.hbm, 106, rfl⟩
abbrev main_while0b_v47 : Ref sig .tc := ⟨.hbm, 107, rfl⟩
abbrev main_while0b_v48 : Ref sig .tc := ⟨.hbm, 108, rfl⟩
abbrev main_while0b_v49 : Ref sig .tc := ⟨.hbm, 109, rfl⟩
abbrev main_while0b_v50 : Ref sig .tc := ⟨.hbm, 110, rfl⟩
abbrev main_while0b_v51 : Ref sig .tc := ⟨.hbm, 111, rfl⟩
abbrev main_while0b_v52 : Ref sig .tc := ⟨.hbm, 112, rfl⟩
abbrev main_while0b_v53 : Ref sig .tc := ⟨.hbm, 113, rfl⟩
abbrev main_while0b_v54 : Ref sig .tc := ⟨.hbm, 114, rfl⟩
abbrev main_while0b_cst_11 : Ref sig .tc := ⟨.hbm, 115, rfl⟩
abbrev main_while0b_call7_v0 : Ref sig .tc := ⟨.hbm, 116, rfl⟩
abbrev main_while0b_call7_v1 : Ref sig .tc := ⟨.hbm, 117, rfl⟩
abbrev main_while0b_call7_v2 : Ref sig .tc := ⟨.hbm, 118, rfl⟩
abbrev main_while0b_v55 : Ref sig .tc := ⟨.hbm, 119, rfl⟩
abbrev main_while0b_v56 : Ref sig .tc := ⟨.hbm, 120, rfl⟩
abbrev main_while0b_v57 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_v61 : Ref sig .tc := ⟨.hbm, 125, rfl⟩
abbrev main_while0b_v62 : Ref sig .tc := ⟨.hbm, 126, rfl⟩
abbrev main_while0b_v63 : Ref sig .tc := ⟨.hbm, 127, rfl⟩
abbrev main_while0b_v64 : Ref sig .tc := ⟨.hbm, 128, rfl⟩
abbrev main_while0b_v65 : Ref sig .tc := ⟨.hbm, 129, rfl⟩
abbrev main_while0b_v66 : Ref sig .tc := ⟨.hbm, 130, rfl⟩
abbrev main_while0b_v67 : Ref sig .tc := ⟨.hbm, 131, rfl⟩
abbrev main_while0b_v68 : Ref sig .tc := ⟨.hbm, 132, rfl⟩
abbrev main_while0b_call8_v0 : Ref sig .tc := ⟨.hbm, 133, rfl⟩
abbrev main_while0b_call8_c : Ref sig .tc := ⟨.hbm, 134, rfl⟩
abbrev main_while0b_call8_c_0 : Ref sig .tc := ⟨.hbm, 135, rfl⟩
abbrev main_while0b_call8_c_1 : Ref sig .tc := ⟨.hbm, 136, rfl⟩
abbrev main_while0b_call8_c_2 : Ref sig .tc := ⟨.hbm, 137, rfl⟩
abbrev main_while0b_v69 : Ref sig .tc := ⟨.hbm, 138, rfl⟩
abbrev main_while0b_c_12 : Ref sig .tc := ⟨.hbm, 139, rfl⟩
abbrev main_while0b_v70 : Ref sig .tc := ⟨.hbm, 140, rfl⟩
abbrev main_v34 : Ref sig .tc := ⟨.hbm, 141, rfl⟩
abbrev main_v35 : Ref sig .tc := ⟨.hbm, 142, rfl⟩
abbrev main_v36 : Ref sig .tc := ⟨.hbm, 143, rfl⟩

abbrev nD : Nat := 1
abbrev τ : Topo := Topo.v7x

variable {F : FTy → Type} [FloatOps F]

abbrev main_while0_count : Scf.Loop 32 := ⟨0#32, 64#32, 1#32⟩
-- ==== Proof.RowMath.lean ====
module

public import Idealize.ShloMosaic.Lib.Pipeline.ValueKit

@[expose] public section

set_option maxRecDepth 16384
noncomputable section
open Idealize.ShloMosaic
namespace Cert.RowMath

/-- Half the reciprocal of the fourth root of two. -/
def hoa : EReal := ((((1 / 2) * (Real.sqrt (Real.sqrt 2))⁻¹ : ℝ)) : EReal)
/-- 1/100000 over the root of two. -/
def eoa : EReal := ((((1 / 100000) * (Real.sqrt 2)⁻¹ : ℝ)) : EReal)

/-- The mean of a row of 1024. -/
def mean (z : Fin 1024 → EReal) : EReal := Ideal.div (∑ j, z j) (Ideal.ofBits .f32 0x44800000#32)
/-- Layer normalization of a row, with `e` under the root. -/
def ln (e : EReal) (z g b : Fin 1024 → EReal) (j : Fin 1024) : EReal :=
  (z j - mean z) * Ideal.rsqrt (mean (fun k => (z k - mean z) * (z k - mean z)) + e) * g j + b j

/-- The gated activation from a tanh: the gate's half, times its tanh, plus itself, times the other product. -/
def act (p u : EReal) : EReal := (Ideal.ofBits .f32 0x3F000000#32 * p * Ideal.tanh (Ideal.ofBits .f32 0x3F000000#32 * p) + Ideal.ofBits .f32 0x3F000000#32 * p) * u
/-- The gated activation from the logistic function. -/
def actS (p u : EReal) : EReal := p * Ideal.div 1 (1 + Ideal.exp (-p)) * u

theorem half_val : Ideal.ofBits .f32 0x3F000000#32 = ((1 / 2 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem width_val : Ideal.ofBits .f32 0x44800000#32 = ((1024 : ℝ) : EReal) := by
  simp [Ideal.ofBits, Ideal.ieee, -EReal.coe_mul]; norm_num
theorem tenfive_val : Ideal.ofBits .f32 0x47C35000#32 = ((100000 : ℝ) : EReal) := by
  simp [Ideal.ofBits, Ideal.ieee, -EReal.coe_mul]; norm_num

theorem silu_real (p : ℝ) : 1 / 2 * p * Real.tanh (1 / 2 * p) + 1 / 2 * p = p * (1 / (1 + Real.exp (-p))) := by
  have h1 : Real.exp (-p) = Real.exp (-(1 / 2 * p)) * Real.exp (-(1 / 2 * p)) := by rw [← Real.exp_add]; congr 1; ring
  have h2 : Real.exp (1 / 2 * p) * Real.exp (-(1 / 2 * p)) = 1 := by rw [← Real.exp_add]; simp
  rw [Real.tanh_eq_sinh_div_cosh, Real.sinh_eq, Real.cosh_eq, h1]
  have ha := Real.exp_pos (1 / 2 * p)
  have hb := Real.exp_pos (-(1 / 2 * p))
  set A := Real.exp (1 / 2 * p)
  set B := Real.exp (-(1 / 2 * p))
  have hab : A + B ≠ 0 := by positivity
  have hbb : 1 + B * B ≠ 0 := by positivity
  field_simp
  linear_combination 2 * p * B * h2

theorem act_eq (p : ℝ) (u : EReal) : act p u = actS p u := by
  unfold act actS
  have h : (1 + Real.exp (-p)) ≠ 0 := by positivity
  have e1 : (1 : EReal) + Ideal.exp (-(p : EReal)) = ((1 + Real.exp (-p) : ℝ) : EReal) := by
    rw [← EReal.coe_neg, Ideal.exp_coe, ← EReal.coe_one, ← EReal.coe_add]
  rw [e1, Ideal.div_coe h, half_val, ← EReal.coe_mul, Ideal.tanh_coe, ← EReal.coe_mul, ← EReal.coe_add, silu_real, one_mul, ← EReal.coe_mul]

theorem sum_mul {ι : Type*} (a : ℝ) (ha : 0 < a) (s : Finset ι) (f : ι → EReal) : ∑ j ∈ s, (a : EReal) * f j = (a : EReal) * ∑ j ∈ s, f j := by
  classical
  induction s using Finset.induction_on with
  | empty => simp
  | insert i s hi ih =>
    rw [Finset.sum_insert hi, Finset.sum_insert hi, ih, EReal.left_distrib_of_nonneg_of_ne_top (by exact_mod_cast ha.le) (EReal.coe_ne_top a)]

theorem mean_mul (a : ℝ) (ha : 0 < a) (z : Fin 1024 → EReal) : mean (fun j => (a : EReal) * z j) = (a : EReal) * mean z := by
  unfold mean
  rw [sum_mul a ha, width_val, Ideal.div_coe (by norm_num), Ideal.div_coe (by norm_num), mul_assoc]

theorem mul_sub' (a : ℝ) (ha : 0 < a) (x y : EReal) : (a : EReal) * x - (a : EReal) * y = (a : EReal) * (x - y) := by
  rw [sub_eq_add_neg, sub_eq_add_neg, ← mul_neg, EReal.left_distrib_of_nonneg_of_ne_top (by exact_mod_cast ha.le) (EReal.coe_ne_top a)]

theorem mean_sq_nonneg (z : Fin 1024 → EReal) : 0 ≤ mean (fun j => z j * z j) := by
  unfold mean
  rw [width_val, Ideal.div_coe (by norm_num)]
  refine mul_nonneg (Finset.sum_nonneg fun j _ => ?_) (by exact_mod_cast (by norm_num : (0 : ℝ) ≤ 1 / 1024))
  rcases le_total 0 (z j) with h | h
  · exact mul_nonneg h h
  · rw [← neg_mul_neg]
    have : 0 ≤ -z j := by simpa using EReal.neg_le_neg_iff.mpr h
    exact mul_nonneg this this

theorem rsqrt_mul (a : ℝ) (ha : 0 < a) (v : EReal) (hv : 0 < v) : Ideal.rsqrt (((a * a : ℝ) : EReal) * v) = ((a⁻¹ : ℝ) : EReal) * Ideal.rsqrt v := by
  induction v using EReal.rec with
  | bot => simp at hv
  | top =>
    rw [EReal.mul_top_of_pos (by exact_mod_cast (by positivity : 0 < a * a))]
    simp
  | coe v =>
    have hv' : 0 < v := by exact_mod_cast hv
    have hp : 0 < a * a * v := by positivity
    rw [← EReal.coe_mul, Ideal.rsqrt_coe, Ideal.rsqrt_coe, if_neg hp.le.not_gt, if_neg hp.ne', if_neg hv'.le.not_gt, if_neg hv'.ne', ← EReal.coe_mul]
    congr 1
    rw [Real.sqrt_mul (by positivity), Real.sqrt_mul_self ha.le, mul_inv]

/-- Scaling a row by a positive real leaves its normalization, the constant under the root scaled by the square. -/
theorem ln_scale (a e : ℝ) (ha : 0 < a) (he : 0 < e) (z g b : Fin 1024 → EReal) (j : Fin 1024) :
    ln ((a * a * e : ℝ) : EReal) (fun j => (a : EReal) * z j) g b j = ln (e : EReal) z g b j := by
  unfold ln
  rw [mean_mul a ha]
  simp only [mul_sub' a ha]
  have hsq : ∀ x : EReal, (a : EReal) * x * ((a : EReal) * x) = ((a * a : ℝ) : EReal) * (x * x) := fun x => by
    rw [EReal.coe_mul]; ac_rfl
  simp only [hsq]
  rw [mean_mul (a * a) (by positivity), EReal.coe_mul (a * a) e,
    ← EReal.left_distrib_of_nonneg_of_ne_top (by exact_mod_cast (by positivity : 0 ≤ a * a)) (EReal.coe_ne_top _),
    rsqrt_mul a ha _ (lt_of_lt_of_le (by exact_mod_cast he) (le_add_of_nonneg_left (mean_sq_nonneg _)))]
  congr 2
  rw [mul_mul_mul_comm, ← EReal.coe_mul, mul_inv_cancel₀ ha.ne', EReal.coe_one, one_mul]

theorem alpha_val : Ideal.sqrt (Ideal.sqrt (Ideal.ofBits .f32 0x40000000#32)) = ((Real.sqrt (Real.sqrt 2) : ℝ) : EReal) := by
  rw [two_val, Ideal.sqrt_coe, if_neg (by norm_num), Ideal.sqrt_coe, if_neg (by simp)]

theorem eps_val : Ideal.div 1 (Ideal.ofBits .f32 0x47C35000#32) = ((1 / 100000 : ℝ) : EReal) := by
  rw [tenfive_val, Ideal.div_coe (by norm_num), one_mul]

/-- The scaled residual sum normalizes to the unscaled one's normalization. -/
theorem deepnorm (X F g b : Fin 1024 → EReal) (j : Fin 1024) :
    ln eoa (fun j => X j + hoa * F j) g b j
    = ln (Ideal.div 1 (Ideal.ofBits .f32 0x47C35000#32)) (fun j => Ideal.sqrt (Ideal.sqrt (Ideal.ofBits .f32 0x40000000#32)) * X j + Ideal.ofBits .f32 0x3F000000#32 * F j) g b j := by
  rw [alpha_val, eps_val, half_val]
  unfold hoa eoa
  have h2 : 0 < Real.sqrt 2 := Real.sqrt_pos.mpr (by norm_num)
  have ha : 0 < Real.sqrt (Real.sqrt 2) := Real.sqrt_pos.mpr h2
  have haa : Real.sqrt (Real.sqrt 2) * Real.sqrt (Real.sqrt 2) = Real.sqrt 2 := Real.mul_self_sqrt h2.le
  rw [← ln_scale (Real.sqrt (Real.sqrt 2)) (1 / 100000 * (Real.sqrt 2)⁻¹) ha (by positivity)]
  have e1 : Real.sqrt (Real.sqrt 2) * Real.sqrt (Real.sqrt 2) * (1 / 100000 * (Real.sqrt 2)⁻¹) = 1 / 100000 := by
    rw [haa]; field_simp
  rw [e1]
  congr 1
  funext k
  rw [EReal.left_distrib_of_nonneg_of_ne_top (by exact_mod_cast ha.le) (EReal.coe_ne_top _), ← mul_assoc, ← EReal.coe_mul]
  congr 3
  field_simp

/-- A sum of products of reals is a real. -/
theorem sum_real {n : ℕ} (x w : Fin n → EReal) (hx : ∀ k, ∃ r : ℝ, x k = r) (hw : ∀ k, ∃ r : ℝ, w k = r) : ∃ r : ℝ, ∑ k, x k * w k = (r : EReal) := by
  choose f hf using hx
  choose g hg using hw
  refine ⟨∑ k, f k * g k, ?_⟩
  simp only [hf, hg, ← EReal.coe_mul]
  exact (map_sum (⟨⟨Real.toEReal, EReal.coe_zero⟩, EReal.coe_add⟩ : ℝ →+ EReal) _ _).symm

end Cert.RowMath
-- ==== Proof.FfnProjRows.lean ====
module

public import proofs.«01_k».proof.Proof.Gen.FfnProjIdeal.Frame
public import proofs.«01_k».proof.Proof.RowMath
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.FfnProjIdeal.Value
open Cert.FfnProjIdeal Cert.FfnProjIdeal.Gen Cert.RowMath

theorem sum_six (f : Fin 2816 → EReal) :
    ∑ i, f i = (((((∑ k : Fin 512, f ⟨k, by omega⟩) + ∑ k : Fin 512, f ⟨512 + k, by omega⟩) + ∑ k : Fin 512, f ⟨1024 + k, by omega⟩)
      + ∑ k : Fin 512, f ⟨1536 + k, by omega⟩) + ∑ k : Fin 512, f ⟨2048 + k, by omega⟩) + ∑ k : Fin 256, f ⟨2560 + k, by omega⟩ := by
  have h := Fin.sum_univ_add (a := 2560) (b := 256) f
  have h4 := Fin.sum_univ_add (a := 2048) (b := 512) (fun i => f (Fin.castAdd 256 i))
  have h3 := Fin.sum_univ_add (a := 1536) (b := 512) (fun i => f (Fin.castAdd 256 (Fin.castAdd 512 i)))
  have h2 := Fin.sum_univ_add (a := 1024) (b := 512) (fun i => f (Fin.castAdd 256 (Fin.castAdd 512 (Fin.castAdd 512 i))))
  have h1 := Fin.sum_univ_add (a := 512) (b := 512) (fun i => f (Fin.castAdd 256 (Fin.castAdd 512 (Fin.castAdd 512 (Fin.castAdd 512 i)))))
  rw [h, h4, h3, h2, h1]
  rfl

/-- The feed-forward product of one row. -/
def ffn (X : Fin 1024 → EReal) (G U : FVec Ideal S1024x2816 .bf16) (D : FVec Ideal S2816x1024 .bf16) (j : Fin 1024) : EReal :=
  ∑ f : Fin 2816, act (∑ k : Fin 1024, X k * G (ix2 k f)) (∑ k : Fin 1024, X k * U (ix2 k f)) * D (ix2 f j)

theorem named_half : Named.named (F := Ideal) (φ := .f32) κ "half_over_alpha" 0x3ED744FD#32 = hoa :=
  IdealRules.named_const.ideal_named_scalar _ _ _ _ rfl
theorem named_eps : Named.named (F := Ideal) (φ := .f32) κ "eps_over_alpha2" 0x36ED4403#32 = eoa :=
  IdealRules.named_const.ideal_named_scalar _ _ _ _ rfl

/-- The first half block's residual sum, as stored payloads. -/
abbrev zA (X : Vec Ideal S256x1024 .f32) (G U : Vec Ideal S1024x2816 .bf16) (D : Vec Ideal S2816x1024 .bf16) : FVec Ideal S256x1024 .f32 :=
  k0_pay37 (k0_pay28 (k0_pay5 X) (View.ld G (Rect.unit ![0, 2560] ![1024, 256] inb_S1024x2816_S1024x256_0_2560))) (k0_pay29 (k0_pay5 X) (View.ld U (Rect.unit ![0, 2560] ![1024, 256] inb_S1024x2816_S1024x256_0_2560)))
      (k0_pay30 (k0_pay23 (k0_pay5 X) (View.ld G (Rect.unit ![0, 2048] ![1024, 512] inb_S1024x2816_S1024x512_0_2048)))
        (k0_pay24 (k0_pay5 X) (View.ld U (Rect.unit ![0, 2048] ![1024, 512] inb_S1024x2816_S1024x512_0_2048)))
        (k0_pay25
          (k0_pay13 (k0_pay6 X (View.ld G (Rect.unit ![0, 512] ![1024, 512] inb_S1024x2816_S1024x512_0_512))) (k0_pay7 X (View.ld U (Rect.unit ![0, 512] ![1024, 512] inb_S1024x2816_S1024x512_0_512)))
            (k0_pay8 X (View.ld G (Rect.unit ![0, 0] ![1024, 512] inb_S1024x2816_S1024x512_0_0)) (View.ld U (Rect.unit ![0, 0] ![1024, 512] inb_S1024x2816_S1024x512_0_0)) (View.ld D (Rect.unit ![0, 0] ![512, 1024] inb_S2816x1024_S512x1024_0_0)))
            (View.ld D (Rect.unit ![512, 0] ![512, 1024] inb_S2816x1024_S512x1024_512_0)))
          (k0_pay17 (k0_pay5 X) (View.ld G (Rect.unit ![0, 1536] ![1024, 512] inb_S1024x2816_S1024x512_0_1536))) (k0_pay18 (k0_pay5 X) (View.ld U (Rect.unit ![0, 1536] ![1024, 512] inb_S1024x2816_S1024x512_0_1536)))
          (k0_pay19 (k0_pay5 X) (k0_pay12 X (View.ld G (Rect.unit ![0, 1024] ![1024, 512] inb_S1024x2816_S1024x512_0_1024))) (View.ld U (Rect.unit ![0, 1024] ![1024, 512] inb_S1024x2816_S1024x512_0_1024)))
          (View.ld D (Rect.unit ![1024, 0] ![512, 1024] inb_S2816x1024_S512x1024_1024_0)) (View.ld D (Rect.unit ![1536, 0] ![512, 1024] inb_S2816x1024_S512x1024_1536_0)))
        (View.ld D (Rect.unit ![2048, 0] ![512, 1024] inb_S2816x1024_S512x1024_2048_0))) (View.ld D (Rect.unit ![2560, 0] ![256, 1024] inb_S2816x1024_S256x1024_2560_0)) X
/-- The first half block's row means. -/
abbrev muA (X : Vec Ideal S256x1024 .f32) (G U : Vec Ideal S1024x2816 .bf16) (D : Vec Ideal S2816x1024 .bf16) : FVec Ideal S256x1 .f32 :=
  k0_pay38 (k0_pay28 (k0_pay5 X) (View.ld G (Rect.unit ![0, 2560] ![1024, 256] inb_S1024x2816_S1024x256_0_2560))) (k0_pay29 (k0_pay5 X) (View.ld U (Rect.unit ![0, 2560] ![1024, 256] inb_S1024x2816_S1024x256_0_2560)))
      (k0_pay30 (k0_pay23 (k0_pay5 X) (View.ld G (Rect.unit ![0, 2048] ![1024, 512] inb_S1024x2816_S1024x512_0_2048)))
        (k0_pay24 (k0_pay5 X) (View.ld U (Rect.unit ![0, 2048] ![1024, 512] inb_S1024x2816_S1024x512_0_2048)))
        (k0_pay25
          (k0_pay13 (k0_pay6 X (View.ld G (Rect.unit ![0, 512] ![1024, 512] inb_S1024x2816_S1024x512_0_512))) (k0_pay7 X (View.ld U (Rect.unit ![0, 512] ![1024, 512] inb_S1024x2816_S1024x512_0_512)))
            (k0_pay8 X (View.ld G (Rect.unit ![0, 0] ![1024, 512] inb_S1024x2816_S1024x512_0_0)) (View.ld U (Rect.unit ![0, 0] ![1024, 512] inb_S1024x2816_S1024x512_0_0)) (View.ld D (Rect.unit ![0, 0] ![512, 1024] inb_S2816x1024_S512x1024_0_0)))
            (View.ld D (Rect.unit ![512, 0] ![512, 1024] inb_S2816x1024_S512x1024_512_0)))
          (k0_pay17 (k0_pay5 X) (View.ld G (Rect.unit ![0, 1536] ![1024, 512] inb_S1024x2816_S1024x512_0_1536))) (k0_pay18 (k0_pay5 X) (View.ld U (Rect.unit ![0, 1536] ![1024, 512] inb_S1024x2816_S1024x512_0_1536)))
          (k0_pay19 (k0_pay5 X) (k0_pay12 X (View.ld G (Rect.unit ![0, 1024] ![1024, 512] inb_S1024x2816_S1024x512_0_1024))) (View.ld U (Rect.unit ![0, 1024] ![1024, 512] inb_S1024x2816_S1024x512_0_1024)))
          (View.ld D (Rect.unit ![1024, 0] ![512, 1024] inb_S2816x1024_S512x1024_1024_0)) (View.ld D (Rect.unit ![1536, 0] ![512, 1024] inb_S2816x1024_S512x1024_1536_0)))
        (View.ld D (Rect.unit ![2048, 0] ![512, 1024] inb_S2816x1024_S512x1024_2048_0))) (View.ld D (Rect.unit ![2560, 0] ![256, 1024] inb_S2816x1024_S256x1024_2560_0)) X
/-- The second half block's feed-forward product. -/
abbrev fB (X : Vec Ideal S256x1024 .f32) (G U : Vec Ideal S1024x2816 .bf16) (D : Vec Ideal S2816x1024 .bf16) : FVec Ideal S256x1024 .f32 :=
  k0_pay42 (k0_pay34 (k0_pay9 X) (View.ld G (Rect.unit ![0, 2560] ![1024, 256] inb_S1024x2816_S1024x256_0_2560))) (k0_pay35 (k0_pay9 X) (View.ld U (Rect.unit ![0, 2560] ![1024, 256] inb_S1024x2816_S1024x256_0_2560)))
      (k0_pay36
        (k0_pay27 (k0_pay20 (k0_pay9 X) (View.ld G (Rect.unit ![0, 1024] ![1024, 512] inb_S1024x2816_S1024x512_0_1024))) (k0_pay21 (k0_pay9 X) (View.ld U (Rect.unit ![0, 1024] ![1024, 512] inb_S1024x2816_S1024x512_0_1024)))
          (k0_pay22 (k0_pay14 (k0_pay9 X) (View.ld G (Rect.unit ![0, 512] ![1024, 512] inb_S1024x2816_S1024x512_0_512))) (k0_pay15 (k0_pay9 X) (View.ld U (Rect.unit ![0, 512] ![1024, 512] inb_S1024x2816_S1024x512_0_512)))
            (k0_pay16 (k0_pay10 X (View.ld G (Rect.unit ![0, 0] ![1024, 512] inb_S1024x2816_S1024x512_0_0))) (k0_pay11 X (View.ld U (Rect.unit ![0, 0] ![1024, 512] inb_S1024x2816_S1024x512_0_0))) (View.ld D (Rect.unit ![0, 0] ![512, 1024] inb_S2816x1024_S512x1024_0_0)))
            (View.ld D (Rect.unit ![512, 0] ![512, 1024] inb_S2816x1024_S512x1024_512_0)))
          (View.ld D (Rect.unit ![1024, 0] ![512, 1024] inb_S2816x1024_S512x1024_1024_0)))
        (k0_pay31 (k0_pay9 X) (View.ld G (Rect.unit ![0, 2048] ![1024, 512] inb_S1024x2816_S1024x512_0_2048))) (k0_pay32 (k0_pay9 X) (View.ld U (Rect.unit ![0, 2048] ![1024, 512] inb_S1024x2816_S1024x512_0_2048)))
        (k0_pay33 (k0_pay9 X) (k0_pay26 (k0_pay9 X) (View.ld G (Rect.unit ![0, 1536] ![1024, 512] inb_S1024x2816_S1024x512_0_1536))) (View.ld U (Rect.unit ![0, 1536] ![1024, 512] inb_S1024x2816_S1024x512_0_1536)) (constant S256x512 .f32 0x00000000#32))
        (View.ld D (Rect.unit ![1536, 0] ![512, 1024] inb_S2816x1024_S512x1024_1536_0)) (View.ld D (Rect.unit ![2048, 0] ![512, 1024] inb_S2816x1024_S512x1024_2048_0)))
      (View.ld D (Rect.unit ![2560, 0] ![256, 1024] inb_S2816x1024_S256x1024_2560_0))

/-- A row's residual sum as the kernel scales it. -/
def zrow (X : Fin 1024 → EReal) (G U : FVec Ideal S1024x2816 .bf16) (D : FVec Ideal S2816x1024 .bf16) (j : Fin 1024) : EReal :=
  X j + hoa * ffn X G U D j

set_option maxHeartbeats 2000000 in
theorem zA_at (X : Vec Ideal S256x1024 .f32) (G U : Vec Ideal S1024x2816 .bf16) (D : Vec Ideal S2816x1024 .bf16) (i : Fin 256) (j : Fin 1024) :
    zA X G U D (ix2 i j) = zrow (fun k => X (ix2 i k)) G U D j := by
  unfold zrow ffn zA
  rw [sum_six]
  pointwise [k0_pay37, k0_pay28, k0_pay29, k0_pay30, k0_pay23, k0_pay24, k0_pay25, k0_pay13, k0_pay6, k0_pay7, k0_pay8, k0_pay17, k0_pay18, k0_pay19, k0_pay12, k0_pay5, act]
  simp only [named_half]

theorem muA_at (X : Vec Ideal S256x1024 .f32) (G U : Vec Ideal S1024x2816 .bf16) (D : Vec Ideal S2816x1024 .bf16) (i : Fin 256) (j : Fin 1) :
    muA X G U D (ix2 i j) = mean (fun j => zrow (fun k => X (ix2 i k)) G U D j) := by
  unfold mean muA
  simp only [← zA_at]
  pointwise [k0_pay38]

set_option maxHeartbeats 2000000 in
theorem fB_at (X : Vec Ideal S256x1024 .f32) (G U : Vec Ideal S1024x2816 .bf16) (D : Vec Ideal S2816x1024 .bf16) (i : Fin 256) (j : Fin 1024) :
    fB X G U D (ix2 i j) = ffn (fun k => X (ix2 i k)) G U D j := by
  unfold ffn fB
  rw [sum_six]
  pointwise [k0_pay42, k0_pay34, k0_pay35, k0_pay36, k0_pay27, k0_pay20, k0_pay21, k0_pay22, k0_pay14, k0_pay15, k0_pay16, k0_pay10, k0_pay11, k0_pay31, k0_pay32, k0_pay33, k0_pay26, k0_pay9, act]

/-- The normalized row as the kernel computes it. -/
def hrow (X : Fin 1024 → EReal) (G U : FVec Ideal S1024x2816 .bf16) (D : FVec Ideal S2816x1024 .bf16) (g b : FVec Ideal S1x1024 .f32) (j : Fin 1024) : EReal :=
  ln eoa (zrow X G U D) (fun j => g (ix2 0 j)) (fun j => b (ix2 0 j)) j

theorem hA_at (X : Vec Ideal S256x1024 .f32) (G U : Vec Ideal S1024x2816 .bf16) (D : Vec Ideal S2816x1024 .bf16) (g b : Vec Ideal S1x1024 .f32) (i : Fin 256) (j : Fin 1024) :
    k0_pay39 g b (zA X G U D) (muA X G U D) (ix2 i j) = hrow (fun k => X (ix2 i k)) G U D g b j := by
  unfold hrow ln
  have hz := zA_at X G U D
  have hm := muA_at X G U D
  generalize zA X G U D = Z at hz ⊢
  generalize muA X G U D = M at hm ⊢
  pointwise [k0_pay39]
  simp only [hz, hm, named_eps, mean]

theorem hB_at (X : Vec Ideal S256x1024 .f32) (G U : Vec Ideal S1024x2816 .bf16) (D : Vec Ideal S2816x1024 .bf16) (g b : Vec Ideal S1x1024 .f32) (i : Fin 256) (j : Fin 1024) :
    k0_pay44 (fB X G U D) X g b (ix2 i j) = hrow (fun k => X (ix2 i k)) G U D g b j := by
  unfold hrow ln
  have hz := fB_at X G U D
  generalize fB X G U D = Z at hz ⊢
  pointwise [k0_pay44]
  simp only [hz, named_eps, named_half, mean, zrow]

theorem pA0 (X : Vec Ideal S256x1024 .f32) (G U : Vec Ideal S1024x2816 .bf16) (D : Vec Ideal S2816x1024 .bf16) (g b : Vec Ideal S1x1024 .f32) (W : Vec Ideal S1024x1024 .bf16) (i : Fin 256) (j : Fin 1024) :
    k0_pay41 g b (zA X G U D) (muA X G U D) W (ix2 i j) = ∑ k : Fin 1024, hrow (fun k => X (ix2 i k)) G U D g b k * W (ix2 k j) := by
  have hh := hA_at X G U D g b
  generalize zA X G U D = Z at hh ⊢
  generalize muA X G U D = M at hh ⊢
  simp only [← hh]
  pointwise [k0_pay41, k0_pay40]

theorem pA1 (X : Vec Ideal S256x1024 .f32) (G U : Vec Ideal S1024x2816 .bf16) (D : Vec Ideal S2816x1024 .bf16) (g b : Vec Ideal S1x1024 .f32) (W : Vec Ideal S1024x1024 .bf16) (i : Fin 256) (j : Fin 1024) :
    k0_pay43 g b (zA X G U D) (muA X G U D) W (ix2 i j) = ∑ k : Fin 1024, hrow (fun k => X (ix2 i k)) G U D g b k * W (ix2 k j) := by
  have hh := hA_at X G U D g b
  generalize zA X G U D = Z at hh ⊢
  generalize muA X G U D = M at hh ⊢
  simp only [← hh]
  pointwise [k0_pay43, k0_pay40]

theorem pA2 (X : Vec Ideal S256x1024 .f32) (G U : Vec Ideal S1024x2816 .bf16) (D : Vec Ideal S2816x1024 .bf16) (g b : Vec Ideal S1x1024 .f32) (W : Vec Ideal S1024x1024 .bf16) (i : Fin 256) (j : Fin 1024) :
    k0_pay47 (k0_pay40 g b (zA X G U D) (muA X G U D)) W (ix2 i j) = ∑ k : Fin 1024, hrow (fun k => X (ix2 i k)) G U D g b k * W (ix2 k j) := by
  have hh := hA_at X G U D g b
  generalize zA X G U D = Z at hh ⊢
  generalize muA X G U D = M at hh ⊢
  simp only [← hh]
  pointwise [k0_pay47, k0_pay40]

theorem pA3 (X : Vec Ideal S256x1024 .f32) (G U : Vec Ideal S1024x2816 .bf16) (D : Vec Ideal S2816x1024 .bf16) (g b : Vec Ideal S1x1024 .f32) (W : Vec Ideal S1024x128 .bf16) (i : Fin 256) (j : Fin 128) :
    k0_pay2 (k0_pay40 g b (zA X G U D) (muA X G U D)) W (ix2 i j) = ∑ k : Fin 1024, hrow (fun k => X (ix2 i k)) G U D g b k * W (ix2 k j) := by
  have hh := hA_at X G U D g b
  generalize zA X G U D = Z at hh ⊢
  generalize muA X G U D = M at hh ⊢
  simp only [← hh]
  pointwise [k0_pay2, k0_pay40]

theorem pB0 (X : Vec Ideal S256x1024 .f32) (G U : Vec Ideal S1024x2816 .bf16) (D : Vec Ideal S2816x1024 .bf16) (g b : Vec Ideal S1x1024 .f32) (W : Vec Ideal S1024x1024 .bf16) (i : Fin 256) (j : Fin 1024) :
    k0_pay46 (fB X G U D) X g b W (ix2 i j) = ∑ k : Fin 1024, hrow (fun k => X (ix2 i k)) G U D g b k * W (ix2 k j) := by
  have hh := hB_at X G U D g b
  generalize fB X G U D = Z at hh ⊢
  simp only [← hh]
  pointwise [k0_pay46, k0_pay45]

theorem pB1 (X : Vec Ideal S256x1024 .f32) (G U : Vec Ideal S1024x2816 .bf16) (D : Vec Ideal S2816x1024 .bf16) (g b : Vec Ideal S1x1024 .f32) (W : Vec Ideal S1024x1024 .bf16) (i : Fin 256) (j : Fin 1024) :
    k0_pay1 (k0_pay45 (fB X G U D) X g b) W (ix2 i j) = ∑ k : Fin 1024, hrow (fun k => X (ix2 i k)) G U D g b k * W (ix2 k j) := by
  have hh := hB_at X G U D g b
  generalize fB X G U D = Z at hh ⊢
  simp only [← hh]
  pointwise [k0_pay1, k0_pay45]

theorem pB2 (X : Vec Ideal S256x1024 .f32) (G U : Vec Ideal S1024x2816 .bf16) (D : Vec Ideal S2816x1024 .bf16) (g b : Vec Ideal S1x1024 .f32) (W : Vec Ideal S1024x1024 .bf16) (i : Fin 256) (j : Fin 1024) :
    k0_pay3 (k0_pay45 (fB X G U D) X g b) W (ix2 i j) = ∑ k : Fin 1024, hrow (fun k => X (ix2 i k)) G U D g b k * W (ix2 k j) := by
  have hh := hB_at X G U D g b
  generalize fB X G U D = Z at hh ⊢
  simp only [← hh]
  pointwise [k0_pay3, k0_pay45]

theorem pB3 (X : Vec Ideal S256x1024 .f32) (G U : Vec Ideal S1024x2816 .bf16) (D : Vec Ideal S2816x1024 .bf16) (g b : Vec Ideal S1x1024 .f32) (W : Vec Ideal S1024x128 .bf16) (i : Fin 256) (j : Fin 128) :
    k0_pay4 (k0_pay45 (fB X G U D) X g b) W (ix2 i j) = ∑ k : Fin 1024, hrow (fun k => X (ix2 i k)) G U D g b k * W (ix2 k j) := by
  have hh := hB_at X G U D g b
  generalize fB X G U D = Z at hh ⊢
  simp only [← hh]
  pointwise [k0_pay4, k0_pay45]

end Cert.FfnProjIdeal.Value
-- ==== Proof.FfnProjBlocks.lean ====
module

public import proofs.«01_k».proof.Proof.FfnProjRows

@[expose] public section

set_option maxRecDepth 16384
noncomputable section
open Idealize.ShloMosaic Idealize.ShloMosaic.TcCoe Idealize.SL.Sem
open Idealize.ShloMosaic.Pipeline (Dat)
namespace Cert.FfnProjIdeal.Value
open Cert.FfnProjIdeal Cert.FfnProjIdeal.Gen Cert.RowMath
variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ t.val < 64 :=
  (by decide +kernel : ∀ t : Fin grid0.N, _)

/-- The first result as one function of the arguments. -/
def H (x : FVec Ideal S32768x1024 .f32) (G U : FVec Ideal S1024x2816 .bf16) (D : FVec Ideal S2816x1024 .bf16) (g b : FVec Ideal S1x1024 .f32) :
    FVec Ideal S32768x1024 .f32 := fun i => hrow (fun k => x (ix2 (i 0 : Fin 32768) k)) G U D g b (i 1 : Fin 1024)

/-- The second result as one function of the arguments. -/
def Pj (x : FVec Ideal S32768x1024 .f32) (G U : FVec Ideal S1024x2816 .bf16) (D : FVec Ideal S2816x1024 .bf16) (g b : FVec Ideal S1x1024 .f32)
    (w : FVec Ideal S1024x3200 .bf16) : FVec Ideal S32768x3200 .f32 :=
  fun i => ∑ k : Fin 1024, hrow (fun k => x (ix2 (i 0 : Fin 32768) k)) G U D g b k * w (ix2 k (i 1 : Fin 3200))

theorem blk1 (c : Dev nD) (t : Fin cfg0.N) : (iblk m c 1 t : Vec Ideal S1024x2816 .bf16) = m ((c : Thread nD τ).loc main_arg1) := by
  blk_ext! [iblk, V, idx t]
theorem blk2 (c : Dev nD) (t : Fin cfg0.N) : (iblk m c 2 t : Vec Ideal S1024x2816 .bf16) = m ((c : Thread nD τ).loc main_arg2) := by
  blk_ext! [iblk, V, idx t]
theorem blk3 (c : Dev nD) (t : Fin cfg0.N) : (iblk m c 3 t : Vec Ideal S2816x1024 .bf16) = m ((c : Thread nD τ).loc main_arg3) := by
  blk_ext! [iblk, V, idx t]
theorem blk4 (c : Dev nD) (t : Fin cfg0.N) : (iblk m c 4 t : Vec Ideal S1x1024 .f32) = m ((c : Thread nD τ).loc main_arg4) := by
  blk_ext! [iblk, V, idx t]
theorem blk5 (c : Dev nD) (t : Fin cfg0.N) : (iblk m c 5 t : Vec Ideal S1x1024 .f32) = m ((c : Thread nD τ).loc main_arg5) := by
  blk_ext! [iblk, V, idx t]
theorem blk6 (c : Dev nD) (t : Fin cfg0.N) : (iblk m c 6 t : Vec Ideal S1024x3200 .bf16) = m ((c : Thread nD τ).loc main_arg6) := by
  blk_ext! [iblk, V, idx t]

/-- A row of the point's block of the first argument is a row of the argument. -/
theorem xrow (c : Dev nD) (t : Fin cfg0.N) (r : Fin 512) (R : Fin 32768) (hR : (R : ℕ) = t.val * 512 + r) :
    (fun k : Fin 1024 => (iblk m c 0 t : Vec Ideal S512x1024 .f32) (ix2 r k)) = fun k : Fin 1024 => (m ((c : Thread nD τ).loc main_arg0) : FVec Ideal S32768x1024 .f32) (ix2 R k) := by
  funext k
  blk_ext [iblk, V, idx t]

theorem ld_top (x : Vec Ideal S512x1024 .f32) (i : Fin 256) :
    (fun k : Fin 1024 => View.ld x (Rect.unit ![0, 0] ![256, 1024] inb_S512x1024_S256x1024_0_0) (ix2 i k)) = fun k : Fin 1024 => x (ix2 ⟨i, by omega⟩ k) := by
  funext k; pointwise; blk_ext
theorem ld_bot (x : Vec Ideal S512x1024 .f32) (i : Fin 256) :
    (fun k : Fin 1024 => View.ld x (Rect.unit ![256, 0] ![256, 1024] inb_S512x1024_S256x1024_256_0) (ix2 i k)) = fun k : Fin 1024 => x (ix2 ⟨256 + i, by omega⟩ k) := by
  funext k; pointwise; blk_ext

theorem congr_hrow (x : Vec Ideal S512x1024 .f32) (G U : Vec Ideal S1024x2816 .bf16) (D : Vec Ideal S2816x1024 .bf16) (g b : Vec Ideal S1x1024 .f32)
    {r r' : Fin 512} {j j' : Fin 1024} (hr : r = r') (hj : j = j') :
    hrow (fun k => x (ix2 r k)) G U D g b j = hrow (fun k => x (ix2 r' k)) G U D g b j' := by rw [hr, hj]

theorem point7 (c : Dev nD) (t : Fin cfg0.N) (y : S512x1024.Idx) :
    (outsAt0 m c t).1 y = hrow (fun k => (iblk m c 0 t : Vec Ideal S512x1024 .f32) (ix2 (y 0 : Fin 512) k)) (m ((c : Thread nD τ).loc main_arg1)) (m ((c : Thread nD τ).loc main_arg2))
      (m ((c : Thread nD τ).loc main_arg3)) (m ((c : Thread nD τ).loc main_arg4)) (m ((c : Thread nD τ).loc main_arg5)) (y 1 : Fin 1024) := by
  unfold outsAt0
  frame_out
  rw [blk1 m c t, blk2 m c t, blk3 m c t, blk4 m c t, blk5 m c t]
  canon_tiles x h
  · idx_vars x
    refine (hB_at _ _ _ _ _ _ _ _).trans ?_
    rw [ld_bot]
    exact congr_hrow _ _ _ _ _ _ (Fin.ext (by simpa using h0.symm)) (Fin.ext (by simpa using h1.symm))
  · idx_vars x
    refine (hA_at _ _ _ _ _ _ _ _).trans ?_
    rw [ld_top]
    exact congr_hrow _ _ _ _ _ _ (Fin.ext (by simpa using h0.symm)) (Fin.ext (by simpa using h1.symm))

theorem canon_miss {a b h w : ℕ} (inb) (W) (L) (y : S512x3200.Idx) (hm : (y 0 : ℕ) < a ∨ a + h ≤ (y 0 : ℕ) ∨ (y 1 : ℕ) < b ∨ b + w ≤ (y 1 : ℕ)) :
    View.canon (Val := Elt Ideal) (e := .f32) (⟨Rect.unit (s := S512x3200) ![a, b] ![h, w] inb, W⟩ :: L) y = View.canon L y := by
  refine View.canon_cons_of_not_mem _ L ?_
  rcases hm with h0 | h0 | h1 | h1
  · exact Rect.not_mem_set_of_axis _ y 0 a h rfl rfl rfl (.inl h0)
  · exact Rect.not_mem_set_of_axis _ y 0 a h rfl rfl rfl (.inr h0)
  · exact Rect.not_mem_set_of_axis _ y 1 b w rfl rfl rfl (.inl h1)
  · exact Rect.not_mem_set_of_axis _ y 1 b w rfl rfl rfl (.inr h1)

theorem canon_hit {a b h w : ℕ} (inb) (W) (L) (y : S512x3200.Idx) (i : Fin h) (j : Fin w) (h0 : (y 0 : ℕ) = a + i) (h1 : (y 1 : ℕ) = b + j) :
    View.canon (Val := Elt Ideal) (e := .f32) (⟨Rect.unit (s := S512x3200) ![a, b] ![h, w] inb, W⟩ :: L) y = W (ix2 i j) := by
  have : (Rect.unit (s := S512x3200) ![a, b] ![h, w] inb).emb (ix2 i j) = y := by
    funext ax
    apply Fin.ext
    match ax with
    | ⟨0, _⟩ => rw [show ((y ⟨0, _⟩ : Fin _) : ℕ) = (y 0 : ℕ) from rfl, h0]; show a + 1 * (i : ℕ) = _; omega
    | ⟨1, _⟩ => rw [show ((y ⟨1, _⟩ : Fin _) : ℕ) = (y 1 : ℕ) from rfl, h1]; show b + 1 * (j : ℕ) = _; omega
  rw [← this, View.canon_cons_emb]

set_option maxHeartbeats 2000000 in
theorem point8 (c : Dev nD) (t : Fin cfg0.N) (y : S512x3200.Idx) :
    (outsAt0 m c t).2 y = ∑ k : Fin 1024, hrow (fun k => (iblk m c 0 t : Vec Ideal S512x1024 .f32) (ix2 (y 0 : Fin 512) k)) (m ((c : Thread nD τ).loc main_arg1)) (m ((c : Thread nD τ).loc main_arg2))
      (m ((c : Thread nD τ).loc main_arg3)) (m ((c : Thread nD τ).loc main_arg4)) (m ((c : Thread nD τ).loc main_arg5)) k
      * (m ((c : Thread nD τ).loc main_arg6) : FVec Ideal S1024x3200 .bf16) (ix2 k (y 1 : Fin 3200)) := by
  unfold outsAt0
  frame_out
  rw [blk1 m c t, blk2 m c t, blk3 m c t, blk4 m c t, blk5 m c t, blk6 m c t]
  have hy0 : (y 0 : ℕ) < 512 := (y 0).isLt
  have hy1 : (y 1 : ℕ) < 3200 := (y 1).isLt
  rcases lt_or_ge (y 0 : ℕ) 256 with hr | hr <;> rcases lt_or_ge (y 1 : ℕ) 1024 with hc | hc
  · -- columns 0..1023
    obtain ⟨i, hi⟩ : ∃ i : Fin 256, (y 0 : ℕ) = 0 + i := ⟨⟨(y 0 : ℕ) - 0, by omega⟩, by simp <;> omega⟩
    obtain ⟨j, hj⟩ : ∃ j : Fin 1024, (y 1 : ℕ) = 0 + j := ⟨⟨(y 1 : ℕ) - 0, by omega⟩, by simp <;> omega⟩
    rw [canon_miss _ _ _ _ (by omega)]
    rw [canon_miss _ _ _ _ (by omega)]
    rw [canon_miss _ _ _ _ (by omega)]
    rw [canon_miss _ _ _ _ (by omega)]
    rw [canon_miss _ _ _ _ (by omega)]
    rw [canon_miss _ _ _ _ (by omega)]
    rw [canon_miss _ _ _ _ (by omega)]
    rw [canon_hit _ _ _ _ i j hi hj]
    refine (pA0 _ _ _ _ _ _ _ _ _).trans ?_
    rw [ld_top]
    rw [show (⟨(i : ℕ), by omega⟩ : Fin 512) = (y 0 : Fin 512) from Fin.ext (by simp <;> omega)]
    refine Finset.sum_congr rfl fun k _ => ?_
    congr 1
    pointwise
    blk_ext
  · rcases lt_or_ge (y 1 : ℕ) 2048 with hd | hd
    · obtain ⟨i, hi⟩ : ∃ i : Fin 256, (y 0 : ℕ) = 0 + i := ⟨⟨(y 0 : ℕ) - 0, by omega⟩, by simp <;> omega⟩
      obtain ⟨j, hj⟩ : ∃ j : Fin 1024, (y 1 : ℕ) = 1024 + j := ⟨⟨(y 1 : ℕ) - 1024, by omega⟩, by simp <;> omega⟩
      rw [canon_miss _ _ _ _ (by omega)]
      rw [canon_miss _ _ _ _ (by omega)]
      rw [canon_miss _ _ _ _ (by omega)]
      rw [canon_miss _ _ _ _ (by omega)]
      rw [canon_miss _ _ _ _ (by omega)]
      rw [canon_miss _ _ _ _ (by omega)]
      rw [canon_hit _ _ _ _ i j hi hj]
      refine (pA1 _ _ _ _ _ _ _ _ _).trans ?_
      rw [ld_top]
      rw [show (⟨(i : ℕ), by omega⟩ : Fin 512) = (y 0 : Fin 512) from Fin.ext (by simp <;> omega)]
      refine Finset.sum_congr rfl fun k _ => ?_
      congr 1
      pointwise
      blk_ext
    · rcases lt_or_ge (y 1 : ℕ) 3072 with he | he
      · obtain ⟨i, hi⟩ : ∃ i : Fin 256, (y 0 : ℕ) = 0 + i := ⟨⟨(y 0 : ℕ) - 0, by omega⟩, by simp <;> omega⟩
        obtain ⟨j, hj⟩ : ∃ j : Fin 1024, (y 1 : ℕ) = 2048 + j := ⟨⟨(y 1 : ℕ) - 2048, by omega⟩, by simp <;> omega⟩
        rw [canon_miss _ _ _ _ (by omega)]
        rw [canon_miss _ _ _ _ (by omega)]
        rw [canon_miss _ _ _ _ (by omega)]
        rw [canon_miss _ _ _ _ (by omega)]
        rw [canon_hit _ _ _ _ i j hi hj]
        refine (pA2 _ _ _ _ _ _ _ _ _).trans ?_
        rw [ld_top]
        rw [show (⟨(i : ℕ), by omega⟩ : Fin 512) = (y 0 : Fin 512) from Fin.ext (by simp <;> omega)]
        refine Finset.sum_congr rfl fun k _ => ?_
        congr 1
        pointwise
        blk_ext
      · obtain ⟨i, hi⟩ : ∃ i : Fin 256, (y 0 : ℕ) = 0 + i := ⟨⟨(y 0 : ℕ) - 0, by omega⟩, by simp <;> omega⟩
        obtain ⟨j, hj⟩ : ∃ j : Fin 128, (y 1 : ℕ) = 3072 + j := ⟨⟨(y 1 : ℕ) - 3072, by omega⟩, by simp <;> omega⟩
        rw [canon_miss _ _ _ _ (by omega)]
        rw [canon_miss _ _ _ _ (by omega)]
        rw [canon_hit _ _ _ _ i j hi hj]
        refine (pA3 _ _ _ _ _ _ _ _ _).trans ?_
        rw [ld_top]
        rw [show (⟨(i : ℕ), by omega⟩ : Fin 512) = (y 0 : Fin 512) from Fin.ext (by simp <;> omega)]
        refine Finset.sum_congr rfl fun k _ => ?_
        congr 1
        pointwise
        blk_ext
  · -- columns 0..1023
    obtain ⟨i, hi⟩ : ∃ i : Fin 256, (y 0 : ℕ) = 256 + i := ⟨⟨(y 0 : ℕ) - 256, by omega⟩, by simp <;> omega⟩
    obtain ⟨j, hj⟩ : ∃ j : Fin 1024, (y 1 : ℕ) = 0 + j := ⟨⟨(y 1 : ℕ) - 0, by omega⟩, by simp <;> omega⟩
    rw [canon_miss _ _ _ _ (by omega)]
    rw [canon_miss _ _ _ _ (by omega)]
    rw [canon_miss _ _ _ _ (by omega)]
    rw [canon_miss _ _ _ _ (by omega)]
    rw [canon_miss _ _ _ _ (by omega)]
    rw [canon_hit _ _ _ _ i j hi hj]
    refine (pB0 _ _ _ _ _ _ _ _ _).trans ?_
    rw [ld_bot]
    rw [show (⟨256 + (i : ℕ), by omega⟩ : Fin 512) = (y 0 : Fin 512) from Fin.ext (by simp <;> omega)]
    refine Finset.sum_congr rfl fun k _ => ?_
    congr 1
    pointwise
    blk_ext
  · rcases lt_or_ge (y 1 : ℕ) 2048 with hd | hd
    · obtain ⟨i, hi⟩ : ∃ i : Fin 256, (y 0 : ℕ) = 256 + i := ⟨⟨(y 0 : ℕ) - 256, by omega⟩, by simp <;> omega⟩
      obtain ⟨j, hj⟩ : ∃ j : Fin 1024, (y 1 : ℕ) = 1024 + j := ⟨⟨(y 1 : ℕ) - 1024, by omega⟩, by simp <;> omega⟩
      rw [canon_miss _ _ _ _ (by omega)]
      rw [canon_miss _ _ _ _ (by omega)]
      rw [canon_miss _ _ _ _ (by omega)]
      rw [canon_hit _ _ _ _ i j hi hj]
      refine (pB1 _ _ _ _ _ _ _ _ _).trans ?_
      rw [ld_bot]
      rw [show (⟨256 + (i : ℕ), by omega⟩ : Fin 512) = (y 0 : Fin 512) from Fin.ext (by simp <;> omega)]
      refine Finset.sum_congr rfl fun k _ => ?_
      congr 1
      pointwise
      blk_ext
    · rcases lt_or_ge (y 1 : ℕ) 3072 with he | he
      · obtain ⟨i, hi⟩ : ∃ i : Fin 256, (y 0 : ℕ) = 256 + i := ⟨⟨(y 0 : ℕ) - 256, by omega⟩, by simp <;> omega⟩
        obtain ⟨j, hj⟩ : ∃ j : Fin 1024, (y 1 : ℕ) = 2048 + j := ⟨⟨(y 1 : ℕ) - 2048, by omega⟩, by simp <;> omega⟩
        rw [canon_miss _ _ _ _ (by omega)]
        rw [canon_hit _ _ _ _ i j hi hj]
        refine (pB2 _ _ _ _ _ _ _ _ _).trans ?_
        rw [ld_bot]
        rw [show (⟨256 + (i : ℕ), by omega⟩ : Fin 512) = (y 0 : Fin 512) from Fin.ext (by simp <;> omega)]
        refine Finset.sum_congr rfl fun k _ => ?_
        congr 1
        pointwise
        blk_ext
      · obtain ⟨i, hi⟩ : ∃ i : Fin 256, (y 0 : ℕ) = 256 + i := ⟨⟨(y 0 : ℕ) - 256, by omega⟩, by simp <;> omega⟩
        obtain ⟨j, hj⟩ : ∃ j : Fin 128, (y 1 : ℕ) = 3072 + j := ⟨⟨(y 1 : ℕ) - 3072, by omega⟩, by simp <;> omega⟩
        rw [canon_hit _ _ _ _ i j hi hj]
        refine (pB3 _ _ _ _ _ _ _ _ _).trans ?_
        rw [ld_bot]
        rw [show (⟨256 + (i : ℕ), by omega⟩ : Fin 512) = (y 0 : Fin 512) from Fin.ext (by simp <;> omega)]
        refine Finset.sum_congr rfl fun k _ => ?_
        congr 1
        pointwise
        blk_ext

theorem final7 (c : Dev nD) : (dats m 0 c).arrAt 7 (cfgs 0).N
    = H (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, point7 m c t y]
  unfold H
  rw [xrow m c t (y 0) ((((cfg0.win 7).blk t).view.emb y) 0) (by blk_simp [idx t])]
  congr 1
  apply Fin.ext
  blk_simp [idx t]

theorem final8 (c : Dev nD) : (dats m 0 c).arrAt 8 (cfgs 0).N
    = Pj (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8, point8 m c t y]
  unfold Pj
  rw [xrow m c t (y 0) ((((cfg0.win 8).blk t).view.emb y) 0) (by blk_simp [idx t])]
  have hcol : (y 1 : Fin 3200) = ((((cfg0.win 8).blk t).view.emb y) 1 : Fin 3200) := by
    apply Fin.ext
    blk_simp [idx t]
  rw [hcol]

end Cert.FfnProjIdeal.Value
-- ==== Proof.FfnProjRef.lean ====
module

public import proofs.«01_k».proof.Proof.Gen.FfnProjRefIdeal.Run
public import proofs.«01_k».proof.Proof.RowMath
public import Idealize.ShloMosaic.Lib.Pipeline.ValueKit

@[expose] public section

set_option maxRecDepth 16384
noncomputable section
open Idealize.ShloMosaic Idealize.ShloMosaic.TcCoe Idealize.SL.Sem
namespace Cert.FfnProjRefIdeal.Value
open Cert.FfnProjRefIdeal Cert.FfnProjRefIdeal.Gen Cert.RowMath

/-- The reference's first result at one row: the layer normalization of the scaled row plus half its feed-forward product. -/
def rrow (X : Fin 1024 → EReal) (G U : FVec Ideal S1024x2816 .bf16) (D : FVec Ideal S2816x1024 .bf16) (g b : FVec Ideal S1x1024 .f32) (j : Fin 1024) : EReal :=
  ln (Ideal.div 1 (Ideal.ofBits .f32 0x47C35000#32))
    (fun j => Ideal.sqrt (Ideal.sqrt (Ideal.ofBits .f32 0x40000000#32)) * X j + Ideal.ofBits .f32 0x3F000000#32 *
      ∑ f : Fin 2816, actS (∑ k : Fin 1024, X k * G (ix2 k f)) (∑ k : Fin 1024, X k * U (ix2 k f)) * D (ix2 f j))
    (fun j => g (ix2 0 j)) (fun j => b (ix2 0 j)) j

theorem ref_h (m : (ℓ : Loc nD τ sig) → Buf (Elt Ideal) ℓ) (c : Dev nD) (r : Fin 32768) (j : Fin 1024) :
    (res_main_v38 m c : FVec Ideal S32768x1024 .f32) (ix2 r j) = rrow (fun k => (m ((c : Thread nD τ).loc main_arg0) : FVec Ideal S32768x1024 .f32) (ix2 r k)) (m ((c : Thread nD τ).loc main_arg1)) (m ((c : Thread nD τ).loc main_arg2)) (m ((c : Thread nD τ).loc main_arg3)) (m ((c : Thread nD τ).loc main_arg4)) (m ((c : Thread nD τ).loc main_arg5)) j := by
  unfold rrow ln mean actS
  pointwise [res_main_v38]
theorem ref_p (m : (ℓ : Loc nD τ sig) → Buf (Elt Ideal) ℓ) (c : Dev nD) (r : Fin 32768) (j : Fin 3200) :
    (res_main_v39 m c : FVec Ideal S32768x3200 .f32) (ix2 r j) = ∑ k : Fin 1024, rrow (fun k => (m ((c : Thread nD τ).loc main_arg0) : FVec Ideal S32768x1024 .f32) (ix2 r k)) (m ((c : Thread nD τ).loc main_arg1)) (m ((c : Thread nD τ).loc main_arg2)) (m ((c : Thread nD τ).loc main_arg3)) (m ((c : Thread nD τ).loc main_arg4)) (m ((c : Thread nD τ).loc main_arg5)) k * (m ((c : Thread nD τ).loc main_arg6) : FVec Ideal S1024x3200 .bf16) (ix2 k j) := by
  unfold rrow ln mean actS
  pointwise [res_main_v39]
end Cert.FfnProjRefIdeal.Value
-- ==== Proof.FfnProjEq.lean ====
module

public import proofs.«01_k».proof.Proof.FfnProjBlocks
public import proofs.«01_k».proof.Proof.FfnProjRef
public import proofs.«01_k».proof.Proof.Gen.Pre_finite2

@[expose] public section

set_option maxRecDepth 16384
noncomputable section
open Idealize.ShloMosaic Idealize.ShloMosaic.TcCoe
namespace Cert.FfnProjEq
open Cert.RowMath Cert.FfnProjIdeal Cert.FfnProjIdeal.Value Cert.FfnProjRefIdeal.Value

/-- On a real row and a real gate matrix the kernel's row is the reference's. -/
theorem row_eq (X : Fin 1024 → EReal) (G U : FVec Ideal S1024x2816 .bf16) (D : FVec Ideal S2816x1024 .bf16) (g b : FVec Ideal S1x1024 .f32) (j : Fin 1024)
    (hX : ∀ k, ∃ r : ℝ, X k = r) (hG : ∀ k f, ∃ r : ℝ, G (ix2 k f) = (r : EReal)) : hrow X G U D g b j = rrow X G U D g b j := by
  have hF : ∀ j, ffn X G U D j = ∑ f : Fin 2816, actS (∑ k : Fin 1024, X k * G (ix2 k f)) (∑ k : Fin 1024, X k * U (ix2 k f)) * D (ix2 f j) := fun j => by
    unfold ffn
    refine Finset.sum_congr rfl fun f _ => ?_
    obtain ⟨p, hp⟩ := sum_real X (fun k => G (ix2 k f)) hX (fun k => hG k f)
    simp only [hp, act_eq]
  have hz : zrow X G U D = fun j => X j + hoa * ∑ f : Fin 2816, actS (∑ k : Fin 1024, X k * G (ix2 k f)) (∑ k : Fin 1024, X k * U (ix2 k f)) * D (ix2 f j) := by
    funext j
    unfold zrow
    rw [hF]
  unfold hrow rrow
  rw [hz, deepnorm]

/-- A value whose magnitude is below the infinite one is a real. -/
theorem real_of_lt (x : EReal) (h : Ideal.cmp .olt (max x (-x)) (Ideal.ofBits .f32 0x7F800000#32) = 1#1) : ∃ r : ℝ, x = r := by
  induction x using EReal.rec with
  | coe r => exact ⟨r, rfl⟩
  | bot => simp [Ideal.cmp, Ideal.ofBits, Ideal.ieee] at h
  | top => simp [Ideal.cmp, Ideal.ofBits, Ideal.ieee] at h

/-- The precondition makes every entry of the row and of the gate matrix a real. -/
theorem finite_args (x : FVec Ideal S32768x1024 .f32) (G U : FVec Ideal S1024x2816 .bf16) (D : FVec Ideal S2816x1024 .bf16) (g b : FVec Ideal S1x1024 .f32) (w : FVec Ideal S1024x3200 .bf16)
    (h : (Cert.Pre_finite2.fn (F := Ideal) x G U D g b w).1 = (fun _ => 1#1) ∧ (Cert.Pre_finite2.fn (F := Ideal) x G U D g b w).2 = (fun _ => 1#1)) :
    (∀ r k, ∃ v : ℝ, x (ix2 r k) = (v : EReal)) ∧ ∀ k f, ∃ v : ℝ, G (ix2 k f) = (v : EReal) :=
  ⟨fun r k => real_of_lt _ (congrFun h.1 (ix2 r k)), fun k f => real_of_lt _ (congrFun h.2 (ix2 k f))⟩

/-- The arguments of the two programs agree on a device. -/
abbrev Agree (m : (ℓ : Loc Cert.FfnProjIdeal.nD Cert.FfnProjIdeal.τ Cert.FfnProjIdeal.sig) → Buf (Elt Ideal) ℓ)
    (m' : (ℓ : Loc Cert.FfnProjRefIdeal.nD Cert.FfnProjRefIdeal.τ Cert.FfnProjRefIdeal.sig) → Buf (Elt Ideal) ℓ) (c : Dev Cert.FfnProjIdeal.nD) : Prop :=
  m' ((c.tc : Thread Cert.FfnProjRefIdeal.nD Cert.FfnProjRefIdeal.τ).loc Cert.FfnProjRefIdeal.main_arg0) = m ((c.tc : Thread Cert.FfnProjIdeal.nD Cert.FfnProjIdeal.τ).loc Cert.FfnProjIdeal.main_arg0)
  ∧ m' ((c.tc : Thread Cert.FfnProjRefIdeal.nD Cert.FfnProjRefIdeal.τ).loc Cert.FfnProjRefIdeal.main_arg1) = m ((c.tc : Thread Cert.FfnProjIdeal.nD Cert.FfnProjIdeal.τ).loc Cert.FfnProjIdeal.main_arg1)
  ∧ m' ((c.tc : Thread Cert.FfnProjRefIdeal.nD Cert.FfnProjRefIdeal.τ).loc Cert.FfnProjRefIdeal.main_arg2) = m ((c.tc : Thread Cert.FfnProjIdeal.nD Cert.FfnProjIdeal.τ).loc Cert.FfnProjIdeal.main_arg2)
  ∧ m' ((c.tc : Thread Cert.FfnProjRefIdeal.nD Cert.FfnProjRefIdeal.τ).loc Cert.FfnProjRefIdeal.main_arg3) = m ((c.tc : Thread Cert.FfnProjIdeal.nD Cert.FfnProjIdeal.τ).loc Cert.FfnProjIdeal.main_arg3)
  ∧ m' ((c.tc : Thread Cert.FfnProjRefIdeal.nD Cert.FfnProjRefIdeal.τ).loc Cert.FfnProjRefIdeal.main_arg4) = m ((c.tc : Thread Cert.FfnProjIdeal.nD Cert.FfnProjIdeal.τ).loc Cert.FfnProjIdeal.main_arg4)
  ∧ m' ((c.tc : Thread Cert.FfnProjRefIdeal.nD Cert.FfnProjRefIdeal.τ).loc Cert.FfnProjRefIdeal.main_arg5) = m ((c.tc : Thread Cert.FfnProjIdeal.nD Cert.FfnProjIdeal.τ).loc Cert.FfnProjIdeal.main_arg5)
  ∧ m' ((c.tc : Thread Cert.FfnProjRefIdeal.nD Cert.FfnProjRefIdeal.τ).loc Cert.FfnProjRefIdeal.main_arg6) = m ((c.tc : Thread Cert.FfnProjIdeal.nD Cert.FfnProjIdeal.τ).loc Cert.FfnProjIdeal.main_arg6)

section
variable (m : (ℓ : Loc Cert.FfnProjIdeal.nD Cert.FfnProjIdeal.τ Cert.FfnProjIdeal.sig) → Buf (Elt Ideal) ℓ)
  (m' : (ℓ : Loc Cert.FfnProjRefIdeal.nD Cert.FfnProjRefIdeal.τ Cert.FfnProjRefIdeal.sig) → Buf (Elt Ideal) ℓ) (c : Dev Cert.FfnProjIdeal.nD)
  (hpre : (Cert.Pre_finite2.fn (F := Ideal) (m ((c.tc : Thread Cert.FfnProjIdeal.nD Cert.FfnProjIdeal.τ).loc Cert.FfnProjIdeal.main_arg0)) (m ((c.tc : Thread Cert.FfnProjIdeal.nD Cert.FfnProjIdeal.τ).loc Cert.FfnProjIdeal.main_arg1)) (m ((c.tc : Thread Cert.FfnProjIdeal.nD Cert.FfnProjIdeal.τ).loc Cert.FfnProjIdeal.main_arg2)) (m ((c.tc : Thread Cert.FfnProjIdeal.nD Cert.FfnProjIdeal.τ).loc Cert.FfnProjIdeal.main_arg3)) (m ((c.tc : Thread Cert.FfnProjIdeal.nD Cert.FfnProjIdeal.τ).loc Cert.FfnProjIdeal.main_arg4)) (m ((c.tc : Thread Cert.FfnProjIdeal.nD Cert.FfnProjIdeal.τ).loc Cert.FfnProjIdeal.main_arg5)) (m ((c.tc : Thread Cert.FfnProjIdeal.nD Cert.FfnProjIdeal.τ).loc Cert.FfnProjIdeal.main_arg6))).1 = (fun _ => 1#1)
    ∧ (Cert.Pre_finite2.fn (F := Ideal) (m ((c.tc : Thread Cert.FfnProjIdeal.nD Cert.FfnProjIdeal.τ).loc Cert.FfnProjIdeal.main_arg0)) (m ((c.tc : Thread Cert.FfnProjIdeal.nD Cert.FfnProjIdeal.τ).loc Cert.FfnProjIdeal.main_arg1)) (m ((c.tc : Thread Cert.FfnProjIdeal.nD Cert.FfnProjIdeal.τ).loc Cert.FfnProjIdeal.main_arg2)) (m ((c.tc : Thread Cert.FfnProjIdeal.nD Cert.FfnProjIdeal.τ).loc Cert.FfnProjIdeal.main_arg3)) (m ((c.tc : Thread Cert.FfnProjIdeal.nD Cert.FfnProjIdeal.τ).loc Cert.FfnProjIdeal.main_arg4)) (m ((c.tc : Thread Cert.FfnProjIdeal.nD Cert.FfnProjIdeal.τ).loc Cert.FfnProjIdeal.main_arg5)) (m ((c.tc : Thread Cert.FfnProjIdeal.nD Cert.FfnProjIdeal.τ).loc Cert.FfnProjIdeal.main_arg6))).2 = (fun _ => 1#1))
  (hagree : Agree m m' c)
include hpre hagree

/-- The reference's first result is the kernel's first array. -/
theorem res0 : (res_main_v38 m' c : FVec Ideal S32768x1024 .f32) = H (m ((c.tc : Thread Cert.FfnProjIdeal.nD Cert.FfnProjIdeal.τ).loc Cert.FfnProjIdeal.main_arg0)) (m ((c.tc : Thread Cert.FfnProjIdeal.nD Cert.FfnProjIdeal.τ).loc Cert.FfnProjIdeal.main_arg1)) (m ((c.tc : Thread Cert.FfnProjIdeal.nD Cert.FfnProjIdeal.τ).loc Cert.FfnProjIdeal.main_arg2))
      (m ((c.tc : Thread Cert.FfnProjIdeal.nD Cert.FfnProjIdeal.τ).loc Cert.FfnProjIdeal.main_arg3)) (m ((c.tc : Thread Cert.FfnProjIdeal.nD Cert.FfnProjIdeal.τ).loc Cert.FfnProjIdeal.main_arg4)) (m ((c.tc : Thread Cert.FfnProjIdeal.nD Cert.FfnProjIdeal.τ).loc Cert.FfnProjIdeal.main_arg5)) := by
  obtain ⟨h0, h1, h2, h3, h4, h5, h6⟩ := hagree
  obtain ⟨hx, hG⟩ := finite_args _ _ _ _ _ _ _ hpre
  funext i
  obtain ⟨r, j, rfl⟩ : ∃ r j, i = ix2 r j := ⟨i 0, i 1, by funext a; fin_cases a <;> rfl⟩
  rw [ref_h m' c r j, h0, h1, h2, h3, h4, h5]
  exact (row_eq _ _ _ _ _ _ _ (hx r) hG).symm

/-- The reference's second result is the kernel's second array. -/
theorem res1 : (res_main_v39 m' c : FVec Ideal S32768x3200 .f32) = Pj (m ((c.tc : Thread Cert.FfnProjIdeal.nD Cert.FfnProjIdeal.τ).loc Cert.FfnProjIdeal.main_arg0)) (m ((c.tc : Thread Cert.FfnProjIdeal.nD Cert.FfnProjIdeal.τ).loc Cert.FfnProjIdeal.main_arg1)) (m ((c.tc : Thread Cert.FfnProjIdeal.nD Cert.FfnProjIdeal.τ).loc Cert.FfnProjIdeal.main_arg2))
      (m ((c.tc : Thread Cert.FfnProjIdeal.nD Cert.FfnProjIdeal.τ).loc Cert.FfnProjIdeal.main_arg3)) (m ((c.tc : Thread Cert.FfnProjIdeal.nD Cert.FfnProjIdeal.τ).loc Cert.FfnProjIdeal.main_arg4)) (m ((c.tc : Thread Cert.FfnProjIdeal.nD Cert.FfnProjIdeal.τ).loc Cert.FfnProjIdeal.main_arg5)) (m ((c.tc : Thread Cert.FfnProjIdeal.nD Cert.FfnProjIdeal.τ).loc Cert.FfnProjIdeal.main_arg6)) := by
  obtain ⟨h0, h1, h2, h3, h4, h5, h6⟩ := hagree
  obtain ⟨hx, hG⟩ := finite_args _ _ _ _ _ _ _ hpre
  funext i
  obtain ⟨r, j, rfl⟩ : ∃ r j, i = ix2 r j := ⟨i 0, i 1, by funext a; fin_cases a <;> rfl⟩
  rw [ref_p m' c r j, h0, h1, h2, h3, h4, h5, h6]
  exact Finset.sum_congr (M := EReal) rfl fun k _ => congrArg (· * _) (row_eq _ _ _ _ _ _ _ (hx r) hG).symm
end

end Cert.FfnProjEq
-- ==== Proof.MixIdealCond.lean ====
module

public import proofs.«01_k».proof.Proof.Gen.MixIdeal.Launch
public import proofs.«01_k».proof.Proof.Gen.MixIdeal.Skeleton
public import proofs.«01_k».proof.Proof.Gen.MixIdeal.Points
public import proofs.«01_k».proof.Proof.Gen.MixIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch is taken at the grid's first point only. -/
abbrev cond0_0 (i : grid0.Coords) : Prop := (Scalar.cmpi .ne (Scalar.extui (Scalar.cmpi .eq (BitVec.ofNat 32 (i 0).val) 0#32)) 0#32) = 1#1

theorem first_iff : ∀ t : Fin cfg0.N, cond0_0 (grid0.coords t) ↔ t.val = 0 :=
  (by decide +kernel : ∀ t : Fin grid0.N, cond0_0 (grid0.coords t) ↔ t.val = 0)

/-- The body's second branch is taken where a sequence starts, every sixteenth point. -/
abbrev cond0_1 (i : grid0.Coords) : Prop := (Scalar.cmpi .ne (Scalar.extui (Scalar.cmpi .eq (Scalar.remsi (BitVec.ofNat 32 (i 0).val) 16#32) 0#32)) 0#32) = 1#1

theorem start_iff : ∀ t : Fin cfg0.N, cond0_1 (grid0.coords t) ↔ t.val % 16 = 0 :=
  (by decide +kernel : ∀ t : Fin grid0.N, cond0_1 (grid0.coords t) ↔ t.val % 16 = 0)

/-- Between points the region holds the fourteen scratch buffers, each at something, and the generator's register. -/
theorem rest_eq (c : Dev nD) : (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d)) ∗ (∃ r, prngReg c r)) := by
  unfold Pipeline.ΦA; rw [scopedRest0_eq]; simp only [owns_whole]; try rfl

end Cert.MixIdeal.Body

end
-- ==== Proof.MixIdealRunA.lean ====
module

public import proofs.«01_k».proof.Proof.MixIdealCond

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The mixer's body at the first point of the grid, where both branches are taken: it keeps its operands and
    leaves something in the result's buffer and in every scratch buffer. -/
theorem runA (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S2x256x256 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S256x1024 .f32) (harg19 : arg19.IsWhole) (arg20 : Memref sig .tc .vmem S2x256x1024 .f32) (harg20 : arg20.IsWhole) (arg21 : Memref sig .tc .vmem S128x256 .f32) (harg21 : arg21.IsWhole) (arg22 : Memref sig .tc .vmem S128x256 .f32) (harg22 : arg22.IsWhole) (arg23 : Memref sig .tc .vmem S8x256 .f32) (harg23 : arg23.IsWhole) (arg24 : Memref sig .tc .vmem S8x256 .f32) (harg24 : arg24.IsWhole) (arg25 : Memref sig .tc .vmem S8x128 .f32) (harg25 : arg25.IsWhole) (arg26 : Memref sig .tc .vmem S264x512 .f32) (harg26 : arg26.IsWhole) (arg27 : Memref sig .tc .vmem S256x256 .f32) (harg27 : arg27.IsWhole) (arg28 : Memref sig .tc .vmem S256x128 .f32) (harg28 : arg28.IsWhole) (arg29 : Memref sig .tc .vmem S256x128 .f32) (harg29 : arg29.IsWhole) (arg30 : Memref sig .tc .vmem S256x128 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (hc0 : cond0_0 i) (hc1 : cond0_1 i)
    (x0 : Vec F S256x3200 .f32) (x1 : Vec F S256x1024 .f32) (x2 : Vec F S128x256 .bf16) (x3 : Vec F S1x256 .f32) (x4 : Vec F S1x512 .f32) (x5 : Vec F S4x512 .f32) (x6 : Vec F S1x512 .f32) (x7 : Vec F S2x256x256 .bf16) (x8 : Vec F S1x128 .f32) (x9 : Vec F S1x512 .f32) (x10 : Vec F S1024x1024 .bf16) (x11 : Vec F S1x1024 .f32) (x12 : Vec F S1x1024 .f32) (x13 : Vec F S1024x2816 .bf16) (x14 : Vec F S1024x2816 .bf16) (x15 : Vec F S2816x1024 .bf16) (x16 : Vec F S1x1024 .f32) (x17 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
      ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_ffn_eq_skeleton]; unfold cc0_mix_ffn_skel
  simp only [k0_part65_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  iexists _, _; isplitr; swap; · iexact H32
  ipureintro; rfl

end Cert.MixIdeal.Body

end
-- ==== Proof.MixIdealRunB.lean ====
module

public import proofs.«01_k».proof.Proof.MixIdealCond

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The mixer's body at a point where neither branch is taken: it keeps its operands and
    leaves something in the result's buffer and in every scratch buffer. -/
theorem runB (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S2x256x256 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S256x1024 .f32) (harg19 : arg19.IsWhole) (arg20 : Memref sig .tc .vmem S2x256x1024 .f32) (harg20 : arg20.IsWhole) (arg21 : Memref sig .tc .vmem S128x256 .f32) (harg21 : arg21.IsWhole) (arg22 : Memref sig .tc .vmem S128x256 .f32) (harg22 : arg22.IsWhole) (arg23 : Memref sig .tc .vmem S8x256 .f32) (harg23 : arg23.IsWhole) (arg24 : Memref sig .tc .vmem S8x256 .f32) (harg24 : arg24.IsWhole) (arg25 : Memref sig .tc .vmem S8x128 .f32) (harg25 : arg25.IsWhole) (arg26 : Memref sig .tc .vmem S264x512 .f32) (harg26 : arg26.IsWhole) (arg27 : Memref sig .tc .vmem S256x256 .f32) (harg27 : arg27.IsWhole) (arg28 : Memref sig .tc .vmem S256x128 .f32) (harg28 : arg28.IsWhole) (arg29 : Memref sig .tc .vmem S256x128 .f32) (harg29 : arg29.IsWhole) (arg30 : Memref sig .tc .vmem S256x128 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (hc0 : ¬cond0_0 i) (hc1 : ¬cond0_1 i)
    (x0 : Vec F S256x3200 .f32) (x1 : Vec F S256x1024 .f32) (x2 : Vec F S128x256 .bf16) (x3 : Vec F S1x256 .f32) (x4 : Vec F S1x512 .f32) (x5 : Vec F S4x512 .f32) (x6 : Vec F S1x512 .f32) (x7 : Vec F S2x256x256 .bf16) (x8 : Vec F S1x128 .f32) (x9 : Vec F S1x512 .f32) (x10 : Vec F S1024x1024 .bf16) (x11 : Vec F S1x1024 .f32) (x12 : Vec F S1x1024 .f32) (x13 : Vec F S1024x2816 .bf16) (x14 : Vec F S1024x2816 .bf16) (x15 : Vec F S2816x1024 .bf16) (x16 : Vec F S1x1024 .f32) (x17 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
      ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_ffn_eq_skeleton]; unfold cc0_mix_ffn_skel
  simp only [k0_part65_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  iexists _, _; isplitr; swap; · iexact H32
  ipureintro; rfl

end Cert.MixIdeal.Body

end
-- ==== Proof.MixIdealRunC.lean ====
module

public import proofs.«01_k».proof.Proof.MixIdealCond

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The mixer's body at a later point that starts a sequence, where only the second branch is taken: it keeps its operands and
    leaves something in the result's buffer and in every scratch buffer. -/
theorem runC (c : Dev nD) (i : grid0.Coords) (arg1 : Memref sig .tc .vmem S256x3200 .f32) (harg1 : arg1.IsWhole) (arg2 : Memref sig .tc .vmem S256x1024 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S2x256x256 .bf16) (harg8 : arg8.IsWhole) (arg9 : Memref sig .tc .vmem S1x128 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x2816 .bf16) (harg14 : arg14.IsWhole) (arg15 : Memref sig .tc .vmem S1024x2816 .bf16) (harg15 : arg15.IsWhole) (arg16 : Memref sig .tc .vmem S2816x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S256x1024 .f32) (harg19 : arg19.IsWhole) (arg20 : Memref sig .tc .vmem S2x256x1024 .f32) (harg20 : arg20.IsWhole) (arg21 : Memref sig .tc .vmem S128x256 .f32) (harg21 : arg21.IsWhole) (arg22 : Memref sig .tc .vmem S128x256 .f32) (harg22 : arg22.IsWhole) (arg23 : Memref sig .tc .vmem S8x256 .f32) (harg23 : arg23.IsWhole) (arg24 : Memref sig .tc .vmem S8x256 .f32) (harg24 : arg24.IsWhole) (arg25 : Memref sig .tc .vmem S8x128 .f32) (harg25 : arg25.IsWhole) (arg26 : Memref sig .tc .vmem S264x512 .f32) (harg26 : arg26.IsWhole) (arg27 : Memref sig .tc .vmem S256x256 .f32) (harg27 : arg27.IsWhole) (arg28 : Memref sig .tc .vmem S256x128 .f32) (harg28 : arg28.IsWhole) (arg29 : Memref sig .tc .vmem S256x128 .f32) (harg29 : arg29.IsWhole) (arg30 : Memref sig .tc .vmem S256x128 .f32) (harg30 : arg30.IsWhole) (arg31 : Memref sig .tc .vmem S256x512 .f32) (harg31 : arg31.IsWhole) (arg32 : Memref sig .tc .vmem S256x512 .f32) (harg32 : arg32.IsWhole) (arg33 : Memref sig .tc .vmem S256x512 .f32) (harg33 : arg33.IsWhole) (hc0 : ¬cond0_0 i) (hc1 : cond0_1 i)
    (x0 : Vec F S256x3200 .f32) (x1 : Vec F S256x1024 .f32) (x2 : Vec F S128x256 .bf16) (x3 : Vec F S1x256 .f32) (x4 : Vec F S1x512 .f32) (x5 : Vec F S4x512 .f32) (x6 : Vec F S1x512 .f32) (x7 : Vec F S2x256x256 .bf16) (x8 : Vec F S1x128 .f32) (x9 : Vec F S1x512 .f32) (x10 : Vec F S1024x1024 .bf16) (x11 : Vec F S1x1024 .f32) (x12 : Vec F S1x1024 .f32) (x13 : Vec F S1024x2816 .bf16) (x14 : Vec F S1024x2816 .bf16) (x15 : Vec F S2816x1024 .bf16) (x16 : Vec F S1x1024 .f32) (x17 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
      ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_ffn_eq_skeleton]; unfold cc0_mix_ffn_skel
  simp only [k0_part65_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  iexists _, _; isplitr; swap; · iexact H32
  ipureintro; rfl

end Cert.MixIdeal.Body

end
-- ==== Proof.MixIdealFrame.lean ====
module

public import proofs.«01_k».proof.Proof.MixIdealRunA
public import proofs.«01_k».proof.Proof.MixIdealRunB
public import proofs.«01_k».proof.Proof.MixIdealRunC

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is named of the windows after a point: each operand's buffer still holds its block; nothing of the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The one window of which nothing is named: the result's. -/
def lost : Fin 19 → Bool := fun w => w.val == 18

theorem arrays (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem before_0 (c : Dev nD) (t : Fin cfg0.N) (d) : (dats m 0 c).before 0 t d = iblk m c 0 t :=
  before0_0_of m (dats m 0 c) (arrays m c 0) (after_0 m c) t d
theorem before_1 (c : Dev nD) (t : Fin cfg0.N) (d) : (dats m 0 c).before 1 t d = iblk m c 1 t :=
  before0_1_of m (dats m 0 c) (arrays m c 1) (after_1 m c) t d
theorem before_2 (c : Dev nD) (t : Fin cfg0.N) (d) : (dats m 0 c).before 2 t d = iblk m c 2 t :=
  before0_2_of m (dats m 0 c) (arrays m c 2) (after_2 m c) t d
theorem before_3 (c : Dev nD) (t : Fin cfg0.N) (d) : (dats m 0 c).before 3 t d = iblk m c 3 t :=
  before0_3_of m (dats m 0 c) (arrays m c 3) (after_3 m c) t d
theorem before_4 (c : Dev nD) (t : Fin cfg0.N) (d) : (dats m 0 c).before 4 t d = iblk m c 4 t :=
  before0_4_of m (dats m 0 c) (arrays m c 4) (after_4 m c) t d
theorem before_5 (c : Dev nD) (t : Fin cfg0.N) (d) : (dats m 0 c).before 5 t d = iblk m c 5 t :=
  before0_5_of m (dats m 0 c) (arrays m c 5) (after_5 m c) t d
theorem before_6 (c : Dev nD) (t : Fin cfg0.N) (d) : (dats m 0 c).before 6 t d = iblk m c 6 t :=
  before0_6_of m (dats m 0 c) (arrays m c 6) (after_6 m c) t d
theorem before_7 (c : Dev nD) (t : Fin cfg0.N) (d) : (dats m 0 c).before 7 t d = iblk m c 7 t :=
  before0_7_of m (dats m 0 c) (arrays m c 7) (after_7 m c) t d
theorem before_8 (c : Dev nD) (t : Fin cfg0.N) (d) : (dats m 0 c).before 8 t d = iblk m c 8 t :=
  before0_8_of m (dats m 0 c) (arrays m c 8) (after_8 m c) t d
theorem before_9 (c : Dev nD) (t : Fin cfg0.N) (d) : (dats m 0 c).before 9 t d = iblk m c 9 t :=
  before0_9_of m (dats m 0 c) (arrays m c 9) (after_9 m c) t d
theorem before_10 (c : Dev nD) (t : Fin cfg0.N) (d) : (dats m 0 c).before 10 t d = iblk m c 10 t :=
  before0_10_of m (dats m 0 c) (arrays m c 10) (after_10 m c) t d
theorem before_11 (c : Dev nD) (t : Fin cfg0.N) (d) : (dats m 0 c).before 11 t d = iblk m c 11 t :=
  before0_11_of m (dats m 0 c) (arrays m c 11) (after_11 m c) t d
theorem before_12 (c : Dev nD) (t : Fin cfg0.N) (d) : (dats m 0 c).before 12 t d = iblk m c 12 t :=
  before0_12_of m (dats m 0 c) (arrays m c 12) (after_12 m c) t d
theorem before_13 (c : Dev nD) (t : Fin cfg0.N) (d) : (dats m 0 c).before 13 t d = iblk m c 13 t :=
  before0_13_of m (dats m 0 c) (arrays m c 13) (after_13 m c) t d
theorem before_14 (c : Dev nD) (t : Fin cfg0.N) (d) : (dats m 0 c).before 14 t d = iblk m c 14 t :=
  before0_14_of m (dats m 0 c) (arrays m c 14) (after_14 m c) t d
theorem before_15 (c : Dev nD) (t : Fin cfg0.N) (d) : (dats m 0 c).before 15 t d = iblk m c 15 t :=
  before0_15_of m (dats m 0 c) (arrays m c 15) (after_15 m c) t d
theorem before_16 (c : Dev nD) (t : Fin cfg0.N) (d) : (dats m 0 c).before 16 t d = iblk m c 16 t :=
  before0_16_of m (dats m 0 c) (arrays m c 16) (after_16 m c) t d
theorem before_17 (c : Dev nD) (t : Fin cfg0.N) (d) : (dats m 0 c).before 17 t d = iblk m c 17 t :=
  before0_17_of m (dats m 0 c) (arrays m c 17) (after_17 m c) t d

set_option maxHeartbeats 38400000 in
/-- The body at any point of the grid: the operands' buffers hold their blocks, it keeps them, and leaves something
    in the result's buffer and in the scratch. -/
theorem body_at (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare d))
    ⊢ wp frame (wpE (defs₀ (F := F)) Variants.none c none) Set.univ (bodyAt0 t) (fun _ =>
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ (∃ d, owns (c : Thread nD τ) (win0_18.stage (cfg0.slots t 18)) fullShare d))) := by
  unfold bodyAt0
  simp only [before_0, before_1, before_2, before_3, before_4, before_5, before_6, before_7, before_8, before_9, before_10, before_11, before_12, before_13, before_14, before_15, before_16, before_17]
  rw [show (dats m 0 c).owesAt () t.succ = (dats m 0 c).owesAt () t.castSucc from rfl,
    after_0, after_1, after_2, after_3, after_4, after_5, after_6, after_7, after_8, after_9, after_10, after_11, after_12, after_13, after_14, after_15, after_16, after_17]
  rw [show (dats m 0 c).Φ t.succ = Pipeline.ΦA spec0 c from rfl, show (dats m 0 c).Φ t.castSucc = Pipeline.ΦA spec0 c from rfl, rest_eq]
  by_cases h1 : t.val % 16 = 0
  · by_cases h0 : t.val = 0
    · skip
      iintro ⟨⟨⟨H19, H20, H21, H22, H23, H24, H25, H26, H27, H28, H29, H30, H31, H32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((first_iff t).mpr h0) ((start_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iintro ⟨H0, H1, H2, H3, H4, H5, H6, H7, H8, H9, H10, H11, H12, H13, H14, H15, H16, H17, H18, H19, H20, H21, H22, H23, H24, H25, H26, H27, H28, H29, H30, H31, H32⟩
      isplitl [H19 H20 H21 H22 H23 H24 H25 H26 H27 H28 H29 H30 H31 H32 Hg]
      · isplitl [H19 H20 H21 H22 H23 H24 H25 H26 H27 H28 H29 H30 H31 H32]
        · isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          iexact H32
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · skip
      iintro ⟨⟨⟨H19, H20, H21, H22, H23, H24, H25, H26, H27, H28, H29, H30, H31, H32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((first_iff t).mp h)) ((start_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      iintro ⟨H0, H1, H2, H3, H4, H5, H6, H7, H8, H9, H10, H11, H12, H13, H14, H15, H16, H17, H18, H19, H20, H21, H22, H23, H24, H25, H26, H27, H28, H29, H30, H31, H32⟩
      isplitl [H19 H20 H21 H22 H23 H24 H25 H26 H27 H28 H29 H30 H31 H32 Hg]
      · isplitl [H19 H20 H21 H22 H23 H24 H25 H26 H27 H28 H29 H30 H31 H32]
        · isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexact H27
          isplitl [H28]; · iexact H28
          isplitl [H29]; · iexact H29
          isplitl [H30]; · iexact H30
          isplitl [H31]; · iexact H31
          iexact H32
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
  · have h0 : t.val ≠ 0 := fun h => h1 (by omega)
    iintro ⟨⟨⟨H19, H20, H21, H22, H23, H24, H25, H26, H27, H28, H29, H30, H31, H32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((first_iff t).mp h)) (fun h => h1 ((start_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iintro ⟨H0, H1, H2, H3, H4, H5, H6, H7, H8, H9, H10, H11, H12, H13, H14, H15, H16, H17, H18, H19, H20, H21, H22, H23, H24, H25, H26, H27, H28, H29, H30, H31, H32⟩
    isplitl [H19 H20 H21 H22 H23 H24 H25 H26 H27 H28 H29 H30 H31 H32 Hg]
    · isplitl [H19 H20 H21 H22 H23 H24 H25 H26 H27 H28 H29 H30 H31 H32]
      · isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        iexact H32
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ lost := fun t => by
  rw [bigSep_W0, bigSep_W0, body_row]
  exact triple_restated (body_at m c t) rfl .rfl fun _ => .rfl

set_option backward.isDefEq.respectTransparency.types false in
/-- The whole call runs to an end with every operand's array unchanged and every semaphore at zero. -/
theorem run_all : θ_run defs (onTc (τ := τ) (main (F := F))) (s₀ m ρ) (fun r => (Pipeline.RDat.FramePost (cfgs 0) (fun c => (dats m 0 c).toRForget lost) (V m)) r ∧ r.2.sem = fun _ => 0) :=
  Pipeline.θ_run_frame_track_forget (Q' := _) cfgs (dats m) (0 : Fin 1) launch0 defs₀ Variants.none lost m ρ main
    (hbody := fun c => (body_ok m c).loose) (hshare := fun c => (dats m 0 c).share_full fun _ => rfl)
    (howed := fun _ _ => rfl) (V := V m) (hmain := hmain m Variants.none) (hA := arrays m)
    (hin := fun c => Idealize.SL.BI.Entails.refl _) (hout := fun c => Idealize.SL.BI.Entails.refl _)

set_option maxHeartbeats 40000000 in
/-- The mixer's program, from any memory and at any arithmetic, runs to an end with its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨fun c => ⟨(Pipeline.RDat.FramePost.arr_in h.1 c 0 rfl).trans ((arrays m c 0).trans (V_main_arg0 m c)),
      (Pipeline.RDat.FramePost.arr_in h.1 c 1 rfl).trans ((arrays m c 1).trans (V_main_arg1 m c)),
      ((h.1 c).2 main_arg2 (Pipeline.mem_restRefs_of main_arg2 (by decide) (by decide))).trans (V_main_arg2 m c),
      (Pipeline.RDat.FramePost.arr_in h.1 c 3 rfl).trans ((arrays m c 3).trans (V_main_arg3 m c)),
      (Pipeline.RDat.FramePost.arr_in h.1 c 4 rfl).trans ((arrays m c 4).trans (V_main_arg4 m c)),
      ((h.1 c).2 main_arg5 (Pipeline.mem_restRefs_of main_arg5 (by decide) (by decide))).trans (V_main_arg5 m c),
      (Pipeline.RDat.FramePost.arr_in h.1 c 6 rfl).trans ((arrays m c 6).trans (V_main_arg6 m c)),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      (Pipeline.RDat.FramePost.arr_in h.1 c 9 rfl).trans ((arrays m c 9).trans (V_main_arg11 m c)),
      (Pipeline.RDat.FramePost.arr_in h.1 c 10 rfl).trans ((arrays m c 10).trans (V_main_arg12 m c)),
      (Pipeline.RDat.FramePost.arr_in h.1 c 11 rfl).trans ((arrays m c 11).trans (V_main_arg13 m c)),
      (Pipeline.RDat.FramePost.arr_in h.1 c 12 rfl).trans ((arrays m c 12).trans (V_main_arg14 m c)),
      (Pipeline.RDat.FramePost.arr_in h.1 c 13 rfl).trans ((arrays m c 13).trans (V_main_arg15 m c)),
      (Pipeline.RDat.FramePost.arr_in h.1 c 14 rfl).trans ((arrays m c 14).trans (V_main_arg16 m c)),
      (Pipeline.RDat.FramePost.arr_in h.1 c 15 rfl).trans ((arrays m c 15).trans (V_main_arg17 m c)),
      (Pipeline.RDat.FramePost.arr_in h.1 c 16 rfl).trans ((arrays m c 16).trans (V_main_arg18 m c)),
      (Pipeline.RDat.FramePost.arr_in h.1 c 17 rfl).trans ((arrays m c 17).trans (V_main_arg19 m c))⟩, h.2⟩) (run_all m ρ)

end Cert.MixIdeal.Body

end
-- ==== Proof.MixTailRun.lean ====
module

public import proofs.«01_k».proof.Proof.Gen.MixTail.Launch
public import proofs.«01_k».proof.Proof.Gen.MixTail.Skeleton
public import proofs.«01_k».proof.Proof.Gen.MixTail.Points
public import proofs.«01_k».proof.Proof.Gen.MixTail.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixTail.Body

open Cert.MixTail Cert.MixTail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at the grid's first point only. -/
abbrev cond0_0 (i : grid0.Coords) : Prop := (Scalar.cmpi .ne (Scalar.extui (Scalar.cmpi .eq (BitVec.ofNat 32 (i 0).val) 0#32)) 0#32) = 1#1

theorem first_iff : ∀ t : Fin cfg0.N, cond0_0 (grid0.coords t) ↔ t.val = 0 :=
  (by decide +kernel : ∀ t : Fin grid0.N, cond0_0 (grid0.coords t) ↔ t.val = 0)

set_option maxHeartbeats 16000000 in
/-- The body at the first point of the grid: it keeps its operands and leaves something in the result's buffer and in the two-slot buffer. -/
theorem runA (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare x15
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)) -∗ K ⟨⟩))
      ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mix_ffn_eq_skeleton]; unfold cc0_mix_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15
  sl_exec (disch := sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  iexists _, _; isplitr; swap; · iexact H15
  ipureintro; rfl

set_option maxHeartbeats 16000000 in
/-- The body at any later point: it keeps its operands and leaves something in the result's buffer and in the two-slot buffer. -/
theorem runB (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : ¬cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare x15
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)) -∗ K ⟨⟩))
      ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mix_ffn_eq_skeleton]; unfold cc0_mix_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15
  sl_exec (disch := sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  iexists _, _; isplitr; swap; · iexact H15
  ipureintro; rfl

end Cert.MixTail.Body

end
-- ==== Proof.MixTailFrame.lean ====
module

public import proofs.«01_k».proof.Proof.MixTailRun

@[expose] public section

set_option maxRecDepth 16384

noncomputable section

namespace Cert.MixTail.Body

open Cert.MixTail Cert.MixTail.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between points the region holds the two-slot buffer, at something, and the generator's register. -/
theorem rest_eq (c : Dev nD) : (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- What is named of the windows after a point: each operand's buffer still holds its block; nothing of the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨_ + 15, h⟩ => absurd h (Nat.not_lt.2 (Nat.le_add_left _ _))
  Φ _ := Pipeline.ΦA spec0 c
  q _ := fullShare
  owed _ := 0

/-- The one window of which nothing is named: the result's. -/
def lost : Fin 15 → Bool := fun w => w.val == 14

theorem arrays (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem before_0 (c : Dev nD) (t : Fin cfg0.N) (d) : (dats m 0 c).before 0 t d = iblk m c 0 t :=
  before0_0_of m (dats m 0 c) (arrays m c 0) (after_0 m c) t d
theorem before_1 (c : Dev nD) (t : Fin cfg0.N) (d) : (dats m 0 c).before 1 t d = iblk m c 1 t :=
  before0_1_of m (dats m 0 c) (arrays m c 1) (after_1 m c) t d
theorem before_2 (c : Dev nD) (t : Fin cfg0.N) (d) : (dats m 0 c).before 2 t d = iblk m c 2 t :=
  before0_2_of m (dats m 0 c) (arrays m c 2) (after_2 m c) t d
theorem before_3 (c : Dev nD) (t : Fin cfg0.N) (d) : (dats m 0 c).before 3 t d = iblk m c 3 t :=
  before0_3_of m (dats m 0 c) (arrays m c 3) (after_3 m c) t d
theorem before_4 (c : Dev nD) (t : Fin cfg0.N) (d) : (dats m 0 c).before 4 t d = iblk m c 4 t :=
  before0_4_of m (dats m 0 c) (arrays m c 4) (after_4 m c) t d
theorem before_5 (c : Dev nD) (t : Fin cfg0.N) (d) : (dats m 0 c).before 5 t d = iblk m c 5 t :=
  before0_5_of m (dats m 0 c) (arrays m c 5) (after_5 m c) t d
theorem before_6 (c : Dev nD) (t : Fin cfg0.N) (d) : (dats m 0 c).before 6 t d = iblk m c 6 t :=
  before0_6_of m (dats m 0 c) (arrays m c 6) (after_6 m c) t d
theorem before_7 (c : Dev nD) (t : Fin cfg0.N) (d) : (dats m 0 c).before 7 t d = iblk m c 7 t :=
  before0_7_of m (dats m 0 c) (arrays m c 7) (after_7 m c) t d
theorem before_8 (c : Dev nD) (t : Fin cfg0.N) (d) : (dats m 0 c).before 8 t d = iblk m c 8 t :=
  before0_8_of m (dats m 0 c) (arrays m c 8) (after_8 m c) t d
theorem before_9 (c : Dev nD) (t : Fin cfg0.N) (d) : (dats m 0 c).before 9 t d = iblk m c 9 t :=
  before0_9_of m (dats m 0 c) (arrays m c 9) (after_9 m c) t d
theorem before_10 (c : Dev nD) (t : Fin cfg0.N) (d) : (dats m 0 c).before 10 t d = iblk m c 10 t :=
  before0_10_of m (dats m 0 c) (arrays m c 10) (after_10 m c) t d
theorem before_11 (c : Dev nD) (t : Fin cfg0.N) (d) : (dats m 0 c).before 11 t d = iblk m c 11 t :=
  before0_11_of m (dats m 0 c) (arrays m c 11) (after_11 m c) t d
theorem before_12 (c : Dev nD) (t : Fin cfg0.N) (d) : (dats m 0 c).before 12 t d = iblk m c 12 t :=
  before0_12_of m (dats m 0 c) (arrays m c 12) (after_12 m c) t d
theorem before_13 (c : Dev nD) (t : Fin cfg0.N) (d) : (dats m 0 c).before 13 t d = iblk m c 13 t :=
  before0_13_of m (dats m 0 c) (arrays m c 13) (after_13 m c) t d

set_option maxHeartbeats 38400000 in
/-- The body at any point of the grid: the operands' buffers hold their blocks and it keeps them. -/
theorem body_at (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare d))
    ⊢ wp frame (wpE (defs₀ (F := F)) Variants.none c none) Set.univ (bodyAt0 t) (fun _ =>
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ (∃ d, owns (c : Thread nD τ) (win0_14.stage (cfg0.slots t 14)) fullShare d))) := by
  unfold bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13]
  rw [show (dats m 0 c).Φ t.succ = Pipeline.ΦA spec0 c from rfl, show (dats m 0 c).Φ t.castSucc = Pipeline.ΦA spec0 c from rfl, rest_eq]
  by_cases h0 : t.val = 0
  · skip
    iintro ⟨⟨⟨%x, H15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runA c (grid0.coords t) _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    iintro ⟨H0, H1, H2, H3, H4, H5, H6, H7, H8, H9, H10, H11, H12, H13, H14, H15⟩
    isplitl [H15 Hg]
    · isplitl [H15]
      · iexact H15
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · skip
    iintro ⟨⟨⟨%x, H15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runB c (grid0.coords t) _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    iintro ⟨H0, H1, H2, H3, H4, H5, H6, H7, H8, H9, H10, H11, H12, H13, H14, H15⟩
    isplitl [H15 Hg]
    · isplitl [H15]
      · iexact H15
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ lost := fun t => by
  rw [bigSep_W0, bigSep_W0, body_row]
  exact triple_restated (body_at m c t) rfl .rfl fun _ => .rfl

set_option backward.isDefEq.respectTransparency.types false in
/-- The whole call runs to an end with every operand's array unchanged and every semaphore at zero. -/
theorem run_all : θ_run defs (onTc (τ := τ) (main (F := F))) (s₀ m ρ) (fun r => (Pipeline.RDat.FramePost (cfgs 0) (fun c => (dats m 0 c).toRForget lost) (V m)) r ∧ r.2.sem = fun _ => 0) :=
  Pipeline.θ_run_frame_track_forget (Q' := _) cfgs (dats m) (0 : Fin 1) launch0 defs₀ Variants.none lost m ρ main
    (hbody := fun c => (body_ok m c).loose) (hshare := fun c => (dats m 0 c).share_full fun _ => rfl)
    (howed := fun _ _ => rfl) (V := V m) (hmain := hmain m Variants.none) (hA := arrays m)
    (hin := fun c => Idealize.SL.BI.Entails.refl _) (hout := fun c => Idealize.SL.BI.Entails.refl _)

set_option maxHeartbeats 40000000 in
/-- The tail's program, from any memory and at any arithmetic, runs to an end with its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(Pipeline.RDat.FramePost.arr_in h.1 c 0 rfl).trans ((arrays m c 0).trans (V_main_arg0 m c)),
      (Pipeline.RDat.FramePost.arr_in h.1 c 1 rfl).trans ((arrays m c 1).trans (V_main_arg1 m c)),
      (Pipeline.RDat.FramePost.arr_in h.1 c 2 rfl).trans ((arrays m c 2).trans (V_main_arg2 m c)),
      (Pipeline.RDat.FramePost.arr_in h.1 c 3 rfl).trans ((arrays m c 3).trans (V_main_arg3 m c)),
      (Pipeline.RDat.FramePost.arr_in h.1 c 4 rfl).trans ((arrays m c 4).trans (V_main_arg4 m c)),
      (Pipeline.RDat.FramePost.arr_in h.1 c 5 rfl).trans ((arrays m c 5).trans (V_main_arg5 m c)),
      (Pipeline.RDat.FramePost.arr_in h.1 c 6 rfl).trans ((arrays m c 6).trans (V_main_arg6 m c)),
      (Pipeline.RDat.FramePost.arr_in h.1 c 7 rfl).trans ((arrays m c 7).trans (V_main_arg7 m c)),
      (Pipeline.RDat.FramePost.arr_in h.1 c 8 rfl).trans ((arrays m c 8).trans (V_main_arg8 m c)),
      (Pipeline.RDat.FramePost.arr_in h.1 c 9 rfl).trans ((arrays m c 9).trans (V_main_arg9 m c)),
      (Pipeline.RDat.FramePost.arr_in h.1 c 10 rfl).trans ((arrays m c 10).trans (V_main_arg10 m c)),
      (Pipeline.RDat.FramePost.arr_in h.1 c 11 rfl).trans ((arrays m c 11).trans (V_main_arg11 m c)),
      (Pipeline.RDat.FramePost.arr_in h.1 c 12 rfl).trans ((arrays m c 12).trans (V_main_arg12 m c)),
      (Pipeline.RDat.FramePost.arr_in h.1 c 13 rfl).trans ((arrays m c 13).trans (V_main_arg13 m c))⟩, h.2⟩) (run_all m ρ)

end Cert.MixTail.Body

end
-- ==== Proof.MixTailIdealRun.lean ====
module

public import proofs.«01_k».proof.Proof.Gen.MixTailIdeal.Launch
public import proofs.«01_k».proof.Proof.Gen.MixTailIdeal.Skeleton
public import proofs.«01_k».proof.Proof.Gen.MixTailIdeal.Points
public import proofs.«01_k».proof.Proof.Gen.MixTailIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixTailIdeal.Body

open Cert.MixTailIdeal Cert.MixTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's branch is taken at the grid's first point only. -/
abbrev cond0_0 (i : grid0.Coords) : Prop := (Scalar.cmpi .ne (Scalar.extui (Scalar.cmpi .eq (BitVec.ofNat 32 (i 0).val) 0#32)) 0#32) = 1#1

theorem first_iff : ∀ t : Fin cfg0.N, cond0_0 (grid0.coords t) ↔ t.val = 0 :=
  (by decide +kernel : ∀ t : Fin grid0.N, cond0_0 (grid0.coords t) ↔ t.val = 0)

set_option maxHeartbeats 16000000 in
/-- The body at the first point of the grid: it keeps its operands, and what its stores leave in the result's buffer and, over what was there, in
    the two-slot buffer, as pieces. -/
noncomputable def runA (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) :
    Σ' (L14 : List (View.Piece (Elt F) S256x1024 .f32)), { L15 : List (View.Piece (Elt F) S2x256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare x15
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (arg16.view.loc (c : Thread nD τ) ↦[arg16.view.set]{fullShare} arg16.view.writes (Elt F) (harg16.unread x15) L15)) -∗ K ⟨⟩))
          ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_mix_ffn_eq_skeleton]; unfold cc0_mix_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    iexact H15

set_option maxHeartbeats 16000000 in
/-- The body at any later point: it keeps its operands, and what its stores leave in the result's buffer and, over what was there, in
    the two-slot buffer, as pieces. -/
noncomputable def runB (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : ¬cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) :
    Σ' (L14 : List (View.Piece (Elt F) S256x1024 .f32)), { L15 : List (View.Piece (Elt F) S2x256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare x15
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (arg16.view.loc (c : Thread nD τ) ↦[arg16.view.set]{fullShare} arg16.view.writes (Elt F) (harg16.unread x15) L15)) -∗ K ⟨⟩))
          ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_mix_ffn_eq_skeleton]; unfold cc0_mix_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    iexact H15

end Cert.MixTailIdeal.Body

end
-- ==== Proof.MixTailIdealStep.lean ====
module

public import proofs.«01_k».proof.Proof.MixTailIdealRun
public import Idealize.ShloMosaic.Lib.Pipeline.ValueKit

@[expose] public section

set_option maxRecDepth 16384

noncomputable section

namespace Cert.MixTailIdeal.Body

open Cert.MixTailIdeal Cert.MixTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The feed-forward network of one block of rows, as the body spells it: five slabs of 512 hidden columns and one of 256. -/
def ffnv (h : Vec F S1x256x1024 .f32) (G U : Vec F S1024x2816 .bf16) (D : Vec F S2816x1024 .bf16) : FVec F S256x1024 .f32 :=
  k0_pay29 (k0_pay3 h)
    (k0_pay26 (k0_pay3 h) (View.ld G (Rect.unit ![0, 2048] ![1024, 512] inb_S1024x2816_S1024x512_0_2048)))
    (k0_pay27 (k0_pay3 h) (View.ld U (Rect.unit ![0, 2048] ![1024, 512] inb_S1024x2816_S1024x512_0_2048)))
    (k0_pay28 (k0_pay14 (k0_pay3 h) (View.ld G (Rect.unit ![0, 1536] ![1024, 512] inb_S1024x2816_S1024x512_0_1536)))
      (k0_pay15 (k0_pay3 h) (View.ld U (Rect.unit ![0, 1536] ![1024, 512] inb_S1024x2816_S1024x512_0_1536)))
      (k0_pay16 (k0_pay3 h)
        (k0_pay10 (k0_pay3 h) (View.ld G (Rect.unit ![0, 512] ![1024, 512] inb_S1024x2816_S1024x512_0_512)))
        (k0_pay11 (k0_pay3 h) (View.ld U (Rect.unit ![0, 512] ![1024, 512] inb_S1024x2816_S1024x512_0_512)))
        (k0_pay12 (k0_pay4 h (View.ld G (Rect.unit ![0, 0] ![1024, 512] inb_S1024x2816_S1024x512_0_0))) (k0_pay5 h (View.ld U (Rect.unit ![0, 0] ![1024, 512] inb_S1024x2816_S1024x512_0_0)))
          (View.ld D (Rect.unit ![0, 0] ![512, 1024] inb_S2816x1024_S512x1024_0_0)))
        (k0_pay13 (k0_pay3 h) (View.ld G (Rect.unit ![0, 1024] ![1024, 512] inb_S1024x2816_S1024x512_0_1024)))
        (View.ld U (Rect.unit ![0, 1024] ![1024, 512] inb_S1024x2816_S1024x512_0_1024))
        (View.ld D (Rect.unit ![512, 0] ![512, 1024] inb_S2816x1024_S512x1024_512_0))
        (View.ld D (Rect.unit ![1024, 0] ![512, 1024] inb_S2816x1024_S512x1024_1024_0)))
      (View.ld D (Rect.unit ![1536, 0] ![512, 1024] inb_S2816x1024_S512x1024_1536_0)))
    (View.ld G (Rect.unit ![0, 2560] ![1024, 256] inb_S1024x2816_S1024x256_0_2560))
    (View.ld U (Rect.unit ![0, 2560] ![1024, 256] inb_S1024x2816_S1024x256_0_2560))
    (View.ld D (Rect.unit ![2048, 0] ![512, 1024] inb_S2816x1024_S512x1024_2048_0))
    (View.ld D (Rect.unit ![2560, 0] ![256, 1024] inb_S2816x1024_S256x1024_2560_0))

/-- What the body writes to its result for the block `h` of rows: the network's output added and normalized. -/
def outv (h : Vec F S1x256x1024 .f32) (G U : Vec F S1024x2816 .bf16) (D : Vec F S2816x1024 .bf16) (g b : Vec F S1x1024 .f32) : FVec F S256x1024 .f32 :=
  k0_pay1 g b (k0_pay33 (ffnv h G U D) h) (k0_pay34 (ffnv h G U D) h)

/-- What the body keeps for the next point: the gated heads of both recurrences, projected, added and normalized. -/
def mixv (p : Vec F S256x3200 .f32) (o hm : Vec F S256x512 .f32) (x : Vec F S256x1024 .f32) (gn mn : Vec F S1x512 .f32) (W : Vec F S1024x1024 .bf16)
    (g b : Vec F S1x1024 .f32) : FVec F S1x256x1024 .f32 :=
  k0_pay32 g b
    (k0_pay30 (k0_pay6 (View.ld o (Rect.unit ![0, 0] ![256, 128] inb_S256x512_S256x128_0_0)) (View.ld gn (Rect.unit ![0, 0] ![1, 128] inb_S1x512_S1x128_0_0)) (View.ld p (Rect.unit ![0, 1024] ![256, 128] inb_S256x3200_S256x128_0_1024)))
      (k0_pay7 (View.ld o (Rect.unit ![0, 128] ![256, 128] inb_S256x512_S256x128_0_128)) (View.ld gn (Rect.unit ![0, 128] ![1, 128] inb_S1x512_S1x128_0_128)) (View.ld p (Rect.unit ![0, 1152] ![256, 128] inb_S256x3200_S256x128_0_1152)))
      (k0_pay8 (View.ld o (Rect.unit ![0, 256] ![256, 128] inb_S256x512_S256x128_0_256)) (View.ld gn (Rect.unit ![0, 256] ![1, 128] inb_S1x512_S1x128_0_256)) (View.ld p (Rect.unit ![0, 1280] ![256, 128] inb_S256x3200_S256x128_0_1280)))
      (k0_pay9 (View.ld o (Rect.unit ![0, 384] ![256, 128] inb_S256x512_S256x128_0_384)) (View.ld gn (Rect.unit ![0, 384] ![1, 128] inb_S1x512_S1x128_0_384)) (View.ld p (Rect.unit ![0, 1408] ![256, 128] inb_S256x3200_S256x128_0_1408)))
      (k0_pay19 (k0_pay17 (View.ld hm (Rect.unit ![0, 0] ![256, 128] inb_S256x512_S256x128_0_0))) (k0_pay18 (View.ld hm (Rect.unit ![0, 0] ![256, 128] inb_S256x512_S256x128_0_0))) (View.ld mn (Rect.unit ![0, 0] ![1, 128] inb_S1x512_S1x128_0_0)) (View.ld p (Rect.unit ![0, 2560] ![256, 128] inb_S256x3200_S256x128_0_2560)))
      (k0_pay22 (k0_pay20 (View.ld hm (Rect.unit ![0, 128] ![256, 128] inb_S256x512_S256x128_0_128)) (View.ld mn (Rect.unit ![0, 128] ![1, 128] inb_S1x512_S1x128_0_128))) (k0_pay21 (View.ld p (Rect.unit ![0, 2688] ![256, 128] inb_S256x3200_S256x128_0_2688))))
      (k0_pay23 (View.ld hm (Rect.unit ![0, 256] ![256, 128] inb_S256x512_S256x128_0_256)) (View.ld mn (Rect.unit ![0, 256] ![1, 128] inb_S1x512_S1x128_0_256)) (View.ld p (Rect.unit ![0, 2816] ![256, 128] inb_S256x3200_S256x128_0_2816)))
      (k0_pay25 (View.ld hm (Rect.unit ![0, 384] ![256, 128] inb_S256x512_S256x128_0_384)) (k0_pay24 (View.ld hm (Rect.unit ![0, 384] ![256, 128] inb_S256x512_S256x128_0_384))) (View.ld mn (Rect.unit ![0, 384] ![1, 128] inb_S1x512_S1x128_0_384)) (View.ld p (Rect.unit ![0, 2944] ![256, 128] inb_S256x3200_S256x128_0_2944))) W x)
    (k0_pay31 (k0_pay6 (View.ld o (Rect.unit ![0, 0] ![256, 128] inb_S256x512_S256x128_0_0)) (View.ld gn (Rect.unit ![0, 0] ![1, 128] inb_S1x512_S1x128_0_0)) (View.ld p (Rect.unit ![0, 1024] ![256, 128] inb_S256x3200_S256x128_0_1024)))
      (k0_pay7 (View.ld o (Rect.unit ![0, 128] ![256, 128] inb_S256x512_S256x128_0_128)) (View.ld gn (Rect.unit ![0, 128] ![1, 128] inb_S1x512_S1x128_0_128)) (View.ld p (Rect.unit ![0, 1152] ![256, 128] inb_S256x3200_S256x128_0_1152)))
      (k0_pay8 (View.ld o (Rect.unit ![0, 256] ![256, 128] inb_S256x512_S256x128_0_256)) (View.ld gn (Rect.unit ![0, 256] ![1, 128] inb_S1x512_S1x128_0_256)) (View.ld p (Rect.unit ![0, 1280] ![256, 128] inb_S256x3200_S256x128_0_1280)))
      (k0_pay9 (View.ld o (Rect.unit ![0, 384] ![256, 128] inb_S256x512_S256x128_0_384)) (View.ld gn (Rect.unit ![0, 384] ![1, 128] inb_S1x512_S1x128_0_384)) (View.ld p (Rect.unit ![0, 1408] ![256, 128] inb_S256x3200_S256x128_0_1408)))
      (k0_pay19 (k0_pay17 (View.ld hm (Rect.unit ![0, 0] ![256, 128] inb_S256x512_S256x128_0_0))) (k0_pay18 (View.ld hm (Rect.unit ![0, 0] ![256, 128] inb_S256x512_S256x128_0_0))) (View.ld mn (Rect.unit ![0, 0] ![1, 128] inb_S1x512_S1x128_0_0)) (View.ld p (Rect.unit ![0, 2560] ![256, 128] inb_S256x3200_S256x128_0_2560)))
      (k0_pay22 (k0_pay20 (View.ld hm (Rect.unit ![0, 128] ![256, 128] inb_S256x512_S256x128_0_128)) (View.ld mn (Rect.unit ![0, 128] ![1, 128] inb_S1x512_S1x128_0_128))) (k0_pay21 (View.ld p (Rect.unit ![0, 2688] ![256, 128] inb_S256x3200_S256x128_0_2688))))
      (k0_pay23 (View.ld hm (Rect.unit ![0, 256] ![256, 128] inb_S256x512_S256x128_0_256)) (View.ld mn (Rect.unit ![0, 256] ![1, 128] inb_S1x512_S1x128_0_256)) (View.ld p (Rect.unit ![0, 2816] ![256, 128] inb_S256x3200_S256x128_0_2816)))
      (k0_pay25 (View.ld hm (Rect.unit ![0, 384] ![256, 128] inb_S256x512_S256x128_0_384)) (k0_pay24 (View.ld hm (Rect.unit ![0, 384] ![256, 128] inb_S256x512_S256x128_0_384))) (View.ld mn (Rect.unit ![0, 384] ![1, 128] inb_S1x512_S1x128_0_384)) (View.ld p (Rect.unit ![0, 2944] ![256, 128] inb_S256x3200_S256x128_0_2944))) W x)
    (FloatOps.ofBits FTy.f32 1149239296#32)

/-- The slot a point reads is not the one it writes: a write to the one leaves the other as it was. -/
theorem ld_other {κ : Kind} {sp : Space} (v : View sig κ sp S2x256x1024 .f32) (f : v.ty.Contents (Elt F)) (i : grid0.Coords) (w) (L) :
    View.ld (v.read (Elt F) (v.writes (Elt F) f (⟨Rect.unit (s := S2x256x1024) (k0_off2 i) ![1, 256, 1024] (k0_off2_inb i), w⟩ :: L)))
        (Rect.unit (s := S2x256x1024) (k0_off1 i) ![1, 256, 1024] (k0_off1_inb i))
      = View.ld (v.read (Elt F) (v.writes (Elt F) f L)) (Rect.unit (s := S2x256x1024) (k0_off1 i) ![1, 256, 1024] (k0_off1_inb i)) := by
  funext j
  refine View.read_writes_cons_miss_of_axis v f _ L _ 0 _ 1 rfl rfl rfl ?_
  have hj : (j 0 : ℕ) < 1 := (j 0).isLt
  have h1 : k0_off1 i 0 = 1 - (i 0 : ℕ) % 2 := congrFun (k0_off1_eq i) 0
  have h2 : k0_off2 i 0 = (i 0 : ℕ) % 2 := congrFun (k0_off2_eq i) 0
  show k0_off1 i 0 + 1 * (j 0 : ℕ) < k0_off2 i 0 ∨ k0_off2 i 0 + 1 ≤ k0_off1 i 0 + 1 * (j 0 : ℕ)
  omega

/-- A slot just written reads what was written. -/
theorem ld_hit {κ : Kind} {sp : Space} (v : View sig κ sp S2x256x1024 .f32) (f : v.ty.Contents (Elt F)) (a b : Fin 3 → ℕ) (ha) (hb) (hab : a = b) (w) (L) :
    View.ld (v.read (Elt F) (v.writes (Elt F) f (⟨Rect.unit (s := S2x256x1024) a ![1, 256, 1024] ha, w⟩ :: L)))
        (Rect.unit (s := S2x256x1024) b ![1, 256, 1024] hb) = w := by
  subst hab
  funext j
  exact View.read_writes_cons_emb v f _ w L j

theorem off1_first : ∀ i : grid0.Coords, cond0_0 i → ![1, 0, 0] = k0_off1 i := by decide +kernel

set_option maxHeartbeats 4000000 in
theorem outA (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) :
    View.canon (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15).1 = outv k0_pay2 x9 x10 x11 x12 x13 := by
  frame_out
  have e := off1_first i hc0
  simp only [ld_other, ld_hit _ _ _ _ _ _ (off1_first i hc0)]
  rfl

theorem coverA (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) (y : S256x1024.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15).1, y ∈ p.1.set :=
  View.cover_of_tiled _ S256x1024.size rfl y

set_option maxHeartbeats 4000000 in
theorem slotA (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) :
    View.ld (arg16.view.read (Elt F) (arg16.view.writes (Elt F) (harg16.unread x15) (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15).2.1))
        (Rect.unit (s := S2x256x1024) (k0_off2 i) ![1, 256, 1024] (k0_off2_inb i))
      = mixv x0 x1 x2 x3 x4 x5 x6 x7 x8 := by
  frame_out
  rw [ld_hit _ _ _ _ _ _ rfl]
  rfl

set_option maxHeartbeats 4000000 in
theorem outB (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : ¬cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) :
    View.canon (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15).1 = outv (View.ld x15 (Rect.unit (s := S2x256x1024) (k0_off1 i) ![1, 256, 1024] (k0_off1_inb i))) x9 x10 x11 x12 x13 := by
  frame_out

  simp only [ld_other, View.writes_nil, harg16.read_unread]
  rfl

theorem coverB (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : ¬cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) (y : S256x1024.Idx) :
    ∃ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15).1, y ∈ p.1.set :=
  View.cover_of_tiled _ S256x1024.size rfl y

set_option maxHeartbeats 4000000 in
theorem slotB (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : ¬cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) :
    View.ld (arg16.view.read (Elt F) (arg16.view.writes (Elt F) (harg16.unread x15) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15).2.1))
        (Rect.unit (s := S2x256x1024) (k0_off2 i) ![1, 256, 1024] (k0_off2_inb i))
      = mixv x0 x1 x2 x3 x4 x5 x6 x7 x8 := by
  frame_out
  rw [ld_hit _ _ _ _ _ _ rfl]
  rfl

set_option maxHeartbeats 4000000 in
/-- The body at the first point, its results named: the network's of the rows kept from the point before (zero there), and this point's rows kept. -/
theorem stepA (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare x15
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outv k0_pay2 x9 x10 x11 x12 x13) ∗ (∃ x, ⌜View.ld x (Rect.unit (s := S2x256x1024) (k0_off2 i) ![1, 256, 1024] (k0_off2_inb i)) = mixv x0 x1 x2 x3 x4 x5 x6 x7 x8⌝ ∗ owns (c : Thread nD τ) arg16 fullShare x)) -∗ K ⟨⟩))
      ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, H15, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, ⟨%f, H14⟩, H15⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro
    exact (View.read_writes_eq_canon _ _ _ (coverA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15)).trans (outA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15)
  iexists _
  isplitr
  swap
  · unfold owns; iexists _; isplitr
    swap; · iexact H15
    ipureintro; rfl
  ipureintro
  exact slotA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15

set_option maxHeartbeats 4000000 in
/-- The body at a later point, its results named: the network's of the rows kept from the point before, and this point's rows kept. -/
theorem stepB (c : Dev nD) (i : grid0.Coords) (arg1 : Memref sig .tc .vmem S256x3200 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .vmem S2x256x1024 .f32) (harg16 : arg16.IsWhole) (hc0 : ¬cond0_0 i)
    (x0 : Vec F S256x3200 .f32) (x1 : Vec F S256x512 .f32) (x2 : Vec F S256x512 .f32) (x3 : Vec F S256x1024 .f32) (x4 : Vec F S1x512 .f32) (x5 : Vec F S1x512 .f32) (x6 : Vec F S1024x1024 .bf16) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32) (x15 : Vec F S2x256x1024 .f32) (h : Vec F S1x256x1024 .f32) (hh : View.ld x15 (Rect.unit (s := S2x256x1024) (k0_off1 i) ![1, 256, 1024] (k0_off1_inb i)) = h) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare x15
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outv h x9 x10 x11 x12 x13) ∗ (∃ x, ⌜View.ld x (Rect.unit (s := S2x256x1024) (k0_off2 i) ![1, 256, 1024] (k0_off2_inb i)) = mixv x0 x1 x2 x3 x4 x5 x6 x7 x8⌝ ∗ owns (c : Thread nD τ) arg16 fullShare x)) -∗ K ⟨⟩))
      ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, H9, H10, H11, H12, H13, H14, H15, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, ⟨%f, H14⟩, H15⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro
    exact (View.read_writes_eq_canon _ _ _ (coverB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15)).trans (hh ▸ outB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15)
  iexists _
  isplitr
  swap
  · unfold owns; iexists _; isplitr
    swap; · iexact H15
    ipureintro; rfl
  ipureintro
  exact slotB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x15

end Cert.MixTailIdeal.Body

end
-- ==== Proof.MixTailIdealFrame.lean ====
module

public import proofs.«01_k».proof.Proof.MixTailIdealStep

@[expose] public section

set_option maxRecDepth 16384

noncomputable section

namespace Cert.MixTailIdeal.Body

open Cert.MixTailIdeal Cert.MixTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Between points the region holds the two-slot buffer, at something, and the generator's register. -/
theorem rest_eq (c : Dev nD) : (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- What point `t` keeps for the next: the mixer's rows of its block. -/
def mixAt (c : Dev nD) (t : Fin cfg0.N) : FVec F S1x256x1024 .f32 :=
  mixv (iblk m c 0 t) (iblk m c 1 t) (iblk m c 2 t) (iblk m c 3 t) (iblk m c 4 t) (iblk m c 5 t) (iblk m c 6 t) (iblk m c 7 t) (iblk m c 8 t)

/-- What point `t` finds kept: the point before's rows, zero at the first point. -/
def prevAt (c : Dev nD) (t : Fin cfg0.N) : FVec F S1x256x1024 .f32 :=
  if h : t.val = 0 then k0_pay2 else mixAt m c ⟨t.val - 1, lt_of_le_of_lt (Nat.sub_le _ _) t.isLt⟩

/-- What the two-slot buffer is known to hold before point `n`: the point before's rows, in the slot that point wrote. -/
def held (c : Dev nD) (n : ℕ) : sProp 𝕄 :=
  iprop(∃ x : Vec F S2x256x1024 .f32, ⌜∀ s : Fin cfg0.N, s.val + 1 = n → View.ld x (Rect.unit (s := S2x256x1024) (k0_off2 (grid0.coords s)) ![1, 256, 1024] (k0_off2_inb (grid0.coords s))) = mixAt m c s⌝
    ∗ owns (c : Thread nD τ) (Memref.whole cc0_scratch0) fullShare x)

theorem next_slot : ∀ s t : Fin cfg0.N, s.val + 1 = t.val → k0_off1 (grid0.coords t) = k0_off2 (grid0.coords s) := by
  intro s t h
  rw [k0_off1_eq, k0_off2_eq]
  have hs : ((grid0.coords s) 0 : ℕ) = s.val := (by decide +kernel : ∀ s : Fin grid0.N, ((grid0.coords s) 0 : ℕ) = s.val) s
  have ht : ((grid0.coords t) 0 : ℕ) = t.val := (by decide +kernel : ∀ s : Fin grid0.N, ((grid0.coords s) 0 : ℕ) = s.val) t
  rw [hs, ht, show 1 - (t.val % 2) = s.val % 2 by omega]

theorem ld_same (x : Vec F S2x256x1024 .f32) (a b : Fin 3 → ℕ) (ha) (hb) (hab : a = b) :
    View.ld x (Rect.unit (s := S2x256x1024) a ![1, 256, 1024] ha) = View.ld x (Rect.unit (s := S2x256x1024) b ![1, 256, 1024] hb) := by
  subst hab; rfl

/-- What is named of the windows after a point: each operand's buffer still holds its block; the result's the network's rows of the point before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outv (prevAt m c t) (iblk m c 9 t) (iblk m c 10 t) (iblk m c 11 t) (iblk m c 12 t) (iblk m c 13 t)
    | ⟨_ + 15, h⟩ => absurd h (Nat.not_lt.2 (Nat.le_add_left _ _))
  Φ t := iprop(held m c t.val ∗ ∃ r, prngReg c r)
  q _ := fullShare
  owed _ := 0

theorem arrays (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = outv (prevAt m c t) (iblk m c 9 t) (iblk m c 10 t) (iblk m c 11 t) (iblk m c 12 t) (iblk m c 13 t) := by dsimp only [dats]
theorem before_0 (c : Dev nD) (t : Fin cfg0.N) (d) : (dats m 0 c).before 0 t d = iblk m c 0 t :=
  before0_0_of m (dats m 0 c) (arrays m c 0) (after_0 m c) t d
theorem before_1 (c : Dev nD) (t : Fin cfg0.N) (d) : (dats m 0 c).before 1 t d = iblk m c 1 t :=
  before0_1_of m (dats m 0 c) (arrays m c 1) (after_1 m c) t d
theorem before_2 (c : Dev nD) (t : Fin cfg0.N) (d) : (dats m 0 c).before 2 t d = iblk m c 2 t :=
  before0_2_of m (dats m 0 c) (arrays m c 2) (after_2 m c) t d
theorem before_3 (c : Dev nD) (t : Fin cfg0.N) (d) : (dats m 0 c).before 3 t d = iblk m c 3 t :=
  before0_3_of m (dats m 0 c) (arrays m c 3) (after_3 m c) t d
theorem before_4 (c : Dev nD) (t : Fin cfg0.N) (d) : (dats m 0 c).before 4 t d = iblk m c 4 t :=
  before0_4_of m (dats m 0 c) (arrays m c 4) (after_4 m c) t d
theorem before_5 (c : Dev nD) (t : Fin cfg0.N) (d) : (dats m 0 c).before 5 t d = iblk m c 5 t :=
  before0_5_of m (dats m 0 c) (arrays m c 5) (after_5 m c) t d
theorem before_6 (c : Dev nD) (t : Fin cfg0.N) (d) : (dats m 0 c).before 6 t d = iblk m c 6 t :=
  before0_6_of m (dats m 0 c) (arrays m c 6) (after_6 m c) t d
theorem before_7 (c : Dev nD) (t : Fin cfg0.N) (d) : (dats m 0 c).before 7 t d = iblk m c 7 t :=
  before0_7_of m (dats m 0 c) (arrays m c 7) (after_7 m c) t d
theorem before_8 (c : Dev nD) (t : Fin cfg0.N) (d) : (dats m 0 c).before 8 t d = iblk m c 8 t :=
  before0_8_of m (dats m 0 c) (arrays m c 8) (after_8 m c) t d
theorem before_9 (c : Dev nD) (t : Fin cfg0.N) (d) : (dats m 0 c).before 9 t d = iblk m c 9 t :=
  before0_9_of m (dats m 0 c) (arrays m c 9) (after_9 m c) t d
theorem before_10 (c : Dev nD) (t : Fin cfg0.N) (d) : (dats m 0 c).before 10 t d = iblk m c 10 t :=
  before0_10_of m (dats m 0 c) (arrays m c 10) (after_10 m c) t d
theorem before_11 (c : Dev nD) (t : Fin cfg0.N) (d) : (dats m 0 c).before 11 t d = iblk m c 11 t :=
  before0_11_of m (dats m 0 c) (arrays m c 11) (after_11 m c) t d
theorem before_12 (c : Dev nD) (t : Fin cfg0.N) (d) : (dats m 0 c).before 12 t d = iblk m c 12 t :=
  before0_12_of m (dats m 0 c) (arrays m c 12) (after_12 m c) t d
theorem before_13 (c : Dev nD) (t : Fin cfg0.N) (d) : (dats m 0 c).before 13 t d = iblk m c 13 t :=
  before0_13_of m (dats m 0 c) (arrays m c 13) (after_13 m c) t d

set_option maxHeartbeats 38400000 in
/-- The body at any point of the grid: the operands' buffers hold their blocks and it keeps them, the result's buffer and the two-slot buffer end as named. -/
theorem body_at (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))
    ⊢ wp frame (wpE (defs₀ (F := F)) Variants.none c none) Set.univ (bodyAt0 t) (fun _ =>
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))) := by
  unfold bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13, after_14]
  rw [show (dats m 0 c).Φ t.succ = iprop(held m c (t.val + 1) ∗ ∃ r, prngReg c r) from rfl, show (dats m 0 c).Φ t.castSucc = iprop(held m c t.val ∗ ∃ r, prngReg c r) from rfl]
  unfold held
  by_cases h0 : t.val = 0
  · rw [show prevAt m c t = k0_pay2 from dif_pos h0]
    iintro ⟨⟨⟨%x, %hx, H15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (stepA c (grid0.coords t) _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    iintro ⟨H0, H1, H2, H3, H4, H5, H6, H7, H8, H9, H10, H11, H12, H13, H14, ⟨%y, %hy, H15⟩⟩
    isplitl [H15 Hg]
    · isplitl [H15]
      · iexists y
        isplitr
        · ipureintro
          intro s hs
          obtain rfl : s = t := Fin.ext (by simpa using hs)
          exact hy
        · iexact H15
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · skip
    iintro ⟨⟨⟨%x, %hx, H15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have e : View.ld x (Rect.unit (s := S2x256x1024) (k0_off1 (grid0.coords t)) ![1, 256, 1024] (k0_off1_inb (grid0.coords t))) = prevAt m c t := by
      have hs : (⟨t.val - 1, lt_of_le_of_lt (Nat.sub_le _ _) t.isLt⟩ : Fin cfg0.N).val + 1 = t.val := by show t.val - 1 + 1 = t.val; omega
      unfold prevAt
      rw [dif_neg h0]
      exact (ld_same x _ _ _ _ (next_slot _ t hs)).trans (hx _ hs)
    iapply (stepB c (grid0.coords t) _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x (prevAt m c t) e Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    iintro ⟨H0, H1, H2, H3, H4, H5, H6, H7, H8, H9, H10, H11, H12, H13, H14, ⟨%y, %hy, H15⟩⟩
    isplitl [H15 Hg]
    · isplitl [H15]
      · iexists y
        isplitr
        · ipureintro
          intro s hs
          obtain rfl : s = t := Fin.ext (by simpa using hs)
          exact hy
        · iexact H15
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_at m c t) rfl .rfl fun _ => .rfl

theorem held_of_rest (c : Dev nD) : (Pipeline.ΦA spec0 c : sProp 𝕄) ⊢ iprop(held m c 0 ∗ ∃ r, prngReg c r) := by
  rw [rest_eq]
  unfold held
  iintro ⟨⟨%x, H⟩, Hg⟩
  isplitl [H]
  · iexists x
    isplitr
    · ipureintro
      intro s hs
      exact absurd hs (Nat.succ_ne_zero _)
    · iexact H
  iexact Hg

theorem rest_of_held (c : Dev nD) (n : ℕ) : iprop(held m c n ∗ ∃ r, prngReg c r) ⊢ (Pipeline.ΦA spec0 c : sProp 𝕄) := by
  rw [rest_eq]
  unfold held
  iintro ⟨⟨%x, %hx, H⟩, Hg⟩
  isplitl [H]
  · iexists x
    iexact H
  iexact Hg

set_option backward.isDefEq.respectTransparency.types false in
/-- The whole call runs to an end with every operand's array as found, the result's named, and every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := arrays m)
    (hin := fun c => held_of_rest m c) (hout := fun c => rest_of_held m c _)

/-- The tail's program, from any memory and at any arithmetic, runs to an end with its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (arrays m) ((θ_run defs _ _).mono (fun _ h => h.1) (run_all m ρ))) ((θ_run defs _ _).mono (fun _ h => h.2) (run_all m ρ))

end Cert.MixTailIdeal.Body

end
-- ==== Proof.TailMath.lean ====
module

public import proofs.«01_k».proof.Proof.RowMath
public import Idealize.ShloMosaic.Lib.Pipeline.ValueKit

@[expose] public section

set_option maxRecDepth 16384
noncomputable section
open Idealize.ShloMosaic
namespace Cert.RowMath

/-- The reciprocal of the fourth root of two. -/
def oa : EReal := (((Real.sqrt (Real.sqrt 2))⁻¹ : ℝ) : EReal)

/-- The 128 columns of a row from column `a` on. -/
def cols {n : ℕ} (X : Fin n → EReal) (a : ℕ) (h : a + 128 ≤ n) : Fin 128 → EReal := fun t => X ⟨a + t, by omega⟩

/-- The mean of a row of 128. -/
def mean128 (z : Fin 128 → EReal) : EReal := Ideal.div (∑ t, z t) (Ideal.ofBits .f32 0x43000000#32)
/-- A head's root mean square normalization, scaled. -/
def rms (z g : Fin 128 → EReal) (t : Fin 128) : EReal :=
  z t * Ideal.rsqrt (mean128 (fun k => z k * z k) + Ideal.ofBits .f32 0x358637BD#32) * g t
/-- A head's layer normalization, scaled. -/
def hln (z g : Fin 128 → EReal) (t : Fin 128) : EReal :=
  (z t - mean128 z) * Ideal.rsqrt (mean128 (fun k => (z k - mean128 z) * (z k - mean128 z)) + Ideal.ofBits .f32 0x358637BD#32) * g t

/-- `x` times its logistic value, from a tanh. -/
def silu (p : EReal) : EReal := Ideal.ofBits .f32 0x3F000000#32 * p * Ideal.tanh (Ideal.ofBits .f32 0x3F000000#32 * p) + Ideal.ofBits .f32 0x3F000000#32 * p
/-- `x` times its logistic value, from the exponential. -/
def siluE (p : EReal) : EReal := p * Ideal.div 1 (1 + Ideal.exp (-p))
/-- The logistic value, from a tanh. -/
def lgst (p : EReal) : EReal := Ideal.ofBits .f32 0x3F000000#32 * Ideal.tanh (Ideal.ofBits .f32 0x3F000000#32 * p) + Ideal.ofBits .f32 0x3F000000#32
/-- The logistic value, from the exponential. -/
def lgstE (p : EReal) : EReal := Ideal.div 1 (1 + Ideal.exp (-p))

/-- One entry of the output projection of the gated, normalized heads: four of the linear attention, four of the matrix memory.
`s` and `q` are the two gates' functions, `w` the projection's column. -/
def mixsum (s q : EReal → EReal) (P : Fin 3200 → EReal) (O H gn mn : Fin 512 → EReal) (w : Fin 1024 → EReal) : EReal :=
  (∑ h : Fin 4, ∑ t : Fin 128, rms (cols O (h * 128) (by omega)) (cols gn (h * 128) (by omega)) t * s (cols P (1024 + h * 128) (by omega) t) * cols w (h * 128) (by omega) t)
  + ∑ h : Fin 4, ∑ t : Fin 128, q (cols P (2560 + h * 128) (by omega) t) * hln (cols H (h * 128) (by omega)) (cols mn (h * 128) (by omega)) t * cols w (512 + h * 128) (by omega) t

theorem silu_eq (p : ℝ) : silu p = siluE p := by
  have h := act_eq p 1
  unfold act actS at h
  rwa [mul_one, mul_one] at h

theorem sig_real (p : ℝ) : 1 / 2 * Real.tanh (1 / 2 * p) + 1 / 2 = 1 / (1 + Real.exp (-p)) := by
  have h1 : Real.exp (-p) = Real.exp (-(1 / 2 * p)) * Real.exp (-(1 / 2 * p)) := by rw [← Real.exp_add]; congr 1; ring
  have h2 : Real.exp (1 / 2 * p) * Real.exp (-(1 / 2 * p)) = 1 := by rw [← Real.exp_add]; simp
  rw [Real.tanh_eq_sinh_div_cosh, Real.sinh_eq, Real.cosh_eq, h1]
  have ha := Real.exp_pos (1 / 2 * p)
  have hb := Real.exp_pos (-(1 / 2 * p))
  set A := Real.exp (1 / 2 * p)
  set B := Real.exp (-(1 / 2 * p))
  have hab : A + B ≠ 0 := by positivity
  have hbb : 1 + B * B ≠ 0 := by positivity
  field_simp
  linear_combination 2 * B * h2

theorem lgst_eq (p : EReal) : lgst p = lgstE p := by
  unfold lgst lgstE
  induction p using EReal.rec with
  | coe p =>
    have h : (1 + Real.exp (-p)) ≠ 0 := by positivity
    have e1 : (1 : EReal) + Ideal.exp (-(p : EReal)) = ((1 + Real.exp (-p) : ℝ) : EReal) := by
      rw [← EReal.coe_neg, Ideal.exp_coe, ← EReal.coe_one, ← EReal.coe_add]
    rw [e1, Ideal.div_coe h, half_val, ← EReal.coe_mul, Ideal.tanh_coe, ← EReal.coe_mul, ← EReal.coe_add, sig_real, one_mul]
  | top =>
    rw [half_val, EReal.coe_mul_top_of_pos (by norm_num)]
    have e : (1 : EReal) + Ideal.exp (-⊤) = ((1 : ℝ) : EReal) := by simp
    rw [e, Ideal.div_coe (by norm_num)]
    simp
    rw [← EReal.coe_one, ← EReal.coe_add]
    norm_num
  | bot =>
    rw [half_val, EReal.coe_mul_bot_of_pos (by norm_num)]
    have e : (1 : EReal) + Ideal.exp (-⊥) = ⊤ := by
      rw [EReal.neg_bot, Ideal.exp_top]
      exact EReal.coe_add_top 1
    rw [e]
    simp
    rw [← EReal.coe_neg, ← EReal.coe_add]
    norm_num [Ideal.div]

/-- The scaled residual sum normalizes to the unscaled one's normalization: the residual at full weight. -/
theorem deepnorm_one (X F g b : Fin 1024 → EReal) (j : Fin 1024) :
    ln eoa (fun j => X j + oa * F j) g b j
    = ln (Ideal.div 1 (Ideal.ofBits .f32 0x47C35000#32)) (fun j => Ideal.sqrt (Ideal.sqrt (Ideal.ofBits .f32 0x40000000#32)) * X j + F j) g b j := by
  rw [alpha_val, eps_val]
  unfold oa eoa
  have h2 : 0 < Real.sqrt 2 := Real.sqrt_pos.mpr (by norm_num)
  have ha : 0 < Real.sqrt (Real.sqrt 2) := Real.sqrt_pos.mpr h2
  have haa : Real.sqrt (Real.sqrt 2) * Real.sqrt (Real.sqrt 2) = Real.sqrt 2 := Real.mul_self_sqrt h2.le
  rw [← ln_scale (Real.sqrt (Real.sqrt 2)) (1 / 100000 * (Real.sqrt 2)⁻¹) ha (by positivity)]
  have e1 : Real.sqrt (Real.sqrt 2) * Real.sqrt (Real.sqrt 2) * (1 / 100000 * (Real.sqrt 2)⁻¹) = 1 / 100000 := by
    rw [haa]; field_simp
  rw [e1]
  congr 1
  funext k
  rw [EReal.left_distrib_of_nonneg_of_ne_top (by exact_mod_cast ha.le) (EReal.coe_ne_top _), ← mul_assoc, ← EReal.coe_mul,
    mul_inv_cancel₀ ha.ne', EReal.coe_one, one_mul]

theorem sum_top {ι : Type*} [Fintype ι] (f : ι → EReal) (h0 : ∀ k, 0 ≤ f k) (j : ι) (hj : f j = ⊤) : ∑ k, f k = ⊤ := by
  refine top_le_iff.mp ?_
  rw [← hj]
  exact Finset.single_le_sum (f := f) (fun k _ => h0 k) (Finset.mem_univ j)

theorem sq_nonneg' (x : EReal) : 0 ≤ x * x := by
  rcases le_total 0 x with h | h
  · exact mul_nonneg h h
  · rw [← neg_mul_neg]
    have : 0 ≤ -x := by simpa using EReal.neg_le_neg_iff.mpr h
    exact mul_nonneg this this

/-- A row's normalization with a positive constant under the root is a real wherever its scale and shift are, whatever the row. -/
theorem ln_is_real (e : ℝ) (he : 0 < e) (z g b : Fin 1024 → EReal) (j : Fin 1024) (hg : ∃ r : ℝ, g j = r) (hb : ∃ r : ℝ, b j = r) :
    ∃ r : ℝ, ln (e : EReal) z g b j = r := by
  obtain ⟨gr, hg⟩ := hg
  obtain ⟨br, hb⟩ := hb
  unfold ln
  generalize hd : (fun k => z k - mean z) = d
  have hdj : ∀ k, z k - mean z = d k := fun k => congrFun hd k
  simp only [hdj]
  by_cases hr : ∀ k, ∃ r : ℝ, d k = r
  · obtain ⟨v, hv⟩ := sum_real d d hr hr
    obtain ⟨dr, hdr⟩ := hr j
    have hm : mean (fun k => d k * d k) = ((v * (1 / 1024) : ℝ) : EReal) := by
      unfold mean
      rw [hv, width_val, Ideal.div_coe (by norm_num), ← EReal.coe_mul]
    have h0 := mean_sq_nonneg d
    rw [hm] at h0
    have h0' : 0 ≤ v * (1 / 1024) := by exact_mod_cast h0
    have hp : 0 < v * (1 / 1024) + e := by positivity
    rw [hm, ← EReal.coe_add, Ideal.rsqrt_coe, if_neg hp.le.not_gt, if_neg hp.ne', hdr, hg, hb, ← EReal.coe_mul, ← EReal.coe_mul, ← EReal.coe_add]
    exact ⟨_, rfl⟩
  · push Not at hr
    obtain ⟨k, hk⟩ := hr
    have hk2 : d k * d k = ⊤ := by
      cases h : d k using EReal.rec with
      | coe r => exact absurd h (hk r)
      | top => simp
      | bot => simp
    have hm : mean (fun k => d k * d k) = ⊤ := by
      unfold mean
      rw [sum_top (fun k => d k * d k) (fun k => sq_nonneg' _) k hk2, width_val, Ideal.div_coe (by norm_num)]
      exact EReal.top_mul_coe_of_pos (by norm_num)
    rw [hm, EReal.top_add_coe]
    simp only [Ideal.rsqrt_top, mul_zero, zero_mul, zero_add]
    exact ⟨br, hb⟩

end Cert.RowMath
-- ==== Proof.MixTailRowsA.lean ====
module

public import proofs.«01_k».proof.Proof.MixTailIdealStep
public import proofs.«01_k».proof.Proof.FfnProjRows
public import proofs.«01_k».proof.Proof.TailMath
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.MixTailIdeal.Value
open Cert.MixTailIdeal Cert.MixTailIdeal.Gen Cert.MixTailIdeal.Body Cert.RowMath
open Cert.FfnProjIdeal.Value (ffn sum_six zrow hrow)

theorem named_half : Named.named (F := Ideal) (φ := .f32) κ "half_over_alpha" 0x3ED744FD#32 = hoa :=
  IdealRules.named_const.ideal_named_scalar _ _ _ _ rfl
theorem named_eps : Named.named (F := Ideal) (φ := .f32) κ "eps_over_alpha2" 0x36ED4403#32 = eoa :=
  IdealRules.named_const.ideal_named_scalar _ _ _ _ rfl
theorem named_one : Named.named (F := Ideal) (φ := .f32) κ "one_over_alpha" 0x3F5744FD#32 = oa :=
  IdealRules.named_const.ideal_named_scalar _ _ _ _ rfl

set_option maxHeartbeats 2000000 in
theorem ffnv_at (h : Vec Ideal S1x256x1024 .f32) (G U : Vec Ideal S1024x2816 .bf16) (D : Vec Ideal S2816x1024 .bf16) (i : Fin 256) (j : Fin 1024) :
    ffnv h G U D (ix2 i j) = ffn (fun k => h (ix3 0 i k)) G U D j := by
  unfold ffn ffnv
  rw [sum_six]
  pointwise [k0_pay29, k0_pay26, k0_pay27, k0_pay28, k0_pay14, k0_pay15, k0_pay16, k0_pay10, k0_pay11, k0_pay12, k0_pay4, k0_pay5, k0_pay13, k0_pay3, act]

theorem outv_at (h : Vec Ideal S1x256x1024 .f32) (G U : Vec Ideal S1024x2816 .bf16) (D : Vec Ideal S2816x1024 .bf16) (g b : Vec Ideal S1x1024 .f32) (i : Fin 256) (j : Fin 1024) :
    outv h G U D g b (ix2 i j) = hrow (fun k => h (ix3 0 i k)) G U D g b j := by
  unfold hrow ln outv
  have hz := ffnv_at h G U D
  generalize ffnv h G U D = Z at hz ⊢
  pointwise [k0_pay1, k0_pay33, k0_pay34]
  simp only [hz, named_eps, named_half, mean, zrow]

end Cert.MixTailIdeal.Value
-- ==== Proof.MixTailRowsB.lean ====
module

public import proofs.«01_k».proof.Proof.MixTailIdealStep
public import proofs.«01_k».proof.Proof.MixTailRowsA
public import proofs.«01_k».proof.Proof.TailMath
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.MixTailIdeal.Value
open Cert.MixTailIdeal Cert.MixTailIdeal.Gen Cert.MixTailIdeal.Body Cert.RowMath

theorem gla0 (o : Vec Ideal S256x128 .f32) (g : Vec Ideal S1x128 .f32) (p : Vec Ideal S256x128 .f32) (i : Fin 256) (t : Fin 128) :
    k0_pay6 o g p (ix2 i t) = rms (fun t => o (ix2 i t)) (fun t => g (ix2 0 t)) t * silu (p (ix2 i t)) := by
  unfold rms silu mean128
  pointwise [k0_pay6]

theorem gla1 (o : Vec Ideal S256x128 .f32) (g : Vec Ideal S1x128 .f32) (p : Vec Ideal S256x128 .f32) (i : Fin 256) (t : Fin 128) :
    k0_pay7 o g p (ix2 i t) = rms (fun t => o (ix2 i t)) (fun t => g (ix2 0 t)) t * silu (p (ix2 i t)) := by
  unfold rms silu mean128
  pointwise [k0_pay7]

theorem gla2 (o : Vec Ideal S256x128 .f32) (g : Vec Ideal S1x128 .f32) (p : Vec Ideal S256x128 .f32) (i : Fin 256) (t : Fin 128) :
    k0_pay8 o g p (ix2 i t) = rms (fun t => o (ix2 i t)) (fun t => g (ix2 0 t)) t * silu (p (ix2 i t)) := by
  unfold rms silu mean128
  pointwise [k0_pay8]

theorem gla3 (o : Vec Ideal S256x128 .f32) (g : Vec Ideal S1x128 .f32) (p : Vec Ideal S256x128 .f32) (i : Fin 256) (t : Fin 128) :
    k0_pay9 o g p (ix2 i t) = rms (fun t => o (ix2 i t)) (fun t => g (ix2 0 t)) t * silu (p (ix2 i t)) := by
  unfold rms silu mean128
  pointwise [k0_pay9]

theorem mem0 (o : Vec Ideal S256x128 .f32) (g : Vec Ideal S1x128 .f32) (p : Vec Ideal S256x128 .f32) (i : Fin 256) (t : Fin 128) :
    k0_pay19 (k0_pay17 o) (k0_pay18 o) g p (ix2 i t) = lgst (p (ix2 i t)) * hln (fun t => o (ix2 i t)) (fun t => g (ix2 0 t)) t := by
  unfold hln lgst mean128
  pointwise [k0_pay17, k0_pay18, k0_pay19]

theorem mem1 (o : Vec Ideal S256x128 .f32) (g : Vec Ideal S1x128 .f32) (p : Vec Ideal S256x128 .f32) (i : Fin 256) (t : Fin 128) :
    k0_pay22 (k0_pay20 o g) (k0_pay21 p) (ix2 i t) = lgst (p (ix2 i t)) * hln (fun t => o (ix2 i t)) (fun t => g (ix2 0 t)) t := by
  unfold hln lgst mean128
  pointwise [k0_pay20, k0_pay21, k0_pay22]

theorem mem2 (o : Vec Ideal S256x128 .f32) (g : Vec Ideal S1x128 .f32) (p : Vec Ideal S256x128 .f32) (i : Fin 256) (t : Fin 128) :
    k0_pay23 o g p (ix2 i t) = lgst (p (ix2 i t)) * hln (fun t => o (ix2 i t)) (fun t => g (ix2 0 t)) t := by
  unfold hln lgst mean128
  pointwise [k0_pay23]

theorem mem3 (o : Vec Ideal S256x128 .f32) (g : Vec Ideal S1x128 .f32) (p : Vec Ideal S256x128 .f32) (i : Fin 256) (t : Fin 128) :
    k0_pay25 o (k0_pay24 o) g p (ix2 i t) = lgst (p (ix2 i t)) * hln (fun t => o (ix2 i t)) (fun t => g (ix2 0 t)) t := by
  unfold hln lgst mean128
  pointwise [k0_pay24, k0_pay25]

theorem sum_eight (f : Fin 1024 → EReal) :
    ∑ i, f i = ((∑ t : Fin 128, f ⟨0 + t, by omega⟩) + (∑ t : Fin 128, f ⟨128 + t, by omega⟩) + (∑ t : Fin 128, f ⟨256 + t, by omega⟩) + (∑ t : Fin 128, f ⟨384 + t, by omega⟩))
      + ((∑ t : Fin 128, f ⟨512 + t, by omega⟩) + (∑ t : Fin 128, f ⟨640 + t, by omega⟩) + (∑ t : Fin 128, f ⟨768 + t, by omega⟩) + (∑ t : Fin 128, f ⟨896 + t, by omega⟩)) := by
  rw [Fin.sum_univ_tiles 8 128 rfl f]
  simp only [Fin.sum_univ_eight, add_assoc]
  rfl

theorem proj_at (h0 h1 h2 h3 h4 h5 h6 h7 : FVec Ideal S256x128 .f32) (W : Vec Ideal S1024x1024 .bf16) (x : Vec Ideal S256x1024 .f32) (i : Fin 256) (j : Fin 1024) :
    k0_pay30 h0 h1 h2 h3 h4 h5 h6 h7 W x (ix2 i j) = x (ix2 i j) + oa *
      (((∑ t : Fin 128, h0 (ix2 i t) * W (ix2 ⟨0 + t, by omega⟩ j)) + (∑ t : Fin 128, h1 (ix2 i t) * W (ix2 ⟨128 + t, by omega⟩ j))
        + (∑ t : Fin 128, h2 (ix2 i t) * W (ix2 ⟨256 + t, by omega⟩ j)) + (∑ t : Fin 128, h3 (ix2 i t) * W (ix2 ⟨384 + t, by omega⟩ j)))
      + ((∑ t : Fin 128, h4 (ix2 i t) * W (ix2 ⟨512 + t, by omega⟩ j)) + (∑ t : Fin 128, h5 (ix2 i t) * W (ix2 ⟨640 + t, by omega⟩ j))
        + (∑ t : Fin 128, h6 (ix2 i t) * W (ix2 ⟨768 + t, by omega⟩ j)) + (∑ t : Fin 128, h7 (ix2 i t) * W (ix2 ⟨896 + t, by omega⟩ j)))) := by
  pointwise [k0_pay30]
  simp only [named_one]
  rw [sum_eight]
  refine congrArg (x (ix2 i j) + oa * ·) (congrArg₂ (· + ·) (congrArg₂ (· + ·) (congrArg₂ (· + ·) (congrArg₂ (· + ·) ?_ ?_) ?_) ?_) (congrArg₂ (· + ·) (congrArg₂ (· + ·) (congrArg₂ (· + ·) ?_ ?_) ?_) ?_))
  all_goals
    refine Finset.sum_congr (M := EReal) rfl fun t _ => ?_
    have lt := t.isLt
    refine congrArg₂ (HMul.hMul (α := EReal) (β := EReal)) ?_ (congrArg (fun q => W (ix2 q j)) (Fin.ext (by simp)))
    dsimp only
    iterate 7 (try rw [dif_neg (by omega)])
    try rw [dif_pos (by omega)]
    refine congrArg _ (congrArg (ix2 i) (Fin.ext ?_))
    dsimp only
    omega

end Cert.MixTailIdeal.Value
-- ==== Proof.MixTailRowsC.lean ====
module

public import proofs.«01_k».proof.Proof.MixTailIdealStep
public import proofs.«01_k».proof.Proof.MixTailRowsB
public import proofs.«01_k».proof.Proof.TailMath
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.MixTailIdeal.Value
open Cert.MixTailIdeal Cert.MixTailIdeal.Gen Cert.MixTailIdeal.Body Cert.RowMath

theorem ld_h (x : Vec Ideal S256x512 .f32) (a : ℕ) (h : a + 128 ≤ 512) (inb) (i : Fin 256) :
    (fun t : Fin 128 => View.ld x (Rect.unit ![0, a] ![256, 128] inb) (ix2 i t)) = cols (fun k => x (ix2 i k)) a h := by
  funext t; unfold cols; pointwise; blk_ext
theorem ld_h' (x : Vec Ideal S256x512 .f32) (a : ℕ) (h : a + 128 ≤ 512) (inb) (i : Fin 256) (t : Fin 128) :
    View.ld x (Rect.unit ![0, a] ![256, 128] inb) (ix2 i t) = cols (fun k => x (ix2 i k)) a h t := congrFun (ld_h x a h inb i) t
theorem ld_g (x : Vec Ideal S1x512 .f32) (a : ℕ) (h : a + 128 ≤ 512) (inb) (i : Fin 1) :
    (fun t : Fin 128 => View.ld x (Rect.unit ![0, a] ![1, 128] inb) (ix2 i t)) = cols (fun k => x (ix2 i k)) a h := by
  funext t; unfold cols; pointwise; blk_ext
theorem ld_g' (x : Vec Ideal S1x512 .f32) (a : ℕ) (h : a + 128 ≤ 512) (inb) (i : Fin 1) (t : Fin 128) :
    View.ld x (Rect.unit ![0, a] ![1, 128] inb) (ix2 i t) = cols (fun k => x (ix2 i k)) a h t := congrFun (ld_g x a h inb i) t
theorem ld_p (x : Vec Ideal S256x3200 .f32) (a : ℕ) (h : a + 128 ≤ 3200) (inb) (i : Fin 256) :
    (fun t : Fin 128 => View.ld x (Rect.unit ![0, a] ![256, 128] inb) (ix2 i t)) = cols (fun k => x (ix2 i k)) a h := by
  funext t; unfold cols; pointwise; blk_ext
theorem ld_p' (x : Vec Ideal S256x3200 .f32) (a : ℕ) (h : a + 128 ≤ 3200) (inb) (i : Fin 256) (t : Fin 128) :
    View.ld x (Rect.unit ![0, a] ![256, 128] inb) (ix2 i t) = cols (fun k => x (ix2 i k)) a h t := congrFun (ld_p x a h inb i) t

/-- A row's residual sum with the projected heads, as the kernel scales it. -/
def mrow (P : Fin 3200 → EReal) (O H : Fin 512 → EReal) (X : Fin 1024 → EReal) (gn mn : FVec Ideal S1x512 .f32) (W : FVec Ideal S1024x1024 .bf16) (j : Fin 1024) : EReal :=
  X j + oa * mixsum silu lgst P O H (fun k => gn (ix2 0 k)) (fun k => mn (ix2 0 k)) (fun k => W (ix2 k j))

theorem heads_at (p : Vec Ideal S256x3200 .f32) (o hm : Vec Ideal S256x512 .f32) (x : Vec Ideal S256x1024 .f32) (gn mn : Vec Ideal S1x512 .f32) (W : Vec Ideal S1024x1024 .bf16) (i : Fin 256) (j : Fin 1024) :
    k0_pay30 (k0_pay6 (View.ld o (Rect.unit ![0, 0] ![256, 128] inb_S256x512_S256x128_0_0)) (View.ld gn (Rect.unit ![0, 0] ![1, 128] inb_S1x512_S1x128_0_0)) (View.ld p (Rect.unit ![0, 1024] ![256, 128] inb_S256x3200_S256x128_0_1024))) (k0_pay7 (View.ld o (Rect.unit ![0, 128] ![256, 128] inb_S256x512_S256x128_0_128)) (View.ld gn (Rect.unit ![0, 128] ![1, 128] inb_S1x512_S1x128_0_128)) (View.ld p (Rect.unit ![0, 1152] ![256, 128] inb_S256x3200_S256x128_0_1152))) (k0_pay8 (View.ld o (Rect.unit ![0, 256] ![256, 128] inb_S256x512_S256x128_0_256)) (View.ld gn (Rect.unit ![0, 256] ![1, 128] inb_S1x512_S1x128_0_256)) (View.ld p (Rect.unit ![0, 1280] ![256, 128] inb_S256x3200_S256x128_0_1280))) (k0_pay9 (View.ld o (Rect.unit ![0, 384] ![256, 128] inb_S256x512_S256x128_0_384)) (View.ld gn (Rect.unit ![0, 384] ![1, 128] inb_S1x512_S1x128_0_384)) (View.ld p (Rect.unit ![0, 1408] ![256, 128] inb_S256x3200_S256x128_0_1408))) (k0_pay19 (k0_pay17 (View.ld hm (Rect.unit ![0, 0] ![256, 128] inb_S256x512_S256x128_0_0))) (k0_pay18 (View.ld hm (Rect.unit ![0, 0] ![256, 128] inb_S256x512_S256x128_0_0))) (View.ld mn (Rect.unit ![0, 0] ![1, 128] inb_S1x512_S1x128_0_0)) (View.ld p (Rect.unit ![0, 2560] ![256, 128] inb_S256x3200_S256x128_0_2560))) (k0_pay22 (k0_pay20 (View.ld hm (Rect.unit ![0, 128] ![256, 128] inb_S256x512_S256x128_0_128)) (View.ld mn (Rect.unit ![0, 128] ![1, 128] inb_S1x512_S1x128_0_128))) (k0_pay21 (View.ld p (Rect.unit ![0, 2688] ![256, 128] inb_S256x3200_S256x128_0_2688)))) (k0_pay23 (View.ld hm (Rect.unit ![0, 256] ![256, 128] inb_S256x512_S256x128_0_256)) (View.ld mn (Rect.unit ![0, 256] ![1, 128] inb_S1x512_S1x128_0_256)) (View.ld p (Rect.unit ![0, 2816] ![256, 128] inb_S256x3200_S256x128_0_2816))) (k0_pay25 (View.ld hm (Rect.unit ![0, 384] ![256, 128] inb_S256x512_S256x128_0_384)) (k0_pay24 (View.ld hm (Rect.unit ![0, 384] ![256, 128] inb_S256x512_S256x128_0_384))) (View.ld mn (Rect.unit ![0, 384] ![1, 128] inb_S1x512_S1x128_0_384)) (View.ld p (Rect.unit ![0, 2944] ![256, 128] inb_S256x3200_S256x128_0_2944))) W x (ix2 i j)
      = mrow (fun k => p (ix2 i k)) (fun k => o (ix2 i k)) (fun k => hm (ix2 i k)) (fun k => x (ix2 i k)) gn mn W j := by
  rw [proj_at]
  unfold mrow mixsum
  simp only [Fin.sum_univ_four, gla0, gla1, gla2, gla3, mem0, mem1, mem2, mem3]
  rw [ld_h o 0 (by omega), ld_g gn 0 (by omega), ld_h hm 0 (by omega), ld_g mn 0 (by omega)]
  simp only [ld_p' p 1024 (by omega), ld_p' p 2560 (by omega)]
  rw [ld_h o 128 (by omega), ld_g gn 128 (by omega), ld_h hm 128 (by omega), ld_g mn 128 (by omega)]
  simp only [ld_p' p 1152 (by omega), ld_p' p 2688 (by omega)]
  rw [ld_h o 256 (by omega), ld_g gn 256 (by omega), ld_h hm 256 (by omega), ld_g mn 256 (by omega)]
  simp only [ld_p' p 1280 (by omega), ld_p' p 2816 (by omega)]
  rw [ld_h o 384 (by omega), ld_g gn 384 (by omega), ld_h hm 384 (by omega), ld_g mn 384 (by omega)]
  simp only [ld_p' p 1408 (by omega), ld_p' p 2944 (by omega)]
  rfl

theorem mixv_at (p : Vec Ideal S256x3200 .f32) (o hm : Vec Ideal S256x512 .f32) (x : Vec Ideal S256x1024 .f32) (gn mn : Vec Ideal S1x512 .f32) (W : Vec Ideal S1024x1024 .bf16) (g b : Vec Ideal S1x1024 .f32) (i : Fin 256) (j : Fin 1024) :
    mixv p o hm x gn mn W g b (ix3 0 i j)
      = ln eoa (mrow (fun k => p (ix2 i k)) (fun k => o (ix2 i k)) (fun k => hm (ix2 i k)) (fun k => x (ix2 i k)) gn mn W) (fun j => g (ix2 0 j)) (fun j => b (ix2 0 j)) j := by
  have hz := heads_at p o hm x gn mn W
  unfold ln mixv
  unfold k0_pay31
  generalize k0_pay30 (k0_pay6 (View.ld o (Rect.unit ![0, 0] ![256, 128] inb_S256x512_S256x128_0_0)) (View.ld gn (Rect.unit ![0, 0] ![1, 128] inb_S1x512_S1x128_0_0)) (View.ld p (Rect.unit ![0, 1024] ![256, 128] inb_S256x3200_S256x128_0_1024))) (k0_pay7 (View.ld o (Rect.unit ![0, 128] ![256, 128] inb_S256x512_S256x128_0_128)) (View.ld gn (Rect.unit ![0, 128] ![1, 128] inb_S1x512_S1x128_0_128)) (View.ld p (Rect.unit ![0, 1152] ![256, 128] inb_S256x3200_S256x128_0_1152))) (k0_pay8 (View.ld o (Rect.unit ![0, 256] ![256, 128] inb_S256x512_S256x128_0_256)) (View.ld gn (Rect.unit ![0, 256] ![1, 128] inb_S1x512_S1x128_0_256)) (View.ld p (Rect.unit ![0, 1280] ![256, 128] inb_S256x3200_S256x128_0_1280))) (k0_pay9 (View.ld o (Rect.unit ![0, 384] ![256, 128] inb_S256x512_S256x128_0_384)) (View.ld gn (Rect.unit ![0, 384] ![1, 128] inb_S1x512_S1x128_0_384)) (View.ld p (Rect.unit ![0, 1408] ![256, 128] inb_S256x3200_S256x128_0_1408))) (k0_pay19 (k0_pay17 (View.ld hm (Rect.unit ![0, 0] ![256, 128] inb_S256x512_S256x128_0_0))) (k0_pay18 (View.ld hm (Rect.unit ![0, 0] ![256, 128] inb_S256x512_S256x128_0_0))) (View.ld mn (Rect.unit ![0, 0] ![1, 128] inb_S1x512_S1x128_0_0)) (View.ld p (Rect.unit ![0, 2560] ![256, 128] inb_S256x3200_S256x128_0_2560))) (k0_pay22 (k0_pay20 (View.ld hm (Rect.unit ![0, 128] ![256, 128] inb_S256x512_S256x128_0_128)) (View.ld mn (Rect.unit ![0, 128] ![1, 128] inb_S1x512_S1x128_0_128))) (k0_pay21 (View.ld p (Rect.unit ![0, 2688] ![256, 128] inb_S256x3200_S256x128_0_2688)))) (k0_pay23 (View.ld hm (Rect.unit ![0, 256] ![256, 128] inb_S256x512_S256x128_0_256)) (View.ld mn (Rect.unit ![0, 256] ![1, 128] inb_S1x512_S1x128_0_256)) (View.ld p (Rect.unit ![0, 2816] ![256, 128] inb_S256x3200_S256x128_0_2816))) (k0_pay25 (View.ld hm (Rect.unit ![0, 384] ![256, 128] inb_S256x512_S256x128_0_384)) (k0_pay24 (View.ld hm (Rect.unit ![0, 384] ![256, 128] inb_S256x512_S256x128_0_384))) (View.ld mn (Rect.unit ![0, 384] ![1, 128] inb_S1x512_S1x128_0_384)) (View.ld p (Rect.unit ![0, 2944] ![256, 128] inb_S256x3200_S256x128_0_2944))) W x = Z at hz ⊢
  pointwise [k0_pay32]
  simp only [hz, named_eps, mean]

end Cert.MixTailIdeal.Value
-- ==== Proof.MixTailBlocks.lean ====
module

public import proofs.«01_k».proof.Proof.MixTailIdealFrame
public import proofs.«01_k».proof.Proof.MixTailRowsC

@[expose] public section

set_option maxRecDepth 16384
noncomputable section
open Idealize.ShloMosaic Idealize.ShloMosaic.TcCoe Idealize.SL.Sem
open Idealize.ShloMosaic.Pipeline (Dat)
namespace Cert.MixTailIdeal.Value
open Cert.MixTailIdeal Cert.MixTailIdeal.Gen Cert.MixTailIdeal.Body Cert.RowMath
open Cert.FfnProjIdeal.Value (hrow)
variable (m : (ℓ : Loc nD τ sig) → Buf (Elt Ideal) ℓ)

/-- Which block each window holds at a point: the four row blocks run one point ahead of the result's. -/
theorem idx : ∀ t : Fin cfg0.N, win0_0.index t = ![min t.val 127, 0] ∧ win0_1.index t = ![min t.val 127, 0] ∧ win0_2.index t = ![min t.val 127, 0] ∧ win0_3.index t = ![min t.val 127, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val - 1, 0] ∧ t.val < 129 :=
  (by decide +kernel : ∀ t : Fin grid0.N, _)

theorem blk4 (c : Dev nD) (t : Fin cfg0.N) : (iblk m c 4 t : Vec Ideal S1x512 .f32) = m ((c : Thread nD τ).loc main_arg4) := by
  blk_ext! [iblk, V, idx t]
theorem blk5 (c : Dev nD) (t : Fin cfg0.N) : (iblk m c 5 t : Vec Ideal S1x512 .f32) = m ((c : Thread nD τ).loc main_arg5) := by
  blk_ext! [iblk, V, idx t]
theorem blk6 (c : Dev nD) (t : Fin cfg0.N) : (iblk m c 6 t : Vec Ideal S1024x1024 .bf16) = m ((c : Thread nD τ).loc main_arg6) := by
  blk_ext! [iblk, V, idx t]
theorem blk7 (c : Dev nD) (t : Fin cfg0.N) : (iblk m c 7 t : Vec Ideal S1x1024 .f32) = m ((c : Thread nD τ).loc main_arg7) := by
  blk_ext! [iblk, V, idx t]
theorem blk8 (c : Dev nD) (t : Fin cfg0.N) : (iblk m c 8 t : Vec Ideal S1x1024 .f32) = m ((c : Thread nD τ).loc main_arg8) := by
  blk_ext! [iblk, V, idx t]
theorem blk9 (c : Dev nD) (t : Fin cfg0.N) : (iblk m c 9 t : Vec Ideal S1024x2816 .bf16) = m ((c : Thread nD τ).loc main_arg9) := by
  blk_ext! [iblk, V, idx t]
theorem blk10 (c : Dev nD) (t : Fin cfg0.N) : (iblk m c 10 t : Vec Ideal S1024x2816 .bf16) = m ((c : Thread nD τ).loc main_arg10) := by
  blk_ext! [iblk, V, idx t]
theorem blk11 (c : Dev nD) (t : Fin cfg0.N) : (iblk m c 11 t : Vec Ideal S2816x1024 .bf16) = m ((c : Thread nD τ).loc main_arg11) := by
  blk_ext! [iblk, V, idx t]
theorem blk12 (c : Dev nD) (t : Fin cfg0.N) : (iblk m c 12 t : Vec Ideal S1x1024 .f32) = m ((c : Thread nD τ).loc main_arg12) := by
  blk_ext! [iblk, V, idx t]
theorem blk13 (c : Dev nD) (t : Fin cfg0.N) : (iblk m c 13 t : Vec Ideal S1x1024 .f32) = m ((c : Thread nD τ).loc main_arg13) := by
  blk_ext! [iblk, V, idx t]
theorem row0 (c : Dev nD) (t : Fin cfg0.N) (r : Fin 256) (R : Fin 32768) (ht : t.val < 128) (hR : (R : ℕ) = t.val * 256 + r) :
    (fun k : Fin 3200 => (iblk m c 0 t : Vec Ideal S256x3200 .f32) (ix2 r k)) = fun k : Fin 3200 => (m ((c : Thread nD τ).loc main_arg0) : FVec Ideal S32768x3200 .f32) (ix2 R k) := by
  have hm : min t.val 127 = t.val := by omega
  funext k
  blk_ext [iblk, V, idx t, hm]
theorem row1 (c : Dev nD) (t : Fin cfg0.N) (r : Fin 256) (R : Fin 32768) (ht : t.val < 128) (hR : (R : ℕ) = t.val * 256 + r) :
    (fun k : Fin 512 => (iblk m c 1 t : Vec Ideal S256x512 .f32) (ix2 r k)) = fun k : Fin 512 => (m ((c : Thread nD τ).loc main_arg1) : FVec Ideal S32768x512 .f32) (ix2 R k) := by
  have hm : min t.val 127 = t.val := by omega
  funext k
  blk_ext [iblk, V, idx t, hm]
theorem row2 (c : Dev nD) (t : Fin cfg0.N) (r : Fin 256) (R : Fin 32768) (ht : t.val < 128) (hR : (R : ℕ) = t.val * 256 + r) :
    (fun k : Fin 512 => (iblk m c 2 t : Vec Ideal S256x512 .f32) (ix2 r k)) = fun k : Fin 512 => (m ((c : Thread nD τ).loc main_arg2) : FVec Ideal S32768x512 .f32) (ix2 R k) := by
  have hm : min t.val 127 = t.val := by omega
  funext k
  blk_ext [iblk, V, idx t, hm]
theorem row3 (c : Dev nD) (t : Fin cfg0.N) (r : Fin 256) (R : Fin 32768) (ht : t.val < 128) (hR : (R : ℕ) = t.val * 256 + r) :
    (fun k : Fin 1024 => (iblk m c 3 t : Vec Ideal S256x1024 .f32) (ix2 r k)) = fun k : Fin 1024 => (m ((c : Thread nD τ).loc main_arg3) : FVec Ideal S32768x1024 .f32) (ix2 R k) := by
  have hm : min t.val 127 = t.val := by omega
  funext k
  blk_ext [iblk, V, idx t, hm]

/-- The row the mixer leaves in the slot, of the arguments. -/
def midrow (p : FVec Ideal S32768x3200 .f32) (o hm : FVec Ideal S32768x512 .f32) (x : FVec Ideal S32768x1024 .f32) (gn mn : FVec Ideal S1x512 .f32) (W : FVec Ideal S1024x1024 .bf16)
    (g b : FVec Ideal S1x1024 .f32) (r : Fin 32768) (j : Fin 1024) : EReal :=
  ln eoa (mrow (fun k => p (ix2 r k)) (fun k => o (ix2 r k)) (fun k => hm (ix2 r k)) (fun k => x (ix2 r k)) gn mn W) (fun j => g (ix2 0 j)) (fun j => b (ix2 0 j)) j

/-- The result as one function of the arguments. -/
def Out (p : FVec Ideal S32768x3200 .f32) (o hm : FVec Ideal S32768x512 .f32) (x : FVec Ideal S32768x1024 .f32) (gn mn : FVec Ideal S1x512 .f32) (W : FVec Ideal S1024x1024 .bf16)
    (g b : FVec Ideal S1x1024 .f32) (G U : FVec Ideal S1024x2816 .bf16) (D : FVec Ideal S2816x1024 .bf16) (g3 b3 : FVec Ideal S1x1024 .f32) : FVec Ideal S32768x1024 .f32 :=
  fun i => hrow (midrow p o hm x gn mn W g b (i 0 : Fin 32768)) G U D g3 b3 (i 1 : Fin 1024)

/-- A row of what a point keeps is the mixer's row of the arguments. -/
theorem kept_row (c : Dev nD) (t : Fin cfg0.N) (r : Fin 256) (R : Fin 32768) (ht : t.val < 128) (hR : (R : ℕ) = t.val * 256 + r) :
    (fun k : Fin 1024 => mixAt m c t (ix3 0 r k)) = midrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R := by
  funext k
  unfold mixAt midrow
  rw [blk4 m c t, blk5 m c t, blk6 m c t, blk7 m c t, blk8 m c t]
  refine (mixv_at _ _ _ _ _ _ _ _ _ r k).trans ?_
  rw [row0 m c t r R ht hR, row1 m c t r R ht hR, row2 m c t r R ht hR, row3 m c t r R ht hR]

theorem final14 (c : Dev nD) : (dats m 0 c).arrAt 14 (cfgs 0).N
    = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t hf y => ?_
  have h0 : t.val ≠ 0 := (by decide +kernel : ∀ t : Fin grid0.N, (cfg0.win 14).flush t = true → t.val ≠ 0) t hf
  have ht : t.val - 1 < 128 := by have h : t.val < 129 := t.isLt; omega
  blk_simp
  rw [after_14, blk9 m c t, blk10 m c t, blk11 m c t, blk12 m c t, blk13 m c t]
  unfold prevAt
  rw [dif_neg h0]
  unfold Out
  obtain ⟨i, j, rfl⟩ : ∃ (i : Fin 256) (j : Fin 1024), y = ix2 i j := ⟨y 0, y 1, by funext a; fin_cases a <;> rfl⟩
  refine (outv_at _ _ _ _ _ _ i j).trans ?_
  rw [kept_row m c ⟨t.val - 1, _⟩ i ((((cfg0.win 14).blk t).view.emb (ix2 i j)) 0) ht (by blk_simp [idx t])]
  congr 1
  apply Fin.ext
  blk_simp [idx t]

end Cert.MixTailIdeal.Value
-- ==== Proof.MixTailRef.lean ====
module

public import proofs.«01_k».proof.Proof.Gen.MixTailRefIdeal.Run
public import proofs.«01_k».proof.Proof.FfnProjRef
public import proofs.«01_k».proof.Proof.TailMath
public import Idealize.ShloMosaic.Lib.Pipeline.ValueKit

@[expose] public section

set_option maxRecDepth 16384
noncomputable section
open Idealize.ShloMosaic Idealize.ShloMosaic.TcCoe Idealize.SL.Sem Idealize.ShloMosaic.StableHlo
namespace Cert.MixTailRefIdeal.Value
open Cert.MixTailRefIdeal Cert.MixTailRefIdeal.Gen Cert.RowMath

/-- The reference's first residual sum at one row. -/
def rsum (P : Fin 3200 → EReal) (O H : Fin 512 → EReal) (X : Fin 1024 → EReal) (gn mn : FVec Ideal S1x512 .f32) (W : FVec Ideal S1024x1024 .bf16) (j : Fin 1024) : EReal :=
  Ideal.sqrt (Ideal.sqrt (Ideal.ofBits .f32 0x40000000#32)) * X j
    + mixsum siluE lgstE P O H (fun k => gn (ix2 0 k)) (fun k => mn (ix2 0 k)) (fun k => W (ix2 k j))

variable (V0 : Valuation τ sig (Elt Ideal))

theorem ref_sum (r : Fin 32768) (j : Fin 1024) :
    (res_main_v63 V0 : FVec Ideal S32768x1024 .f32) (ix2 r j)
      = rsum (fun k => (V0 (Proc.devRef .tc main_arg0) : FVec Ideal S32768x3200 .f32) (ix2 r k)) (fun k => (V0 (Proc.devRef .tc main_arg1) : FVec Ideal S32768x512 .f32) (ix2 r k))
        (fun k => (V0 (Proc.devRef .tc main_arg2) : FVec Ideal S32768x512 .f32) (ix2 r k)) (fun k => (V0 (Proc.devRef .tc main_arg3) : FVec Ideal S32768x1024 .f32) (ix2 r k))
        (V0 (Proc.devRef .tc main_arg4)) (V0 (Proc.devRef .tc main_arg5)) (V0 (Proc.devRef .tc main_arg6)) j := by
  unfold rsum mixsum
  pointwise [res_main_v63, res_main_v4, res_main_v6, res_main_v31, res_main_v36, res_main_v38]
  refine congrArg (_ + ·) (congrArg₂ (HAdd.hAdd (α := EReal) (β := EReal)) ((Fin.sum_univ_tiles 4 128 rfl _).trans ?_) ((Fin.sum_univ_tiles 4 128 rfl _).trans ?_))
  all_goals
    refine Finset.sum_congr (M := EReal) rfl fun h _ => Finset.sum_congr (M := EReal) rfl fun t _ => ?_
    have e1 : ((h : ℕ) * 128 + (t : ℕ)) / 128 = h := by omega
    have e2 : ((h : ℕ) * 128 + (t : ℕ)) % 128 = t := by omega
    simp only [e1, e2, rms, hln, siluE, lgstE, cols, mean128, ← Nat.add_assoc]

theorem ref_mid (r : Fin 32768) (j : Fin 1024) :
    (res_main_v86 V0 : FVec Ideal S32768x1024 .f32) (ix2 r j)
      = ln (Ideal.div 1 (Ideal.ofBits .f32 0x47C35000#32)) (fun k => (res_main_v63 V0 : FVec Ideal S32768x1024 .f32) (ix2 r k))
        (fun k => (V0 (Proc.devRef .tc main_arg7) : FVec Ideal S1x1024 .f32) (ix2 0 k)) (fun k => (V0 (Proc.devRef .tc main_arg8) : FVec Ideal S1x1024 .f32) (ix2 0 k)) j := by
  unfold ln mean
  pointwise [res_main_v86, res_main_v68, res_main_v70]

/-- The reference's result as a term of its arguments. -/
def refTerm : FVec Ideal S32768x1024 .f32 :=
  addf (mulf (mulf (subf (res_main_v98 V0) (broadcastInDim S32768x1024 ![0, 1] bcast_S32768x1_S32768x1024_0_1 (res_main_v103 V0))) (broadcastInDim S32768x1024 ![0, 1] bcast_S32768x1_S32768x1024_0_1 (Host.rsqrt (addf (Host.divf (broadcastInDim S32768x1 ![0] bcast_S32768_S32768x1_0 (Host.reduceAdd (mulf (res_main_v105 V0) (res_main_v105 V0)) (constant S_ .f32 0x00000000#32) reducesTo_S32768x1024_S32768_d1 h_S_)) (broadcastInDim S32768x1 ![] bcast_S_S32768x1 (constant S_ .f32 0x44800000#32))) (broadcastInDim S32768x1 ![] bcast_S_S32768x1 (Host.divf (constant S_ .f32 0x3F800000#32) (constant S_ .f32 0x47C35000#32))))))) (broadcastInDim S32768x1024 ![0, 1] bcast_S1x1024_S32768x1024_0_1 (V0 (Proc.devRef .tc main_arg12)))) (broadcastInDim S32768x1024 ![0, 1] bcast_S1x1024_S32768x1024_0_1 (V0 (Proc.devRef .tc main_arg13)))

open Cert.FfnProjRefIdeal.Value (rrow) in
theorem ref_out (r : Fin 32768) (j : Fin 1024) :
    refTerm V0 (ix2 r j) = rrow (fun k => (res_main_v86 V0 : FVec Ideal S32768x1024 .f32) (ix2 r k)) (V0 (Proc.devRef .tc main_arg9)) (V0 (Proc.devRef .tc main_arg10)) (V0 (Proc.devRef .tc main_arg11))
      (V0 (Proc.devRef .tc main_arg12)) (V0 (Proc.devRef .tc main_arg13)) j := by
  unfold rrow ln mean actS
  pointwise [refTerm, res_main_v98, res_main_v91, res_main_v103, res_main_v105]

end Cert.MixTailRefIdeal.Value
-- ==== Proof.MixTailEq.lean ====
module

public import proofs.«01_k».proof.Proof.MixTailBlocks
public import proofs.«01_k».proof.Proof.MixTailRef
public import proofs.«01_k».proof.Proof.FfnProjEq
public import proofs.«01_k».proof.Proof.Gen.Pre_finite3

@[expose] public section

set_option maxRecDepth 16384
noncomputable section
open Idealize.ShloMosaic Idealize.ShloMosaic.TcCoe
namespace Cert.MixTailEq
open Cert.RowMath Cert.MixTailIdeal Cert.MixTailIdeal.Value Cert.MixTailRefIdeal.Value
open Cert.FfnProjIdeal.Value (hrow)
open Cert.FfnProjRefIdeal.Value (rrow)
open Cert.FfnProjEq (row_eq real_of_lt)

/-- With the linear attention's gate columns real, the kernel's projected heads are the reference's. -/
theorem mixsum_eq (P : Fin 3200 → EReal) (O H gn mn : Fin 512 → EReal) (w : Fin 1024 → EReal) (hP : ∀ k : Fin 512, ∃ r : ℝ, P ⟨1024 + k, by omega⟩ = r) :
    mixsum silu lgst P O H gn mn w = mixsum siluE lgstE P O H gn mn w := by
  unfold mixsum
  refine congrArg₂ (· + ·) (Finset.sum_congr rfl fun h _ => Finset.sum_congr rfl fun t _ => ?_) (Finset.sum_congr rfl fun h _ => Finset.sum_congr rfl fun t _ => ?_)
  · have e : cols P (1024 + h * 128) (by omega) t = P ⟨1024 + (⟨h * 128 + t, by omega⟩ : Fin 512), by omega⟩ := by
      unfold cols; exact congrArg P (Fin.ext (by simp only []; omega))
    obtain ⟨r, hr⟩ := hP ⟨h * 128 + t, by omega⟩
    rw [e, hr, silu_eq]
  · rw [lgst_eq]

/-- The kernel's mixer row is the reference's. -/
theorem mid_eq (p : FVec Ideal S32768x3200 .f32) (o hm : FVec Ideal S32768x512 .f32) (x : FVec Ideal S32768x1024 .f32) (gn mn : FVec Ideal S1x512 .f32) (W : FVec Ideal S1024x1024 .bf16)
    (g b : FVec Ideal S1x1024 .f32) (r : Fin 32768) (j : Fin 1024) (hp : ∀ k : Fin 512, ∃ v : ℝ, p (ix2 r ⟨1024 + k, by omega⟩) = v) :
    midrow p o hm x gn mn W g b r j
      = ln (Ideal.div 1 (Ideal.ofBits .f32 0x47C35000#32)) (rsum (fun k => p (ix2 r k)) (fun k => o (ix2 r k)) (fun k => hm (ix2 r k)) (fun k => x (ix2 r k)) gn mn W) (fun j => g (ix2 0 j)) (fun j => b (ix2 0 j)) j := by
  have hz : mrow (fun k => p (ix2 r k)) (fun k => o (ix2 r k)) (fun k => hm (ix2 r k)) (fun k => x (ix2 r k)) gn mn W
      = fun j => x (ix2 r j) + oa * mixsum siluE lgstE (fun k => p (ix2 r k)) (fun k => o (ix2 r k)) (fun k => hm (ix2 r k)) (fun k => gn (ix2 0 k)) (fun k => mn (ix2 0 k)) (fun k => W (ix2 k j)) := by
    funext j
    unfold mrow
    rw [mixsum_eq _ _ _ _ _ _ hp]
  unfold midrow
  rw [hz, deepnorm_one]
  rfl

/-- The mixer row is real wherever its normalization's scale and shift are. -/
theorem mid_real (p : FVec Ideal S32768x3200 .f32) (o hm : FVec Ideal S32768x512 .f32) (x : FVec Ideal S32768x1024 .f32) (gn mn : FVec Ideal S1x512 .f32) (W : FVec Ideal S1024x1024 .bf16)
    (g b : FVec Ideal S1x1024 .f32) (r : Fin 32768) (j : Fin 1024) (hg : ∃ v : ℝ, g (ix2 0 j) = v) (hb : ∃ v : ℝ, b (ix2 0 j) = v) :
    ∃ v : ℝ, midrow p o hm x gn mn W g b r j = v := by
  unfold midrow eoa
  exact ln_is_real _ (by positivity) _ _ _ j hg hb

/-- The precondition makes the gate columns, the first normalization's scale and shift and the gate matrix real. -/
theorem finite_args (p : FVec Ideal S32768x3200 .f32) (o hm : FVec Ideal S32768x512 .f32) (x : FVec Ideal S32768x1024 .f32) (gn mn : FVec Ideal S1x512 .f32) (W : FVec Ideal S1024x1024 .bf16)
    (g b : FVec Ideal S1x1024 .f32) (G U : FVec Ideal S1024x2816 .bf16) (D : FVec Ideal S2816x1024 .bf16) (g3 b3 : FVec Ideal S1x1024 .f32)
    (h : (Cert.Pre_finite3.fn (F := Ideal) p o hm x gn mn W g b G U D g3 b3).1 = (fun _ => 1#1) ∧ (Cert.Pre_finite3.fn (F := Ideal) p o hm x gn mn W g b G U D g3 b3).2.1 = (fun _ => 1#1)
      ∧ (Cert.Pre_finite3.fn (F := Ideal) p o hm x gn mn W g b G U D g3 b3).2.2.1 = (fun _ => 1#1) ∧ (Cert.Pre_finite3.fn (F := Ideal) p o hm x gn mn W g b G U D g3 b3).2.2.2 = (fun _ => 1#1)) :
    (∀ r (k : Fin 512), ∃ v : ℝ, p (ix2 r ⟨1024 + k, by omega⟩) = (v : EReal)) ∧ (∀ k, ∃ v : ℝ, g (ix2 0 k) = (v : EReal)) ∧ (∀ k, ∃ v : ℝ, b (ix2 0 k) = (v : EReal))
      ∧ ∀ k f, ∃ v : ℝ, G (ix2 k f) = (v : EReal) :=
  ⟨fun r k => real_of_lt _ (by
      have e := congrFun h.1 (ix2 r k)
      unfold Cert.Pre_finite3.fn at e
      pointwise at e
      exact e),
    fun k => real_of_lt _ (congrFun h.2.1 (ix2 0 k)), fun k => real_of_lt _ (congrFun h.2.2.1 (ix2 0 k)), fun k f => real_of_lt _ (congrFun h.2.2.2 (ix2 k f))⟩

/-- The arguments of the two programs agree on a device. -/
abbrev Agree (m : (ℓ : Loc Cert.MixTailIdeal.nD Cert.MixTailIdeal.τ Cert.MixTailIdeal.sig) → Buf (Elt Ideal) ℓ)
    (m' : (ℓ : Loc Cert.MixTailRefIdeal.nD Cert.MixTailRefIdeal.τ Cert.MixTailRefIdeal.sig) → Buf (Elt Ideal) ℓ) (c : Dev Cert.MixTailIdeal.nD) : Prop :=
  m' ((c.tc : Thread Cert.MixTailRefIdeal.nD Cert.MixTailRefIdeal.τ).loc Cert.MixTailRefIdeal.main_arg0) = m ((c.tc : Thread Cert.MixTailIdeal.nD Cert.MixTailIdeal.τ).loc Cert.MixTailIdeal.main_arg0)
  ∧ m' ((c.tc : Thread Cert.MixTailRefIdeal.nD Cert.MixTailRefIdeal.τ).loc Cert.MixTailRefIdeal.main_arg1) = m ((c.tc : Thread Cert.MixTailIdeal.nD Cert.MixTailIdeal.τ).loc Cert.MixTailIdeal.main_arg1)
  ∧ m' ((c.tc : Thread Cert.MixTailRefIdeal.nD Cert.MixTailRefIdeal.τ).loc Cert.MixTailRefIdeal.main_arg2) = m ((c.tc : Thread Cert.MixTailIdeal.nD Cert.MixTailIdeal.τ).loc Cert.MixTailIdeal.main_arg2)
  ∧ m' ((c.tc : Thread Cert.MixTailRefIdeal.nD Cert.MixTailRefIdeal.τ).loc Cert.MixTailRefIdeal.main_arg3) = m ((c.tc : Thread Cert.MixTailIdeal.nD Cert.MixTailIdeal.τ).loc Cert.MixTailIdeal.main_arg3)
  ∧ m' ((c.tc : Thread Cert.MixTailRefIdeal.nD Cert.MixTailRefIdeal.τ).loc Cert.MixTailRefIdeal.main_arg4) = m ((c.tc : Thread Cert.MixTailIdeal.nD Cert.MixTailIdeal.τ).loc Cert.MixTailIdeal.main_arg4)
  ∧ m' ((c.tc : Thread Cert.MixTailRefIdeal.nD Cert.MixTailRefIdeal.τ).loc Cert.MixTailRefIdeal.main_arg5) = m ((c.tc : Thread Cert.MixTailIdeal.nD Cert.MixTailIdeal.τ).loc Cert.MixTailIdeal.main_arg5)
  ∧ m' ((c.tc : Thread Cert.MixTailRefIdeal.nD Cert.MixTailRefIdeal.τ).loc Cert.MixTailRefIdeal.main_arg6) = m ((c.tc : Thread Cert.MixTailIdeal.nD Cert.MixTailIdeal.τ).loc Cert.MixTailIdeal.main_arg6)
  ∧ m' ((c.tc : Thread Cert.MixTailRefIdeal.nD Cert.MixTailRefIdeal.τ).loc Cert.MixTailRefIdeal.main_arg7) = m ((c.tc : Thread Cert.MixTailIdeal.nD Cert.MixTailIdeal.τ).loc Cert.MixTailIdeal.main_arg7)
  ∧ m' ((c.tc : Thread Cert.MixTailRefIdeal.nD Cert.MixTailRefIdeal.τ).loc Cert.MixTailRefIdeal.main_arg8) = m ((c.tc : Thread Cert.MixTailIdeal.nD Cert.MixTailIdeal.τ).loc Cert.MixTailIdeal.main_arg8)
  ∧ m' ((c.tc : Thread Cert.MixTailRefIdeal.nD Cert.MixTailRefIdeal.τ).loc Cert.MixTailRefIdeal.main_arg9) = m ((c.tc : Thread Cert.MixTailIdeal.nD Cert.MixTailIdeal.τ).loc Cert.MixTailIdeal.main_arg9)
  ∧ m' ((c.tc : Thread Cert.MixTailRefIdeal.nD Cert.MixTailRefIdeal.τ).loc Cert.MixTailRefIdeal.main_arg10) = m ((c.tc : Thread Cert.MixTailIdeal.nD Cert.MixTailIdeal.τ).loc Cert.MixTailIdeal.main_arg10)
  ∧ m' ((c.tc : Thread Cert.MixTailRefIdeal.nD Cert.MixTailRefIdeal.τ).loc Cert.MixTailRefIdeal.main_arg11) = m ((c.tc : Thread Cert.MixTailIdeal.nD Cert.MixTailIdeal.τ).loc Cert.MixTailIdeal.main_arg11)
  ∧ m' ((c.tc : Thread Cert.MixTailRefIdeal.nD Cert.MixTailRefIdeal.τ).loc Cert.MixTailRefIdeal.main_arg12) = m ((c.tc : Thread Cert.MixTailIdeal.nD Cert.MixTailIdeal.τ).loc Cert.MixTailIdeal.main_arg12)
  ∧ m' ((c.tc : Thread Cert.MixTailRefIdeal.nD Cert.MixTailRefIdeal.τ).loc Cert.MixTailRefIdeal.main_arg13) = m ((c.tc : Thread Cert.MixTailIdeal.nD Cert.MixTailIdeal.τ).loc Cert.MixTailIdeal.main_arg13)

section
variable (m : (ℓ : Loc Cert.MixTailIdeal.nD Cert.MixTailIdeal.τ Cert.MixTailIdeal.sig) → Buf (Elt Ideal) ℓ)
  (m' : (ℓ : Loc Cert.MixTailRefIdeal.nD Cert.MixTailRefIdeal.τ Cert.MixTailRefIdeal.sig) → Buf (Elt Ideal) ℓ) (c : Dev Cert.MixTailIdeal.nD)
  (hpre : (Cert.Pre_finite3.fn (F := Ideal) (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13))).1 = (fun _ => 1#1) ∧ (Cert.Pre_finite3.fn (F := Ideal) (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13))).2.1 = (fun _ => 1#1) ∧ (Cert.Pre_finite3.fn (F := Ideal) (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13))).2.2.1 = (fun _ => 1#1) ∧ (Cert.Pre_finite3.fn (F := Ideal) (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13))).2.2.2 = (fun _ => 1#1))
  (hagree : Agree m m' c)
include hpre hagree

/-- The reference's result is the kernel's array. -/
theorem res : refTerm (StableHlo.launchContents m' c) = Out (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) (m ((c.tc : Thread Cert.MixTailIdeal.nD Cert.MixTailIdeal.τ).loc Cert.MixTailIdeal.main_arg9)) (m ((c.tc : Thread Cert.MixTailIdeal.nD Cert.MixTailIdeal.τ).loc Cert.MixTailIdeal.main_arg10)) (m ((c.tc : Thread Cert.MixTailIdeal.nD Cert.MixTailIdeal.τ).loc Cert.MixTailIdeal.main_arg11)) (m ((c.tc : Thread Cert.MixTailIdeal.nD Cert.MixTailIdeal.τ).loc Cert.MixTailIdeal.main_arg12)) (m ((c.tc : Thread Cert.MixTailIdeal.nD Cert.MixTailIdeal.τ).loc Cert.MixTailIdeal.main_arg13)) := by
  obtain ⟨h0, h1, h2, h3, h4, h5, h6, h7, h8, h9, h10, h11, h12, h13⟩ := hagree
  obtain ⟨hp, hg, hb, hG⟩ := finite_args _ _ _ _ _ _ _ _ _ _ _ _ _ _ hpre
  funext i
  obtain ⟨r, j, rfl⟩ : ∃ r j, i = ix2 r j := ⟨i 0, i 1, by funext a; fin_cases a <;> rfl⟩
  refine (ref_out _ r j).trans ?_
  have hrow' : (fun k => (res_main_v86 (StableHlo.launchContents m' c) : FVec Ideal S32768x1024 .f32) (ix2 r k)) = midrow (m ((c.tc : Thread Cert.MixTailIdeal.nD Cert.MixTailIdeal.τ).loc Cert.MixTailIdeal.main_arg0)) (m ((c.tc : Thread Cert.MixTailIdeal.nD Cert.MixTailIdeal.τ).loc Cert.MixTailIdeal.main_arg1)) (m ((c.tc : Thread Cert.MixTailIdeal.nD Cert.MixTailIdeal.τ).loc Cert.MixTailIdeal.main_arg2)) (m ((c.tc : Thread Cert.MixTailIdeal.nD Cert.MixTailIdeal.τ).loc Cert.MixTailIdeal.main_arg3)) (m ((c.tc : Thread Cert.MixTailIdeal.nD Cert.MixTailIdeal.τ).loc Cert.MixTailIdeal.main_arg4)) (m ((c.tc : Thread Cert.MixTailIdeal.nD Cert.MixTailIdeal.τ).loc Cert.MixTailIdeal.main_arg5)) (m ((c.tc : Thread Cert.MixTailIdeal.nD Cert.MixTailIdeal.τ).loc Cert.MixTailIdeal.main_arg6)) (m ((c.tc : Thread Cert.MixTailIdeal.nD Cert.MixTailIdeal.τ).loc Cert.MixTailIdeal.main_arg7)) (m ((c.tc : Thread Cert.MixTailIdeal.nD Cert.MixTailIdeal.τ).loc Cert.MixTailIdeal.main_arg8)) r := by
    funext k
    refine (ref_mid _ r k).trans ?_
    rw [mid_eq _ _ _ _ _ _ _ _ _ r k (hp r)]
    simp only [ref_sum]
    rw [← h0, ← h1, ← h2, ← h3, ← h4, ← h5, ← h6, ← h7, ← h8]
  rw [hrow']
  show rrow _ (m' ((c.tc : Thread Cert.MixTailRefIdeal.nD Cert.MixTailRefIdeal.τ).loc Cert.MixTailRefIdeal.main_arg9)) (m' ((c.tc : Thread Cert.MixTailRefIdeal.nD Cert.MixTailRefIdeal.τ).loc Cert.MixTailRefIdeal.main_arg10)) (m' ((c.tc : Thread Cert.MixTailRefIdeal.nD Cert.MixTailRefIdeal.τ).loc Cert.MixTailRefIdeal.main_arg11)) (m' ((c.tc : Thread Cert.MixTailRefIdeal.nD Cert.MixTailRefIdeal.τ).loc Cert.MixTailRefIdeal.main_arg12)) (m' ((c.tc : Thread Cert.MixTailRefIdeal.nD Cert.MixTailRefIdeal.τ).loc Cert.MixTailRefIdeal.main_arg13)) j = _
  rw [h9, h10, h11, h12, h13]
  exact (row_eq _ _ _ _ _ _ _ (fun k => mid_real _ _ _ _ _ _ _ _ _ r k (hg k) (hb k)) hG).symm
end

end Cert.MixTailEq
-- ==== Proof.GlaMath.lean ====
module

public import Idealize.ShloMosaic.Lib.Pipeline.ValueKit

@[expose] public section

set_option maxRecDepth 16384
noncomputable section
open Idealize.ShloMosaic
namespace Cert.GlaMath
open Finset

/-- A matrix read at natural positions, zero outside. -/
def rd {a b : ℕ} (x : (⟨2, ![a, b]⟩ : Shape).Idx → EReal) (i j : ℕ) : EReal :=
  if h : i < a ∧ j < b then x (ix2 ⟨i, h.1⟩ ⟨j, h.2⟩) else 0
theorem rd_of {a b : ℕ} (x : (⟨2, ![a, b]⟩ : Shape).Idx → EReal) (i : Fin a) (j : Fin b) : x (ix2 i j) = rd x i j := by
  unfold rd; rw [dif_pos ⟨i.isLt, j.isLt⟩]

theorem rd_lt {a b : ℕ} (x : (⟨2, ![a, b]⟩ : Shape).Idx → EReal) {i j : ℕ} (hi : i < a) (hj : j < b) : rd x i j = x (ix2 ⟨i, hi⟩ ⟨j, hj⟩) := by
  unfold rd; rw [dif_pos ⟨hi, hj⟩]

/-- The logarithm of the logistic function. -/
def lsig (x : EReal) : EReal := min x 0 - Ideal.log (1 + Ideal.exp (0 - max x (-x)))

/-- The sum of a chunk's rows up to and including row `r`, chunks of 64 rows. -/
def cum (f : ℕ → EReal) (r : ℕ) : EReal := ∑ i ∈ range (r % 64 + 1), f (r - r % 64 + i)

/-- The sum of the last `n` rows up to `r` that lie in its chunk. -/
def win (f : ℕ → EReal) (n r : ℕ) : EReal := ∑ i ∈ range (min n (r % 64 + 1)), f (r - i)

theorem win_one (f : ℕ → EReal) (r : ℕ) : win f 1 r = f r := by
  unfold win; rw [min_eq_left (by omega)]; simp
theorem win_step (f : ℕ → EReal) (n r : ℕ) (hn : n ≤ 64) (hp : 0 < n) :
    win f n r + (if n ≤ r % 64 then win f n (r - n) else 0) = win f (2 * n) r := by
  unfold win
  split
  · next h =>
    rw [show (r - n) % 64 = r % 64 - n by omega, min_eq_left (show n ≤ r % 64 + 1 by omega),
      show min (2 * n) (r % 64 + 1) = n + min n (r % 64 - n + 1) by omega, sum_range_add]
    congr 1
    refine sum_congr rfl fun i _ => ?_
    congr 1; omega
  · next h =>
    rw [add_zero, show min (2 * n) (r % 64 + 1) = min n (r % 64 + 1) by omega]
theorem win_all (f : ℕ → EReal) (r : ℕ) : win f 64 r = cum f r := by
  unfold win cum
  rw [min_eq_right (by omega), ← sum_range_reflect]
  refine sum_congr rfl fun i hi => ?_
  rw [mem_range] at hi
  congr 1; omega

/-- The key or value row a chunk's position stands for, scaled to the chunk's end, and so on: what one chunk adds to the state, and the state after it. -/
def stc (P B : ℕ → ℕ → EReal) (r0 : ℕ) (S : ℕ → ℕ → EReal) (e j : ℕ) : EReal :=
  S e j * Ideal.exp (B (r0 + 63) j)
    + ∑ s ∈ range 64, P (r0 + s) (512 + 128 * (j / 64) + e) * (P (r0 + s) (256 + j) * Ideal.exp (B (r0 + 63) j - B (r0 + s) j))

/-- The score of position `s` for position `i` of a chunk, in head `h`. -/
def score (P B : ℕ → ℕ → EReal) (r0 h i s : ℕ) : EReal :=
  ∑ d ∈ range 64, (P (r0 + i) (64 * h + d) * Ideal.ofBits .f32 0x3E000000#32 * Ideal.exp (B (r0 + i) (64 * h + d) - B (r0 + 31) (64 * h + d)))
    * (P (r0 + s) (256 + (64 * h + d)) * Ideal.exp (B (r0 + 31) (64 * h + d) - B (r0 + s) (64 * h + d)))

/-- What one chunk puts out at position `i`, column `c`, from the state `S` before it. -/
def outc (P B : ℕ → ℕ → EReal) (r0 : ℕ) (S : ℕ → ℕ → EReal) (i c : ℕ) : EReal :=
  (∑ d ∈ range 64, (P (r0 + i) (64 * (c / 128) + d) * Ideal.ofBits .f32 0x3E000000#32 * Ideal.exp (B (r0 + i) (64 * (c / 128) + d))) * S (c % 128) (64 * (c / 128) + d))
    + ∑ s ∈ range 64, (if s ≤ i then score P B r0 (c / 128) i s else 0) * P (r0 + s) (512 + c)

/-- A sum over 256 columns that keeps one head's is the sum over that head. -/
theorem sum_head (f : ℕ → EReal) (h : ℕ) (hh : h < 4) : ∑ k ∈ range 256, (if k / 64 = h then f k else 0) = ∑ d ∈ range 64, f (64 * h + d) := by
  rw [← sum_filter]
  refine (sum_bij (fun d _ => 64 * h + d) ?_ ?_ ?_ ?_).symm
  · intro d hd; simp only [mem_range, mem_filter] at *; omega
  · intro a _ b _ h; simpa using h
  · intro k hk; simp only [mem_range, mem_filter] at hk
    exact ⟨k - 64 * h, by simp only [mem_range]; omega, by omega⟩
  · intro d _; rfl
/-- The same over 128 columns, two heads. -/
theorem sum_half (f : ℕ → EReal) (h : ℕ) (hh : h < 2) : ∑ k ∈ range 128, (if k / 64 = h then f k else 0) = ∑ d ∈ range 64, f (64 * h + d) := by
  rw [← sum_filter]
  refine (sum_bij (fun d _ => 64 * h + d) ?_ ?_ ?_ ?_).symm
  · intro d hd; simp only [mem_range, mem_filter] at *; omega
  · intro a _ b _ h; simpa using h
  · intro k hk; simp only [mem_range, mem_filter] at hk
    exact ⟨k - 64 * h, by simp only [mem_range]; omega, by omega⟩
  · intro d _; rfl

theorem stc_congr {P B P' B' : ℕ → ℕ → EReal} {r0 r0' : ℕ} {S S' : ℕ → ℕ → EReal} (hP : ∀ s < 64, ∀ c, P (r0 + s) c = P' (r0' + s) c)
    (hB : ∀ s < 64, ∀ c < 256, B (r0 + s) c = B' (r0' + s) c) (e j : ℕ) (hj : j < 256) (hS : S e j = S' e j) : stc P B r0 S e j = stc P' B' r0' S' e j := by
  unfold stc
  rw [hS, hB 63 (by omega) _ hj]
  congr 1
  refine sum_congr rfl fun s hs => ?_
  rw [mem_range] at hs
  rw [hP s hs, hP s hs, hB s hs _ hj]

theorem outc_congr {P B P' B' : ℕ → ℕ → EReal} {r0 r0' : ℕ} {S S' : ℕ → ℕ → EReal} (hP : ∀ s < 64, ∀ c, P (r0 + s) c = P' (r0' + s) c)
    (hB : ∀ s < 64, ∀ c < 256, B (r0 + s) c = B' (r0' + s) c) (i c : ℕ) (hi : i < 64) (hc : c < 512)
    (hS : ∀ e < 128, ∀ j < 256, S e j = S' e j) : outc P B r0 S i c = outc P' B' r0' S' i c := by
  unfold outc score
  congr 1
  · refine sum_congr rfl fun d hd => ?_
    rw [mem_range] at hd
    rw [hP i hi, hB i hi _ (by omega), hS _ (by omega) _ (by omega)]
  · refine sum_congr rfl fun s hs => ?_
    rw [mem_range] at hs
    rw [hP s hs]
    congr 2
    refine sum_congr rfl fun d hd => ?_
    rw [mem_range] at hd
    rw [hP i hi, hP s hs, hB i hi _ (by omega), hB s hs _ (by omega), hB 31 (by omega) _ (by omega)]

/-- The gates: the log of the logistic of the low-rank product, over sixteen. -/
def gate (X W C : ℕ → ℕ → EReal) (r j : ℕ) : EReal :=
  lsig (∑ l ∈ range 128, X r l * W l j + C 0 j) * Ideal.ofBits .f32 0x3D800000#32

/-- The running sums of the gates within each chunk; the low-rank part of the projection starts at column 3072. -/
def sums (P W C : ℕ → ℕ → EReal) (r j : ℕ) : EReal := cum (fun n => gate (fun a l => P a (3072 + l)) W C n j) r

/-- The state `n` chunks after row `r0`, from the state `S` there. -/
def chain (P B : ℕ → ℕ → EReal) (r0 : ℕ) (S : ℕ → ℕ → EReal) : ℕ → ℕ → ℕ → EReal
  | 0 => S
  | n + 1 => stc P B (r0 + 64 * n) (chain P B r0 S n)

/-- The whole result at row `R`, column `c`: sequences of 4096 rows, chunks of 64. -/
def gla (P B : ℕ → ℕ → EReal) (R c : ℕ) : EReal :=
  outc P B (R / 64 * 64) (chain P B (R / 4096 * 4096) (fun _ _ => 0) (R / 64 % 64)) (R % 64) c

theorem chain_add (P B : ℕ → ℕ → EReal) (r0 : ℕ) (S : ℕ → ℕ → EReal) (k : ℕ) : ∀ n, chain P B (r0 + 64 * k) (chain P B r0 S k) n = chain P B r0 S (k + n)
  | 0 => rfl
  | n + 1 => by
    show stc P B (r0 + 64 * k + 64 * n) (chain P B (r0 + 64 * k) (chain P B r0 S k) n) = stc P B (r0 + 64 * (k + n)) (chain P B r0 S (k + n))
    rw [chain_add P B r0 S k n, show r0 + 64 * k + 64 * n = r0 + 64 * (k + n) by ring]

theorem chain_congr {P B P' B' : ℕ → ℕ → EReal} {r0 r0' : ℕ} {S : ℕ → ℕ → EReal} (N : ℕ) (hP : ∀ s < 64 * N, ∀ c, P (r0 + s) c = P' (r0' + s) c)
    (hB : ∀ s < 64 * N, ∀ c < 256, B (r0 + s) c = B' (r0' + s) c) (n : ℕ) : n ≤ N → ∀ e j, j < 256 → chain P B r0 S n e j = chain P' B' r0' S n e j := by
  induction n with
  | zero => intro _ e j _; rfl
  | succ n ih =>
    intro hn e j hj
    refine stc_congr (r0 := r0 + 64 * n) (r0' := r0' + 64 * n) (fun s hs c => ?_) (fun s hs c hc => ?_) e j hj (ih (by omega) e j hj)
    · rw [Nat.add_assoc, Nat.add_assoc]; exact hP _ (by omega) c
    · rw [Nat.add_assoc, Nat.add_assoc]; exact hB _ (by omega) c hc

theorem gate_congr {X X' W C : ℕ → ℕ → EReal} {r r' : ℕ} (j : ℕ) (h : ∀ l < 128, X r l = X' r' l) : gate X W C r j = gate X' W C r' j := by
  have e : ∑ l ∈ range 128, X r l * W l j = ∑ l ∈ range 128, X' r' l * W l j :=
    sum_congr rfl fun l hl => by rw [h l (mem_range.mp hl)]
  unfold gate
  rw [e]

theorem sums_congr {P W C P' : ℕ → ℕ → EReal} {a r : ℕ} (ha : a % 64 = 0) (h : ∀ i ≤ r % 64, ∀ c, P (r - r % 64 + i) c = P' (a + (r - r % 64 + i)) c) (j : ℕ) :
    sums P W C r j = sums P' W C (a + r) j := by
  unfold sums cum
  rw [show (a + r) % 64 = r % 64 by omega]
  refine sum_congr rfl fun i hi => ?_
  rw [mem_range] at hi
  rw [show a + r - r % 64 + i = a + (r - r % 64 + i) by omega]
  exact gate_congr j fun l _ => h i (by omega) _

end Cert.GlaMath
-- ==== Proof.MixGlaRows.lean ====
module

public import proofs.«01_k».proof.Proof.Gen.MixGlaIdeal.Value
public import proofs.«01_k».proof.Proof.GlaMath

@[expose] public section
set_option maxRecDepth 16384
noncomputable section
open Idealize.ShloMosaic Idealize.ShloMosaic.TcCoe Idealize.SL.Sem
namespace Cert.MixGlaIdeal.Rows
open Cert.MixGlaIdeal Cert.MixGlaIdeal.Gen Cert.GlaMath Finset

/-- The word the kernel's floor division of a lane by 64 makes. -/
def hw (x : ℕ) : BitVec 32 := Scalar.select
                  (IntOp.andi
                    (IntOp.cmpi CmpIPredicate.ne
                      (IntOp.subi (BitVec.setWidth 32 (IntOp.cmpi CmpIPredicate.sgt (BitVec.ofNat 32 x) 0#32))
                        (BitVec.setWidth 32 (IntOp.cmpi CmpIPredicate.slt (BitVec.ofNat 32 x) 0#32)))
                      1#32)
                    (IntOp.cmpi CmpIPredicate.ne (IntOp.remsi ArithUnit.vector (BitVec.ofNat 32 x) 64#32) 0#32))
                  (IntOp.subi (IntOp.divsi ArithUnit.vector (BitVec.ofNat 32 x) 64#32) 1#32)
                  (IntOp.divsi ArithUnit.vector (BitVec.ofNat 32 x) 64#32)
theorem head_word (x : Fin 256) : hw x.val = BitVec.ofNat 32 (x.val / 64) := by
  revert x; unfold hw; decide +kernel
theorem low_word (x : Fin 256) : IntOp.andi (BitVec.ofNat 32 ↑x) 63#32 = BitVec.ofNat 32 (x.val % 64) := by
  revert x; decide +kernel
theorem sel_ite {p : Prop} [Decidable p] (a b : EReal) : Scalar.select (if p then 1#1 else 0#1) a b = if p then a else b := by
  split <;> rfl
theorem scan_word (x : Fin 256) : ∀ k : Fin 7, IntOp.cmpi CmpIPredicate.sge (BitVec.ofNat 32 (x.val % 64)) (BitVec.ofNat 32 (2 ^ k.val)) = if 2 ^ k.val ≤ x.val % 64 then 1#1 else 0#1 := by
  revert x; decide +kernel
theorem causal_word (i : Fin 64) : ∀ t : Fin 256, IntOp.cmpi CmpIPredicate.sge (BitVec.ofNat 32 i.val) (IntOp.andi (BitVec.ofNat 32 t.val) 63#32) = if t.val % 64 ≤ i.val then 1#1 else 0#1 := by
  revert i; decide +kernel
theorem eq_word (x : Fin 256) : ∀ n : Fin 4, IntOp.cmpi CmpIPredicate.eq (BitVec.ofNat 32 (x.val / 64)) (BitVec.ofNat 32 n.val) = if x.val / 64 = n.val then 1#1 else 0#1 := by
  revert x; decide +kernel
theorem eq0 (x : Fin 256) : IntOp.cmpi CmpIPredicate.eq (BitVec.ofNat 32 (x.val / 64)) 0#32 = if x.val / 64 = 0 then 1#1 else 0#1 := eq_word x 0
theorem eq1 (x : Fin 256) : IntOp.cmpi CmpIPredicate.eq (BitVec.ofNat 32 (x.val / 64)) 1#32 = if x.val / 64 = 1 then 1#1 else 0#1 := eq_word x 1
theorem eq2 (x : Fin 256) : IntOp.cmpi CmpIPredicate.eq (BitVec.ofNat 32 (x.val / 64)) 2#32 = if x.val / 64 = 2 then 1#1 else 0#1 := eq_word x 2
theorem eq3 (x : Fin 256) : IntOp.cmpi CmpIPredicate.eq (BitVec.ofNat 32 (x.val / 64)) 3#32 = if x.val / 64 = 3 then 1#1 else 0#1 := eq_word x 3
theorem half_word (x : Fin 128) : IntOp.cmpi CmpIPredicate.slt (BitVec.ofNat 32 ↑x) 64#32 = if x.val < 64 then 1#1 else 0#1 := by
  revert x; decide +kernel

/-- The score block: the product with the head-masked keys. -/
theorem sc_at (q k : FVec Ideal S64x256 .bf16) (i : Fin 64) (t : Fin 256) :
    k0_pay24 q k (iota Kind.tc S64x256 32 [1] iota_S64x256_d1_w32) (64#32) k0_pay22 k0_pay23 1#32 (ix2 i t)
      = ∑ d ∈ range 64, rd q i (64 * (t.val / 64) + d) * rd k (t.val % 64) (64 * (t.val / 64) + d) := by
  rw [← sum_head (fun c => rd q i c * rd k (t.val % 64) c) _ (by omega), sum_range]
  pointwise [k0_pay24, k0_pay22, k0_pay23]
  change (∑ x : Fin 256, q (ix2 i x) * (if h : t.val < 64 then Scalar.select (IntOp.cmpi CmpIPredicate.eq (hw x.val) 0#32) (k (ix2 ⟨t.val, h⟩ x)) 0
      else if h : t.val - 64 < 64 then Scalar.select (IntOp.cmpi CmpIPredicate.eq (hw x.val) 1#32) (k (ix2 ⟨t.val - 64, h⟩ x)) 0
      else if h : t.val - 64 - 64 < 64 then Scalar.select (IntOp.cmpi CmpIPredicate.eq (hw x.val) 2#32) (k (ix2 ⟨t.val - 64 - 64, h⟩ x)) 0
      else Scalar.select (IntOp.cmpi CmpIPredicate.eq (hw x.val) 3#32) (k (ix2 ⟨t.val - 64 - 64 - 64, by omega⟩ x)) 0) : EReal) = _
  simp only [head_word, eq0, eq1, eq2, eq3, sel_ite]
  refine sum_congr rfl fun x _ => ?_
  have ht := t.isLt
  rw [rd_of q]
  split_ifs <;> first
    | omega
    | (rw [mul_zero])
    | (rw [rd_of k]; congr 2; simp only; omega)
theorem gv_at (g0 g1 g2 g3 : FVec Ideal S64x128 .bf16) (t : Fin 256) (e : Fin 128) :
    k0_pay25 g0 g1 g2 g3 (ix2 t e) = if t.val / 64 = 0 then rd g0 (t.val % 64) e else if t.val / 64 = 1 then rd g1 (t.val % 64) e else if t.val / 64 = 2 then rd g2 (t.val % 64) e else rd g3 (t.val % 64) e := by
  pointwise [k0_pay25]
  have ht := t.isLt
  change (if h : t.val < 64 then g0 (ix2 ⟨t.val, h⟩ e) else if h : t.val - 64 < 64 then g1 (ix2 ⟨t.val - 64, h⟩ e)
    else if h : t.val - 64 - 64 < 64 then g2 (ix2 ⟨t.val - 64 - 64, h⟩ e) else g3 (ix2 ⟨t.val - 64 - 64 - 64, by omega⟩ e) : EReal) = _
  split_ifs <;> first
    | omega
    | (rw [rd_of g0]; congr 1; simp only; omega)
    | (rw [rd_of g1]; congr 1; simp only; omega)
    | (rw [rd_of g2]; congr 1; simp only; omega)
    | (rw [rd_of g3]; congr 1; simp only; omega)
theorem upd_at (kd : FVec Ideal S64x256 .bf16) (g : FVec Ideal S256x128 .bf16) (e : Fin 128) (j : Fin 256) :
    k0_pay30 kd g k0_pay26 k0_pay27 k0_pay28 k0_pay29 (ix2 e j) = ∑ s ∈ range 64, rd g (64 * (j.val / 64) + s) e * rd kd s j := by
  have e0 : ∑ s ∈ range 64, rd g (64 * (j.val / 64) + s) e * rd kd s j = ∑ s ∈ range 64, (fun c => rd g c e * rd kd (c % 64) j) (64 * (j.val / 64) + s) := by
    refine sum_congr rfl fun s hs => ?_
    rw [mem_range] at hs
    simp only
    rw [show (64 * (j.val / 64) + s) % 64 = s by omega]
  rw [e0, ← sum_head (fun c => rd g c e * rd kd (c % 64) j) _ (by omega), sum_range]
  pointwise [k0_pay30, k0_pay26, k0_pay27, k0_pay28, k0_pay29]
  change (∑ x : Fin 256, g (ix2 x e) * (if h : x.val < 64 then Scalar.select (IntOp.cmpi CmpIPredicate.eq (hw j.val) 0#32) (kd (ix2 ⟨x.val, h⟩ j)) 0
      else if h : x.val - 64 < 64 then Scalar.select (IntOp.cmpi CmpIPredicate.eq (hw j.val) 1#32) (kd (ix2 ⟨x.val - 64, h⟩ j)) 0
      else if h : x.val - 64 - 64 < 64 then Scalar.select (IntOp.cmpi CmpIPredicate.eq (hw j.val) 2#32) (kd (ix2 ⟨x.val - 64 - 64, h⟩ j)) 0
      else Scalar.select (IntOp.cmpi CmpIPredicate.eq (hw j.val) 3#32) (kd (ix2 ⟨x.val - 64 - 64 - 64, by omega⟩ j)) 0) : EReal) = _
  simp only [head_word, eq0, eq1, eq2, eq3, sel_ite]
  refine sum_congr rfl fun x _ => ?_
  have hx := x.isLt
  rw [rd_of g]
  split_ifs <;> first
    | omega
    | (rw [mul_zero])
    | (rw [rd_of kd]; congr 2; simp only; omega)
theorem p58 (qe : FVec Ideal S64x256 .bf16) (g0 g1 : FVec Ideal S64x128 .bf16) (sc : FVec Ideal S64x256 .f32) (st : Vec Ideal S128x128 .f32) (i : Fin 64) (c : Fin 256) :
    k0_pay58 k0_pay8 k0_pay9 qe g0 g1 sc st (ix2 i c)
      = (∑ d ∈ range 64, rd qe i (64 * (c.val / 128) + d) * rd st (c.val % 128) (64 * (c.val / 128) + d))
        + ∑ s ∈ range 64, (if s ≤ i.val then rd sc i (64 * (c.val / 128) + s) else 0) * (if c.val / 128 = 0 then rd g0 s (c.val % 128) else rd g1 s (c.val % 128)) := by
  have hc := c.isLt
  have hi := i.isLt
  pointwise [k0_pay58, k0_pay57, k0_pay8, k0_pay9]
  change ((∑ x : Fin 128,
        qe (ix2 i ⟨x.val, by omega⟩) *
          (if h : c.val < 128 then
            Scalar.select (IntOp.cmpi CmpIPredicate.slt (BitVec.ofNat 32 x.val) 64#32) (st (ix2 ⟨c.val, h⟩ x)) 0
          else Scalar.select (IntOp.cmpi CmpIPredicate.slt (BitVec.ofNat 32 x.val) 64#32) 0 (st (ix2 ⟨c.val - 128, by omega⟩ x)))) +
      ((∑ x : Fin 64,
        Scalar.select (IntOp.cmpi CmpIPredicate.sge (BitVec.ofNat 32 i.val) (IntOp.andi (BitVec.ofNat 32 x.val) 63#32))
          (sc (ix2 i ⟨x.val, by omega⟩) * (if h : c.val < 128 then g0 (ix2 x ⟨c.val, h⟩) else 0)) 0) +
      ∑ x : Fin 64,
        Scalar.select (IntOp.cmpi CmpIPredicate.sge (BitVec.ofNat 32 i.val) (IntOp.andi (BitVec.ofNat 32 (64 + x.val)) 63#32))
          (sc (ix2 i ⟨64 + x.val, by omega⟩) * (if h : c.val < 128 then 0 else g1 (ix2 x ⟨c.val - 128, by omega⟩))) 0) : EReal) = _
  rw [← sum_half (fun k => rd qe i k * rd st (c.val % 128) k) _ (by omega), sum_range, sum_range, ← sum_add_distrib]
  have c1 : ∀ x : Fin 64, IntOp.cmpi CmpIPredicate.sge (BitVec.ofNat 32 i.val) (IntOp.andi (BitVec.ofNat 32 x.val) 63#32) = if x.val % 64 ≤ i.val then 1#1 else 0#1 :=
    fun x => causal_word i ⟨x.val, by omega⟩
  have c2 : ∀ x : Fin 64, IntOp.cmpi CmpIPredicate.sge (BitVec.ofNat 32 i.val) (IntOp.andi (BitVec.ofNat 32 (64 + x.val)) 63#32) = if (64 + x.val) % 64 ≤ i.val then 1#1 else 0#1 :=
    fun x => causal_word i ⟨64 + x.val, by omega⟩
  simp only [half_word, c1, c2, sel_ite]
  congr 1
  · refine sum_congr rfl fun x _ => ?_
    have hx := x.isLt
    rw [rd_of qe]
    split_ifs <;> first
      | omega
      | (rw [mul_zero])
      | (rw [rd_of st]; congr 2; simp only; omega)
  · refine sum_congr rfl fun x _ => ?_
    have hx := x.isLt
    simp only [show (x.val % 64) = x.val by omega, show ((64 + x.val) % 64) = x.val by omega]
    rw [rd_of sc, rd_of sc]
    split_ifs <;> first
      | omega
      | (simp only [mul_zero, zero_mul, add_zero]; done)
      | (simp only [mul_zero, add_zero]; rw [rd_of g0]; congr 2 <;> first | omega | (simp only; omega))
      | (simp only [mul_zero, zero_add]; rw [rd_of g1]; congr 2 <;> first | omega | (simp only; omega))
theorem p66 (qe : FVec Ideal S64x256 .bf16) (g0 g1 : FVec Ideal S64x128 .bf16) (sc : FVec Ideal S64x256 .f32) (st : Vec Ideal S128x128 .f32) (i : Fin 64) (c : Fin 256) :
    k0_pay66 (k0_pay57 k0_pay8 sc) (k0_pay60 k0_pay9 g0 g1) (k0_pay61 qe) (k0_pay62 st) k0_pay63 k0_pay64 (k0_pay65 st) (ix2 i c)
      = (∑ d ∈ range 64, rd qe i (128 + (64 * (c.val / 128) + d)) * rd st (c.val % 128) (64 * (c.val / 128) + d))
        + ∑ s ∈ range 64, (if s ≤ i.val then rd sc i (128 + (64 * (c.val / 128) + s)) else 0) * (if c.val / 128 = 0 then rd g0 s (c.val % 128) else rd g1 s (c.val % 128)) := by
  have hc := c.isLt
  have hi := i.isLt
  pointwise [k0_pay66, k0_pay57, k0_pay60, k0_pay61, k0_pay62, k0_pay63, k0_pay64, k0_pay65, k0_pay8, k0_pay9]
  change ((∑ x : Fin 128,
        qe (ix2 i ⟨128 + x.val, by omega⟩) *
          (if h : c.val < 128 then
            Scalar.select (IntOp.cmpi CmpIPredicate.slt (BitVec.ofNat 32 x.val) 64#32) (st (ix2 ⟨c.val, h⟩ x)) 0
          else Scalar.select (IntOp.cmpi CmpIPredicate.slt (BitVec.ofNat 32 x.val) 64#32) 0 (st (ix2 ⟨c.val - 128, by omega⟩ x)))) +
      ((∑ x : Fin 64,
        Scalar.select (IntOp.cmpi CmpIPredicate.sge (BitVec.ofNat 32 i.val) (IntOp.andi (BitVec.ofNat 32 (128 + x.val)) 63#32))
          (sc (ix2 i ⟨128 + x.val, by omega⟩) * (if h : c.val < 128 then g0 (ix2 x ⟨c.val, h⟩) else 0)) 0) +
      ∑ x : Fin 64,
        Scalar.select (IntOp.cmpi CmpIPredicate.sge (BitVec.ofNat 32 i.val) (IntOp.andi (BitVec.ofNat 32 (128 + (64 + x.val))) 63#32))
          (sc (ix2 i ⟨128 + (64 + x.val), by omega⟩) * (if h : c.val < 128 then 0 else g1 (ix2 x ⟨c.val - 128, by omega⟩))) 0) : EReal) = _
  rw [← sum_half (fun k => rd qe i (128 + k) * rd st (c.val % 128) k) _ (by omega), sum_range, sum_range, ← sum_add_distrib]
  have c1 : ∀ x : Fin 64, IntOp.cmpi CmpIPredicate.sge (BitVec.ofNat 32 i.val) (IntOp.andi (BitVec.ofNat 32 (128 + x.val)) 63#32) = if (128 + x.val) % 64 ≤ i.val then 1#1 else 0#1 :=
    fun x => causal_word i ⟨128 + x.val, by omega⟩
  have c2 : ∀ x : Fin 64, IntOp.cmpi CmpIPredicate.sge (BitVec.ofNat 32 i.val) (IntOp.andi (BitVec.ofNat 32 (128 + (64 + x.val))) 63#32) = if (128 + (64 + x.val)) % 64 ≤ i.val then 1#1 else 0#1 :=
    fun x => causal_word i ⟨128 + (64 + x.val), by omega⟩
  simp only [half_word, c1, c2, sel_ite]
  congr 1
  · refine sum_congr rfl fun x _ => ?_
    have hx := x.isLt
    rw [rd_of qe]
    split_ifs <;> first
      | omega
      | (rw [mul_zero])
      | (rw [rd_of st]; congr 2; simp only; omega)
  · refine sum_congr rfl fun x _ => ?_
    have hx := x.isLt
    simp only [show ((128 + x.val) % 64) = x.val by omega, show ((128 + (64 + x.val)) % 64) = x.val by omega]
    rw [rd_of sc, rd_of sc]
    split_ifs <;> first
      | omega
      | (simp only [mul_zero, zero_mul, add_zero]; done)
      | (simp only [mul_zero, add_zero]; rw [rd_of g0]; congr 2 <;> first | omega | (simp only; omega))
      | (simp only [mul_zero, zero_add]; rw [rd_of g1]; congr 2 <;> first | omega | (simp only; omega))

/-- The scores of a chunk, from its queries, keys and running sums. -/
def cSc (q k b : Vec Ideal S64x256 .f32) : FVec Ideal S64x256 .f32 :=
  k0_pay24 (k0_pay14 (k0_pay10 q) b) (k0_pay15 k b) (iota Kind.tc S64x256 32 [1] iota_S64x256_d1_w32) (64#32) k0_pay22 k0_pay23 1#32
/-- What a chunk adds to the state. -/
def cUpd (k b : Vec Ideal S64x256 .f32) (v0 v1 v2 v3 : Vec Ideal S64x128 .f32) : FVec Ideal S128x256 .f32 :=
  k0_pay30 (k0_pay16 k b) (k0_pay25 (k0_pay18 v0) (k0_pay19 v1) (k0_pay20 v2) (k0_pay21 v3)) k0_pay26 k0_pay27 k0_pay28 k0_pay29
def oLo (q k b : Vec Ideal S64x256 .f32) (v0 v1 : Vec Ideal S64x128 .f32) (st : Vec Ideal S128x128 .f32) : FVec Ideal S64x256 .f32 :=
  k0_pay58 k0_pay8 k0_pay9 (k0_pay13 (k0_pay10 q) b) (k0_pay18 v0) (k0_pay19 v1) (cSc q k b) st
def oHi (q k b : Vec Ideal S64x256 .f32) (v2 v3 : Vec Ideal S64x128 .f32) (st : Vec Ideal S128x128 .f32) : FVec Ideal S64x256 .f32 :=
  k0_pay66 (k0_pay57 k0_pay8 (cSc q k b)) (k0_pay60 k0_pay9 (k0_pay20 v2) (k0_pay21 v3)) (k0_pay61 (k0_pay13 (k0_pay10 q) b)) (k0_pay62 st) k0_pay63 k0_pay64 (k0_pay65 st)
def sLo (k b : Vec Ideal S64x256 .f32) (v0 v1 v2 v3 : Vec Ideal S64x128 .f32) (st : Vec Ideal S128x128 .f32) : FVec Ideal S128x128 .f32 :=
  k0_pay59 (k0_pay17 b) (cUpd k b v0 v1 v2 v3) st
def sHi (k b : Vec Ideal S64x256 .f32) (v0 v1 v2 v3 : Vec Ideal S64x128 .f32) (st : Vec Ideal S128x128 .f32) : FVec Ideal S128x128 .f32 :=
  k0_pay67 (k0_pay17 b) (cUpd k b v0 v1 v2 v3) st

/-- A chunk's blocks are the rows from `r0` on of the projection `P` and of the running sums `B`. -/
structure Chunk (P B : ℕ → ℕ → EReal) (r0 : ℕ) (q k b : Vec Ideal S64x256 .f32) (v0 v1 v2 v3 : Vec Ideal S64x128 .f32) : Prop where
  hq : ∀ (i : Fin 64) (j : Fin 256), q (ix2 i j) = P (r0 + i) j
  hk : ∀ (i : Fin 64) (j : Fin 256), k (ix2 i j) = P (r0 + i) (256 + j)
  hb : ∀ (i : Fin 64) (j : Fin 256), b (ix2 i j) = B (r0 + i) j
  h0 : ∀ (i : Fin 64) (j : Fin 128), v0 (ix2 i j) = P (r0 + i) (512 + j)
  h1 : ∀ (i : Fin 64) (j : Fin 128), v1 (ix2 i j) = P (r0 + i) (640 + j)
  h2 : ∀ (i : Fin 64) (j : Fin 128), v2 (ix2 i j) = P (r0 + i) (768 + j)
  h3 : ∀ (i : Fin 64) (j : Fin 128), v3 (ix2 i j) = P (r0 + i) (896 + j)

variable {P B : ℕ → ℕ → EReal} {r0 : ℕ} {q k b : Vec Ideal S64x256 .f32} {v0 v1 v2 v3 : Vec Ideal S64x128 .f32} {S : ℕ → ℕ → EReal}

theorem qe_rd (H : Chunk P B r0 q k b v0 v1 v2 v3) {i j : ℕ} (hi : i < 64) (hj : j < 256) :
    rd (k0_pay13 (k0_pay10 q) b) i j = P (r0 + i) j * Ideal.ofBits .f32 0x3E000000#32 * Ideal.exp (B (r0 + i) j) := by
  rw [rd_lt _ hi hj]
  pointwise [k0_pay13, k0_pay10]
  rw [H.hq, H.hb]
theorem qr_rd (H : Chunk P B r0 q k b v0 v1 v2 v3) {i j : ℕ} (hi : i < 64) (hj : j < 256) :
    rd (k0_pay14 (k0_pay10 q) b) i j = P (r0 + i) j * Ideal.ofBits .f32 0x3E000000#32 * Ideal.exp (B (r0 + i) j - B (r0 + 31) j) := by
  rw [rd_lt _ hi hj]
  pointwise [k0_pay14, k0_pay10, k0_pay12]
  rw [H.hq, H.hb, H.hb]; rfl
theorem kr_rd (H : Chunk P B r0 q k b v0 v1 v2 v3) {i j : ℕ} (hi : i < 64) (hj : j < 256) :
    rd (k0_pay15 k b) i j = P (r0 + i) (256 + j) * Ideal.exp (B (r0 + 31) j - B (r0 + i) j) := by
  rw [rd_lt _ hi hj]
  pointwise [k0_pay15, k0_pay12]
  rw [H.hk, H.hb, H.hb]; rfl
theorem kd_rd (H : Chunk P B r0 q k b v0 v1 v2 v3) {i j : ℕ} (hi : i < 64) (hj : j < 256) :
    rd (k0_pay16 k b) i j = P (r0 + i) (256 + j) * Ideal.exp (B (r0 + 63) j - B (r0 + i) j) := by
  rw [rd_lt _ hi hj]
  pointwise [k0_pay16, k0_pay11]
  rw [H.hk, H.hb, H.hb]; rfl
theorem g0_rd (H : Chunk P B r0 q k b v0 v1 v2 v3) {i j : ℕ} (hi : i < 64) (hj : j < 128) : rd (k0_pay18 v0) i j = P (r0 + i) (512 + j) := by
  rw [rd_lt _ hi hj]
  pointwise [k0_pay18]
  rw [H.h0]
theorem g1_rd (H : Chunk P B r0 q k b v0 v1 v2 v3) {i j : ℕ} (hi : i < 64) (hj : j < 128) : rd (k0_pay19 v1) i j = P (r0 + i) (640 + j) := by
  rw [rd_lt _ hi hj]
  pointwise [k0_pay19]
  rw [H.h1]
theorem g2_rd (H : Chunk P B r0 q k b v0 v1 v2 v3) {i j : ℕ} (hi : i < 64) (hj : j < 128) : rd (k0_pay20 v2) i j = P (r0 + i) (768 + j) := by
  rw [rd_lt _ hi hj]
  pointwise [k0_pay20]
  rw [H.h2]
theorem g3_rd (H : Chunk P B r0 q k b v0 v1 v2 v3) {i j : ℕ} (hi : i < 64) (hj : j < 128) : rd (k0_pay21 v3) i j = P (r0 + i) (896 + j) := by
  rw [rd_lt _ hi hj]
  pointwise [k0_pay21]
  rw [H.h3]
theorem cSc_rd (H : Chunk P B r0 q k b v0 v1 v2 v3) {i h s : ℕ} (hi : i < 64) (hh : h < 4) (hs : s < 64) : rd (cSc q k b) i (64 * h + s) = score P B r0 h i s := by
  rw [rd_lt _ hi (show 64 * h + s < 256 by omega)]
  unfold cSc score
  rw [sc_at]
  refine sum_congr rfl fun d hd => ?_
  rw [mem_range] at hd
  simp only [show (64 * h + s) / 64 = h by omega, show (64 * h + s) % 64 = s by omega]
  rw [qr_rd H hi (by omega), kr_rd H hs (by omega)]
theorem cUpd_at (H : Chunk P B r0 q k b v0 v1 v2 v3) (e : Fin 128) (j : Fin 256) :
    cUpd k b v0 v1 v2 v3 (ix2 e j) = ∑ s ∈ range 64, P (r0 + s) (512 + 128 * (j.val / 64) + e) * (P (r0 + s) (256 + j) * Ideal.exp (B (r0 + 63) j - B (r0 + s) j)) := by
  unfold cUpd
  rw [upd_at]
  refine sum_congr rfl fun s hs => ?_
  rw [mem_range] at hs
  have hj := j.isLt
  have he := e.isLt
  rw [kd_rd H hs hj, rd_lt _ (show 64 * (j.val / 64) + s < 256 by omega) he]
  congr 1
  refine (gv_at _ _ _ _ _ _).trans ?_
  simp only [show (64 * (j.val / 64) + s) / 64 = j.val / 64 by omega, show (64 * (j.val / 64) + s) % 64 = s by omega]
  rw [g0_rd H hs he, g1_rd H hs he, g2_rd H hs he, g3_rd H hs he]
  split_ifs <;> (congr 1; omega)
theorem oLo_at (H : Chunk P B r0 q k b v0 v1 v2 v3) (st : Vec Ideal S128x128 .f32) (hst : ∀ e j : Fin 128, st (ix2 e j) = S e j) (i : Fin 64) (c : Fin 256) :
    oLo q k b v0 v1 st (ix2 i c) = outc P B r0 S i c := by
  unfold oLo outc
  rw [p58]
  have hc := c.isLt
  congr 1
  · refine sum_congr rfl fun d hd => ?_
    rw [mem_range] at hd
    rw [qe_rd H i.isLt (by omega), rd_lt st (show c.val % 128 < 128 by omega) (by omega), hst]
  · refine sum_congr rfl fun s hs => ?_
    rw [mem_range] at hs
    rw [cSc_rd H i.isLt (by omega) hs, g0_rd H hs (by omega), g1_rd H hs (by omega)]
    congr 1
    split_ifs <;> (congr 1; omega)
theorem oHi_at (H : Chunk P B r0 q k b v0 v1 v2 v3) (st : Vec Ideal S128x128 .f32) (hst : ∀ e j : Fin 128, st (ix2 e j) = S e (128 + j)) (i : Fin 64) (c : Fin 256) :
    oHi q k b v2 v3 st (ix2 i c) = outc P B r0 S i (256 + c) := by
  unfold oHi outc
  rw [p66]
  have hc := c.isLt
  congr 1
  · refine sum_congr rfl fun d hd => ?_
    rw [mem_range] at hd
    rw [qe_rd H i.isLt (by omega), rd_lt st (show c.val % 128 < 128 by omega) (by omega), hst]
    simp only [show (256 + c.val) / 128 = 2 + c.val / 128 by omega, show (256 + c.val) % 128 = c.val % 128 by omega,
      show 64 * (2 + c.val / 128) + d = 128 + (64 * (c.val / 128) + d) by omega]
  · refine sum_congr rfl fun s hs => ?_
    rw [mem_range] at hs
    rw [show 128 + (64 * (c.val / 128) + s) = 64 * (2 + c.val / 128) + s by omega, cSc_rd H i.isLt (by omega) hs, g2_rd H hs (by omega), g3_rd H hs (by omega),
      show (256 + c.val) / 128 = 2 + c.val / 128 by omega]
    congr 1
    split_ifs <;> (congr 1; omega)
theorem sLo_at (H : Chunk P B r0 q k b v0 v1 v2 v3) (st : Vec Ideal S128x128 .f32) (hst : ∀ e j : Fin 128, st (ix2 e j) = S e j) (e j : Fin 128) :
    sLo k b v0 v1 v2 v3 st (ix2 e j) = stc P B r0 S e j := by
  unfold sLo stc
  pointwise [k0_pay59, k0_pay17, k0_pay11]
  rw [cUpd_at H, hst, H.hb]; rfl
theorem sHi_at (H : Chunk P B r0 q k b v0 v1 v2 v3) (st : Vec Ideal S128x128 .f32) (hst : ∀ e j : Fin 128, st (ix2 e j) = S e (128 + j)) (e j : Fin 128) :
    sHi k b v0 v1 v2 v3 st (ix2 e j) = stc P B r0 S e (128 + j) := by
  unfold sHi stc
  pointwise [k0_pay67, k0_pay17, k0_pay11]
  rw [cUpd_at H, hst, H.hb]; rfl

/-- One round of the running sum: each row past the first `s` of its chunk takes in the row `s` above it. -/
def rnd (s : BitVec 32) (x : FVec Ideal S256x256 .f32) : FVec Ideal S256x256 .f32 :=
  addf x (select (cmpi .sge k0_pay4 (broadcast S256x256 s)) (dynamicRotate 0 s none x rotates_S256x256_d0) (broadcast S256x256 (Scalar.ofBits .f32 0x00000000#32)))
theorem rnd_word (f : ℕ → EReal) (k : Fin 6) (r : Fin 256) (z : EReal)
    (hz : z = win f (2 ^ k.val) ((r.val + 256 - 2 ^ k.val) % 256)) :
    win f (2 ^ k.val) r + Scalar.select (IntOp.cmpi .sge (IntOp.andi (BitVec.ofNat 32 r.val) 63#32) (BitVec.ofNat 32 (2 ^ k.val))) z 0 = win f (2 ^ (k.val + 1)) r := by
  have hk : 2 ^ k.val ≤ 64 := le_trans (Nat.pow_le_pow_right (by omega) (show k.val ≤ 6 by omega)) (by norm_num)
  have hr := r.isLt
  rw [low_word, scan_word r ⟨k.val, by omega⟩, sel_ite, pow_succ, mul_comm (2 ^ k.val) 2, ← win_step f _ r hk (Nat.pos_of_ne_zero (by positivity))]
  congr 1
  simp only
  split_ifs with h
  · rw [hz]; congr 1
    generalize 2 ^ k.val = n at *
    omega
  · rfl
theorem rnd_at0 (f : ℕ → EReal) (x : FVec Ideal S256x256 .f32) (j : Fin 256) (hx : ∀ r : Fin 256, x (ix2 r j) = win f 1 r) (r : Fin 256) :
    rnd 1#32 x (ix2 r j) = win f 2 r := by
  refine Eq.trans ?_ (rnd_word f 0 r (x (ix2 ⟨(r.val + 256 - 1) % 256, by omega⟩ j)) (hx _))
  pointwise [rnd, k0_pay4]
  rw [hx]; rfl
theorem rnd_at1 (f : ℕ → EReal) (x : FVec Ideal S256x256 .f32) (j : Fin 256) (hx : ∀ r : Fin 256, x (ix2 r j) = win f 2 r) (r : Fin 256) :
    rnd 2#32 x (ix2 r j) = win f 4 r := by
  refine Eq.trans ?_ (rnd_word f 1 r (x (ix2 ⟨(r.val + 256 - 2) % 256, by omega⟩ j)) (hx _))
  pointwise [rnd, k0_pay4]
  rw [hx]; rfl
theorem rnd_at2 (f : ℕ → EReal) (x : FVec Ideal S256x256 .f32) (j : Fin 256) (hx : ∀ r : Fin 256, x (ix2 r j) = win f 4 r) (r : Fin 256) :
    rnd 4#32 x (ix2 r j) = win f 8 r := by
  refine Eq.trans ?_ (rnd_word f 2 r (x (ix2 ⟨(r.val + 256 - 4) % 256, by omega⟩ j)) (hx _))
  pointwise [rnd, k0_pay4]
  rw [hx]; rfl
theorem rnd_at3 (f : ℕ → EReal) (x : FVec Ideal S256x256 .f32) (j : Fin 256) (hx : ∀ r : Fin 256, x (ix2 r j) = win f 8 r) (r : Fin 256) :
    rnd 8#32 x (ix2 r j) = win f 16 r := by
  refine Eq.trans ?_ (rnd_word f 3 r (x (ix2 ⟨(r.val + 256 - 8) % 256, by omega⟩ j)) (hx _))
  pointwise [rnd, k0_pay4]
  rw [hx]; rfl
theorem rnd_at4 (f : ℕ → EReal) (x : FVec Ideal S256x256 .f32) (j : Fin 256) (hx : ∀ r : Fin 256, x (ix2 r j) = win f 16 r) (r : Fin 256) :
    rnd 16#32 x (ix2 r j) = win f 32 r := by
  refine Eq.trans ?_ (rnd_word f 4 r (x (ix2 ⟨(r.val + 256 - 16) % 256, by omega⟩ j)) (hx _))
  pointwise [rnd, k0_pay4]
  rw [hx]; rfl
theorem rnd_at5 (f : ℕ → EReal) (x : FVec Ideal S256x256 .f32) (j : Fin 256) (hx : ∀ r : Fin 256, x (ix2 r j) = win f 32 r) (r : Fin 256) :
    rnd 32#32 x (ix2 r j) = win f 64 r := by
  refine Eq.trans ?_ (rnd_word f 5 r (x (ix2 ⟨(r.val + 256 - 32) % 256, by omega⟩ j)) (hx _))
  pointwise [rnd, k0_pay4]
  rw [hx]; rfl

/-- The gates of a block. -/
def gateV (v4 : Vec Ideal S256x128 .f32) (v6 : Vec Ideal S128x256 .bf16) (v8 : Vec Ideal S1x256 .f32) : FVec Ideal S256x256 .f32 :=
  have v5 : FVec Ideal S256x128 .bf16 := truncf .bf16 v4 bitsLt_bf16_f32
  have v7 : FVec Ideal S256x256 .f32 := matmul dot_S256x128_S128x256_S256x256_1_0_0_1_n_n none v5 (show FVec Ideal S128x256 .bf16 from v6) (constant S256x256 .f32 0x00000000#32)
  have v10 : FVec Ideal S256x256 .f32 := addf v7 (broadcastTo S256x256 v8 broadcasts_S1x256_S256x256)
  mulf (subf (minimumf v10 (broadcast S256x256 (Scalar.ofBits .f32 0x00000000#32)))
    (log (addf (broadcast S256x256 (Scalar.ofBits .f32 0x3F800000#32)) (exp (subf (broadcast S256x256 (Scalar.ofBits .f32 0x00000000#32)) (absf v10))))))
    (broadcast S256x256 (Scalar.ofBits .f32 0x3D800000#32))
theorem pay5_eq (v4 : Vec Ideal S256x128 .f32) (v6 : Vec Ideal S128x256 .bf16) (v8 : Vec Ideal S1x256 .f32) : k0_pay5 v4 v6 v8 = rnd 1#32 (gateV v4 v6 v8) := rfl
def bcV (v4 : Vec Ideal S256x128 .f32) (v6 : Vec Ideal S128x256 .bf16) (v8 : Vec Ideal S1x256 .f32) : FVec Ideal S256x256 .f32 :=
  k0_pay7 k0_pay4 (k0_pay5 v4 v6 v8) (k0_pay6 v4 v6 v8)
theorem cast_id (x : FVec Ideal S256x256 .f32) (r j : Fin 256) : shapeCast S256x256 x shapeCasts_S256x256_S256x256 (ix2 r j) = x (ix2 r j) := by
  pointwise []
theorem bcV_eq (v4 : Vec Ideal S256x128 .f32) (v6 : Vec Ideal S128x256 .bf16) (v8 : Vec Ideal S1x256 .f32) (r j : Fin 256) :
    bcV v4 v6 v8 (ix2 r j) = rnd 32#32 (rnd 16#32 (rnd 8#32 (rnd 4#32 (rnd 2#32 (rnd 1#32 (gateV v4 v6 v8)))))) (ix2 r j) := by
  have e : bcV v4 v6 v8 = shapeCast S256x256 (rnd 32#32 (rnd 16#32 (rnd 8#32 (rnd 4#32 (rnd 2#32 (rnd 1#32 (gateV v4 v6 v8))))))) shapeCasts_S256x256_S256x256 := rfl
  rw [e, cast_id]
theorem gateV_at (v4 : Vec Ideal S256x128 .f32) (v6 : Vec Ideal S128x256 .bf16) (v8 : Vec Ideal S1x256 .f32) (r j : Fin 256) :
    gateV v4 v6 v8 (ix2 r j) = gate (rd v4) (rd v6) (rd v8) r j := by
  unfold gate lsig
  rw [sum_range]
  pointwise [gateV]
  simp only [rd_of]; rfl
theorem bcV_at (v4 : Vec Ideal S256x128 .f32) (v6 : Vec Ideal S128x256 .bf16) (v8 : Vec Ideal S1x256 .f32) (r j : Fin 256) :
    bcV v4 v6 v8 (ix2 r j) = cum (fun n => gate (rd v4) (rd v6) (rd v8) n j) r := by
  rw [bcV_eq, ← win_all]
  refine rnd_at5 _ _ _ (rnd_at4 _ _ _ (rnd_at3 _ _ _ (rnd_at2 _ _ _ (rnd_at1 _ _ _ (rnd_at0 _ _ _ fun r => ?_))))) r
  rw [gateV_at, win_one]
end Cert.MixGlaIdeal.Rows
-- ==== Proof.MixGlaChunks.lean ====
module

public import proofs.«01_k».proof.Proof.MixGlaRows
public import Idealize.ShloMosaic.Lib.Pipeline.ReadBack

@[expose] public section
set_option maxRecDepth 16384
noncomputable section
open Idealize.ShloMosaic Idealize.ShloMosaic.TcCoe Idealize.SL.Sem
namespace Cert.MixGlaIdeal.Rows
open Cert.MixGlaIdeal Cert.MixGlaIdeal.Gen Cert.GlaMath Finset
section Same
variable (q k b : Vec Ideal S64x256 .f32) (v0 v1 v2 v3 : Vec Ideal S64x128 .f32) (st : Vec Ideal S128x128 .f32)

/-! Each chunk's stored values are the same functions of its blocks. -/
theorem c0_sc : k0_pay24 (k0_pay14 (k0_pay10 q) b) (k0_pay15 k b) (iota Kind.tc S64x256 32 [1] iota_S64x256_d1_w32) (64#32) k0_pay22 k0_pay23 1#32 = cSc q k b := rfl
theorem c1_sc : k0_pay48 (k0_pay35 q b) (k0_pay36 k b) k0_pay43 k0_pay44 (k0_pay45 (k0_pay36 k b)) (k0_pay46 (k0_pay36 k b)) k0_pay47 = cSc q k b := rfl
theorem c2_sc : k0_pay86 (k0_pay72 q b) (k0_pay73 k b) k0_pay80 k0_pay81 (k0_pay82 (k0_pay73 k b)) (k0_pay83 (k0_pay73 k b)) (k0_pay84 (k0_pay73 k b)) k0_pay85 = cSc q k b := rfl
theorem c3_sc : k0_pay108 (k0_pay99 q b) (k0_pay107 (k0_pay100 k b)) (constant S64x256 .f32 0#32) = cSc q k b := rfl
theorem c0_upd : k0_pay30 (k0_pay16 k b) (k0_pay25 (k0_pay18 v0) (k0_pay19 v1) (k0_pay20 v2) (k0_pay21 v3)) k0_pay26 k0_pay27 k0_pay28 k0_pay29 = cUpd k b v0 v1 v2 v3 := rfl
theorem c1_upd : k0_pay56 (k0_pay49 (k0_pay39 v0) (k0_pay40 v1) (k0_pay41 v2) (k0_pay42 v3)) (k0_pay52 (k0_pay37 k b)) (k0_pay53 (k0_pay37 k b)) (k0_pay54 (k0_pay37 k b)) (k0_pay55 (k0_pay37 k b)) = cUpd k b v0 v1 v2 v3 := rfl
theorem c2_upd : k0_pay87 (k0_pay74 k b) (k0_pay76 v0) (k0_pay77 v1) (k0_pay78 v2) (k0_pay79 v3) = cUpd k b v0 v1 v2 v3 := rfl
theorem c3_upd : k0_pay109 (k0_pay101 k b) (k0_pay103 v0) (k0_pay104 v1) (k0_pay105 v2) (k0_pay106 v3) = cUpd k b v0 v1 v2 v3 := rfl
theorem c0_oLo : k0_pay58 k0_pay8 k0_pay9 (k0_pay13 (k0_pay10 q) b) (k0_pay18 v0) (k0_pay19 v1) (cSc q k b) st = oLo q k b v0 v1 st := rfl
theorem c1_oLo : k0_pay89 k0_pay8 k0_pay9 (k0_pay34 q b) (k0_pay39 v0) (k0_pay40 v1) (cSc q k b) (Scalar.ofBits .f32 0#32) st = oLo q k b v0 v1 st := rfl
theorem c2_oLo : k0_pay112 k0_pay9 (k0_pay71 q b) (k0_pay77 v1) (k0_pay110 k0_pay8 (cSc q k b)) (k0_pay111 k0_pay9 (k0_pay76 v0)) st = oLo q k b v0 v1 st := rfl
theorem c3_oLo : k0_pay117 k0_pay8 k0_pay9 (k0_pay98 q b) (k0_pay103 v0) (k0_pay104 v1) (cSc q k b) st = oLo q k b v0 v1 st := rfl
theorem c0_oHi : k0_pay66 (k0_pay57 k0_pay8 (cSc q k b)) (k0_pay60 k0_pay9 (k0_pay20 v2) (k0_pay21 v3)) (k0_pay61 (k0_pay13 (k0_pay10 q) b)) (k0_pay62 st) k0_pay63 k0_pay64 (k0_pay65 st) = oHi q k b v2 v3 st := rfl
theorem c1_oHi : k0_pay93 (k0_pay88 k0_pay8 (cSc q k b) (Scalar.ofBits .f32 0#32)) (k0_pay91 k0_pay9 (k0_pay41 v2) (k0_pay42 v3)) (k0_pay92 (k0_pay34 q b) st) = oHi q k b v2 v3 st := rfl
theorem c2_oHi : k0_pay114 k0_pay9 (k0_pay71 q b) (k0_pay78 v2) (k0_pay79 v3) (k0_pay110 k0_pay8 (cSc q k b)) st = oHi q k b v2 v3 st := rfl
theorem c3_oHi : k0_pay1 (k0_pay98 q b) (k0_pay116 k0_pay8 (cSc q k b)) (k0_pay119 k0_pay9 (k0_pay105 v2) (k0_pay106 v3)) st = oHi q k b v2 v3 st := rfl
theorem c0_sLo : k0_pay59 (k0_pay17 b) (cUpd k b v0 v1 v2 v3) st = sLo k b v0 v1 v2 v3 st := rfl
theorem c1_sLo : k0_pay90 (k0_pay38 b) (cUpd k b v0 v1 v2 v3) st = sLo k b v0 v1 v2 v3 st := rfl
theorem c2_sLo : k0_pay113 (k0_pay75 b) (cUpd k b v0 v1 v2 v3) st = sLo k b v0 v1 v2 v3 st := rfl
theorem c3_sLo : k0_pay118 (k0_pay102 b) (cUpd k b v0 v1 v2 v3) st = sLo k b v0 v1 v2 v3 st := rfl
theorem c0_sHi : k0_pay67 (k0_pay17 b) (cUpd k b v0 v1 v2 v3) st = sHi k b v0 v1 v2 v3 st := rfl
theorem c1_sHi : k0_pay94 (k0_pay38 b) (cUpd k b v0 v1 v2 v3) st = sHi k b v0 v1 v2 v3 st := rfl
theorem c2_sHi : k0_pay115 (k0_pay75 b) (cUpd k b v0 v1 v2 v3) st = sHi k b v0 v1 v2 v3 st := rfl
theorem c3_sHi : k0_pay2 (k0_pay102 b) (cUpd k b v0 v1 v2 v3) st = sHi k b v0 v1 v2 v3 st := rfl
theorem c_bc (v4 : Vec Ideal S256x128 .f32) (v6 : Vec Ideal S128x256 .bf16) (v8 : Vec Ideal S1x256 .f32) :
    k0_pay7 k0_pay4 (k0_pay5 v4 v6 v8) (k0_pay6 v4 v6 v8) = bcV v4 v6 v8 := rfl

end Same

/-- The state a sequence starts from. -/
def zeroV : Vec Ideal S128x256 .f32 := (k0_pay3 : FVec Ideal S128x256 .f32)
/-- The two halves of a state. -/
def loOf (S : Vec Ideal S128x256 .f32) : Vec Ideal S128x128 .f32 := View.ld S (Rect.unit ![0, 0] ![128, 128] inb_S128x256_S128x128_0_0)
def hiOf (S : Vec Ideal S128x256 .f32) : Vec Ideal S128x128 .f32 := View.ld S (Rect.unit ![0, 128] ![128, 128] inb_S128x256_S128x128_0_128)
section Block
variable (x0 : Vec Ideal S256x3200 .f32) (x1 : Vec Ideal S128x256 .bf16) (x2 : Vec Ideal S1x256 .f32) (lo hi : Vec Ideal S128x128 .f32)
/-- The running sums of a block. -/
def bcx : Vec Ideal S256x256 .f32 := bcV (View.ld x0 (Rect.unit ![0, 3072] ![256, 128] inb_S256x3200_S256x128_0_3072)) x1 x2
def lo1 : Vec Ideal S128x128 .f32 := sLo (View.ld x0 (Rect.unit ![0, 256] ![64, 256] inb_S256x3200_S64x256_0_256)) (View.ld (bcx x0 x1 x2) (Rect.unit ![0, 0] ![64, 256] inb_S256x256_S64x256_0_0)) (View.ld x0 (Rect.unit ![0, 512] ![64, 128] inb_S256x3200_S64x128_0_512)) (View.ld x0 (Rect.unit ![0, 640] ![64, 128] inb_S256x3200_S64x128_0_640)) (View.ld x0 (Rect.unit ![0, 768] ![64, 128] inb_S256x3200_S64x128_0_768)) (View.ld x0 (Rect.unit ![0, 896] ![64, 128] inb_S256x3200_S64x128_0_896)) lo
def hi1 : Vec Ideal S128x128 .f32 := sHi (View.ld x0 (Rect.unit ![0, 256] ![64, 256] inb_S256x3200_S64x256_0_256)) (View.ld (bcx x0 x1 x2) (Rect.unit ![0, 0] ![64, 256] inb_S256x256_S64x256_0_0)) (View.ld x0 (Rect.unit ![0, 512] ![64, 128] inb_S256x3200_S64x128_0_512)) (View.ld x0 (Rect.unit ![0, 640] ![64, 128] inb_S256x3200_S64x128_0_640)) (View.ld x0 (Rect.unit ![0, 768] ![64, 128] inb_S256x3200_S64x128_0_768)) (View.ld x0 (Rect.unit ![0, 896] ![64, 128] inb_S256x3200_S64x128_0_896)) hi
def outLo0 : FVec Ideal S64x256 .f32 := oLo (View.ld x0 (Rect.unit ![0, 0] ![64, 256] inb_S256x3200_S64x256_0_0)) (View.ld x0 (Rect.unit ![0, 256] ![64, 256] inb_S256x3200_S64x256_0_256)) (View.ld (bcx x0 x1 x2) (Rect.unit ![0, 0] ![64, 256] inb_S256x256_S64x256_0_0)) (View.ld x0 (Rect.unit ![0, 512] ![64, 128] inb_S256x3200_S64x128_0_512)) (View.ld x0 (Rect.unit ![0, 640] ![64, 128] inb_S256x3200_S64x128_0_640)) lo
def outHi0 : FVec Ideal S64x256 .f32 := oHi (View.ld x0 (Rect.unit ![0, 0] ![64, 256] inb_S256x3200_S64x256_0_0)) (View.ld x0 (Rect.unit ![0, 256] ![64, 256] inb_S256x3200_S64x256_0_256)) (View.ld (bcx x0 x1 x2) (Rect.unit ![0, 0] ![64, 256] inb_S256x256_S64x256_0_0)) (View.ld x0 (Rect.unit ![0, 768] ![64, 128] inb_S256x3200_S64x128_0_768)) (View.ld x0 (Rect.unit ![0, 896] ![64, 128] inb_S256x3200_S64x128_0_896)) hi
def lo2 : Vec Ideal S128x128 .f32 := sLo (View.ld x0 (Rect.unit ![64, 256] ![64, 256] inb_S256x3200_S64x256_64_256)) (View.ld (bcx x0 x1 x2) (Rect.unit ![64, 0] ![64, 256] inb_S256x256_S64x256_64_0)) (View.ld x0 (Rect.unit ![64, 512] ![64, 128] inb_S256x3200_S64x128_64_512)) (View.ld x0 (Rect.unit ![64, 640] ![64, 128] inb_S256x3200_S64x128_64_640)) (View.ld x0 (Rect.unit ![64, 768] ![64, 128] inb_S256x3200_S64x128_64_768)) (View.ld x0 (Rect.unit ![64, 896] ![64, 128] inb_S256x3200_S64x128_64_896)) (lo1 x0 x1 x2 lo)
def hi2 : Vec Ideal S128x128 .f32 := sHi (View.ld x0 (Rect.unit ![64, 256] ![64, 256] inb_S256x3200_S64x256_64_256)) (View.ld (bcx x0 x1 x2) (Rect.unit ![64, 0] ![64, 256] inb_S256x256_S64x256_64_0)) (View.ld x0 (Rect.unit ![64, 512] ![64, 128] inb_S256x3200_S64x128_64_512)) (View.ld x0 (Rect.unit ![64, 640] ![64, 128] inb_S256x3200_S64x128_64_640)) (View.ld x0 (Rect.unit ![64, 768] ![64, 128] inb_S256x3200_S64x128_64_768)) (View.ld x0 (Rect.unit ![64, 896] ![64, 128] inb_S256x3200_S64x128_64_896)) (hi1 x0 x1 x2 hi)
def outLo1 : FVec Ideal S64x256 .f32 := oLo (View.ld x0 (Rect.unit ![64, 0] ![64, 256] inb_S256x3200_S64x256_64_0)) (View.ld x0 (Rect.unit ![64, 256] ![64, 256] inb_S256x3200_S64x256_64_256)) (View.ld (bcx x0 x1 x2) (Rect.unit ![64, 0] ![64, 256] inb_S256x256_S64x256_64_0)) (View.ld x0 (Rect.unit ![64, 512] ![64, 128] inb_S256x3200_S64x128_64_512)) (View.ld x0 (Rect.unit ![64, 640] ![64, 128] inb_S256x3200_S64x128_64_640)) (lo1 x0 x1 x2 lo)
def outHi1 : FVec Ideal S64x256 .f32 := oHi (View.ld x0 (Rect.unit ![64, 0] ![64, 256] inb_S256x3200_S64x256_64_0)) (View.ld x0 (Rect.unit ![64, 256] ![64, 256] inb_S256x3200_S64x256_64_256)) (View.ld (bcx x0 x1 x2) (Rect.unit ![64, 0] ![64, 256] inb_S256x256_S64x256_64_0)) (View.ld x0 (Rect.unit ![64, 768] ![64, 128] inb_S256x3200_S64x128_64_768)) (View.ld x0 (Rect.unit ![64, 896] ![64, 128] inb_S256x3200_S64x128_64_896)) (hi1 x0 x1 x2 hi)
def lo3 : Vec Ideal S128x128 .f32 := sLo (View.ld x0 (Rect.unit ![128, 256] ![64, 256] inb_S256x3200_S64x256_128_256)) (View.ld (bcx x0 x1 x2) (Rect.unit ![128, 0] ![64, 256] inb_S256x256_S64x256_128_0)) (View.ld x0 (Rect.unit ![128, 512] ![64, 128] inb_S256x3200_S64x128_128_512)) (View.ld x0 (Rect.unit ![128, 640] ![64, 128] inb_S256x3200_S64x128_128_640)) (View.ld x0 (Rect.unit ![128, 768] ![64, 128] inb_S256x3200_S64x128_128_768)) (View.ld x0 (Rect.unit ![128, 896] ![64, 128] inb_S256x3200_S64x128_128_896)) (lo2 x0 x1 x2 lo)
def hi3 : Vec Ideal S128x128 .f32 := sHi (View.ld x0 (Rect.unit ![128, 256] ![64, 256] inb_S256x3200_S64x256_128_256)) (View.ld (bcx x0 x1 x2) (Rect.unit ![128, 0] ![64, 256] inb_S256x256_S64x256_128_0)) (View.ld x0 (Rect.unit ![128, 512] ![64, 128] inb_S256x3200_S64x128_128_512)) (View.ld x0 (Rect.unit ![128, 640] ![64, 128] inb_S256x3200_S64x128_128_640)) (View.ld x0 (Rect.unit ![128, 768] ![64, 128] inb_S256x3200_S64x128_128_768)) (View.ld x0 (Rect.unit ![128, 896] ![64, 128] inb_S256x3200_S64x128_128_896)) (hi2 x0 x1 x2 hi)
def outLo2 : FVec Ideal S64x256 .f32 := oLo (View.ld x0 (Rect.unit ![128, 0] ![64, 256] inb_S256x3200_S64x256_128_0)) (View.ld x0 (Rect.unit ![128, 256] ![64, 256] inb_S256x3200_S64x256_128_256)) (View.ld (bcx x0 x1 x2) (Rect.unit ![128, 0] ![64, 256] inb_S256x256_S64x256_128_0)) (View.ld x0 (Rect.unit ![128, 512] ![64, 128] inb_S256x3200_S64x128_128_512)) (View.ld x0 (Rect.unit ![128, 640] ![64, 128] inb_S256x3200_S64x128_128_640)) (lo2 x0 x1 x2 lo)
def outHi2 : FVec Ideal S64x256 .f32 := oHi (View.ld x0 (Rect.unit ![128, 0] ![64, 256] inb_S256x3200_S64x256_128_0)) (View.ld x0 (Rect.unit ![128, 256] ![64, 256] inb_S256x3200_S64x256_128_256)) (View.ld (bcx x0 x1 x2) (Rect.unit ![128, 0] ![64, 256] inb_S256x256_S64x256_128_0)) (View.ld x0 (Rect.unit ![128, 768] ![64, 128] inb_S256x3200_S64x128_128_768)) (View.ld x0 (Rect.unit ![128, 896] ![64, 128] inb_S256x3200_S64x128_128_896)) (hi2 x0 x1 x2 hi)
def lo4 : Vec Ideal S128x128 .f32 := sLo (View.ld x0 (Rect.unit ![192, 256] ![64, 256] inb_S256x3200_S64x256_192_256)) (View.ld (bcx x0 x1 x2) (Rect.unit ![192, 0] ![64, 256] inb_S256x256_S64x256_192_0)) (View.ld x0 (Rect.unit ![192, 512] ![64, 128] inb_S256x3200_S64x128_192_512)) (View.ld x0 (Rect.unit ![192, 640] ![64, 128] inb_S256x3200_S64x128_192_640)) (View.ld x0 (Rect.unit ![192, 768] ![64, 128] inb_S256x3200_S64x128_192_768)) (View.ld x0 (Rect.unit ![192, 896] ![64, 128] inb_S256x3200_S64x128_192_896)) (lo3 x0 x1 x2 lo)
def hi4 : Vec Ideal S128x128 .f32 := sHi (View.ld x0 (Rect.unit ![192, 256] ![64, 256] inb_S256x3200_S64x256_192_256)) (View.ld (bcx x0 x1 x2) (Rect.unit ![192, 0] ![64, 256] inb_S256x256_S64x256_192_0)) (View.ld x0 (Rect.unit ![192, 512] ![64, 128] inb_S256x3200_S64x128_192_512)) (View.ld x0 (Rect.unit ![192, 640] ![64, 128] inb_S256x3200_S64x128_192_640)) (View.ld x0 (Rect.unit ![192, 768] ![64, 128] inb_S256x3200_S64x128_192_768)) (View.ld x0 (Rect.unit ![192, 896] ![64, 128] inb_S256x3200_S64x128_192_896)) (hi3 x0 x1 x2 hi)
def outLo3 : FVec Ideal S64x256 .f32 := oLo (View.ld x0 (Rect.unit ![192, 0] ![64, 256] inb_S256x3200_S64x256_192_0)) (View.ld x0 (Rect.unit ![192, 256] ![64, 256] inb_S256x3200_S64x256_192_256)) (View.ld (bcx x0 x1 x2) (Rect.unit ![192, 0] ![64, 256] inb_S256x256_S64x256_192_0)) (View.ld x0 (Rect.unit ![192, 512] ![64, 128] inb_S256x3200_S64x128_192_512)) (View.ld x0 (Rect.unit ![192, 640] ![64, 128] inb_S256x3200_S64x128_192_640)) (lo3 x0 x1 x2 lo)
def outHi3 : FVec Ideal S64x256 .f32 := oHi (View.ld x0 (Rect.unit ![192, 0] ![64, 256] inb_S256x3200_S64x256_192_0)) (View.ld x0 (Rect.unit ![192, 256] ![64, 256] inb_S256x3200_S64x256_192_256)) (View.ld (bcx x0 x1 x2) (Rect.unit ![192, 0] ![64, 256] inb_S256x256_S64x256_192_0)) (View.ld x0 (Rect.unit ![192, 768] ![64, 128] inb_S256x3200_S64x128_192_768)) (View.ld x0 (Rect.unit ![192, 896] ![64, 128] inb_S256x3200_S64x128_192_896)) (hi3 x0 x1 x2 hi)
/-- What a block's run stores of the output, newest first. -/
def oPieces : List (View.Piece (Elt Ideal) S256x512 .f32) :=
  [⟨Rect.unit ![192, 256] ![64, 256] inb_S256x512_S64x256_192_256, outHi3 x0 x1 x2 hi⟩,
    ⟨Rect.unit ![192, 0] ![64, 256] inb_S256x512_S64x256_192_0, outLo3 x0 x1 x2 lo⟩,
    ⟨Rect.unit ![128, 256] ![64, 256] inb_S256x512_S64x256_128_256, outHi2 x0 x1 x2 hi⟩,
    ⟨Rect.unit ![128, 0] ![64, 256] inb_S256x512_S64x256_128_0, outLo2 x0 x1 x2 lo⟩,
    ⟨Rect.unit ![64, 256] ![64, 256] inb_S256x512_S64x256_64_256, outHi1 x0 x1 x2 hi⟩,
    ⟨Rect.unit ![64, 0] ![64, 256] inb_S256x512_S64x256_64_0, outLo1 x0 x1 x2 lo⟩,
    ⟨Rect.unit ![0, 256] ![64, 256] inb_S256x512_S64x256_0_256, outHi0 x0 x1 x2 hi⟩,
    ⟨Rect.unit ![0, 0] ![64, 256] inb_S256x512_S64x256_0_0, outLo0 x0 x1 x2 lo⟩]
/-- What it stores of the carried state over `L`, newest first. -/
def sPieces (L : List (View.Piece (Elt Ideal) S128x256 .f32)) : List (View.Piece (Elt Ideal) S128x256 .f32) :=
  ⟨Rect.unit ![0, 128] ![128, 128] inb_S128x256_S128x128_0_128, hi4 x0 x1 x2 hi⟩ :: ⟨Rect.unit ![0, 0] ![128, 128] inb_S128x256_S128x128_0_0, lo4 x0 x1 x2 lo⟩ :: ⟨Rect.unit ![0, 128] ![128, 128] inb_S128x256_S128x128_0_128, hi3 x0 x1 x2 hi⟩ :: ⟨Rect.unit ![0, 0] ![128, 128] inb_S128x256_S128x128_0_0, lo3 x0 x1 x2 lo⟩ :: ⟨Rect.unit ![0, 128] ![128, 128] inb_S128x256_S128x128_0_128, hi2 x0 x1 x2 hi⟩ :: ⟨Rect.unit ![0, 0] ![128, 128] inb_S128x256_S128x128_0_0, lo2 x0 x1 x2 lo⟩ :: ⟨Rect.unit ![0, 128] ![128, 128] inb_S128x256_S128x128_0_128, hi1 x0 x1 x2 hi⟩ :: ⟨Rect.unit ![0, 0] ![128, 128] inb_S128x256_S128x128_0_0, lo1 x0 x1 x2 lo⟩ :: L
end Block

set_option maxHeartbeats 1000000 in
theorem outB (c : Dev nD) (t : Fin cfg0.N) (hc : ¬cond0_0 (grid0.coords t)) (x0 : Vec Ideal S256x3200 .f32) (x1 : Vec Ideal S128x256 .bf16) (x2 : Vec Ideal S1x256 .f32) (xs : Vec Ideal S128x256 .f32) (y : S256x512.Idx) :
    out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc x0 x1 x2 xs y
      = View.canon (oPieces x0 x1 x2 (loOf xs) (hiOf xs)) y := by
  frame_out
  simp (disch := (first | rfl | decide)) only [View.readCov_cons_toLoadRect, ↓View.readCov_skip, ↓View.readCov_fill, read_unread_whole, c0_sc, c1_sc, c2_sc, c3_sc, c0_upd, c1_upd, c2_upd, c3_upd, c0_oLo, c1_oLo, c2_oLo, c3_oLo, c0_oHi, c1_oHi, c2_oHi, c3_oHi, c0_sLo, c1_sLo, c2_sLo, c3_sLo, c0_sHi, c1_sHi, c2_sHi, c3_sHi, c_bc]
  rfl
set_option maxHeartbeats 1000000 in
theorem stB (c : Dev nD) (t : Fin cfg0.N) (hc : ¬cond0_0 (grid0.coords t)) (x0 : Vec Ideal S256x3200 .f32) (x1 : Vec Ideal S128x256 .bf16) (x2 : Vec Ideal S1x256 .f32) (xs : Vec Ideal S128x256 .f32) (y : S128x256.Idx) :
    sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc x0 x1 x2 xs y
      = View.canon (sPieces x0 x1 x2 (loOf xs) (hiOf xs) []) y := by
  frame_out
  simp (disch := (first | rfl | decide)) only [View.readCov_cons_toLoadRect, ↓View.readCov_skip, ↓View.readCov_fill, read_unread_whole, c0_sc, c1_sc, c2_sc, c3_sc, c0_upd, c1_upd, c2_upd, c3_upd, c0_oLo, c1_oLo, c2_oLo, c3_oLo, c0_oHi, c1_oHi, c2_oHi, c3_oHi, c0_sLo, c1_sLo, c2_sLo, c3_sLo, c0_sHi, c1_sHi, c2_sHi, c3_sHi, c_bc]
  rfl
set_option maxHeartbeats 1000000 in
theorem outA (c : Dev nD) (t : Fin cfg0.N) (hc : cond0_0 (grid0.coords t)) (x0 : Vec Ideal S256x3200 .f32) (x1 : Vec Ideal S128x256 .bf16) (x2 : Vec Ideal S1x256 .f32) (y : S256x512.Idx) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc x0 x1 x2  y
      = View.canon (oPieces x0 x1 x2 (loOf zeroV) (hiOf zeroV)) y := by
  frame_out
  simp (disch := (first | rfl | decide)) only [View.readCov_cons_toLoadRect, ↓View.readCov_skip, ↓View.readCov_fill, read_unread_whole, c0_sc, c1_sc, c2_sc, c3_sc, c0_upd, c1_upd, c2_upd, c3_upd, c0_oLo, c1_oLo, c2_oLo, c3_oLo, c0_oHi, c1_oHi, c2_oHi, c3_oHi, c0_sLo, c1_sLo, c2_sLo, c3_sLo, c0_sHi, c1_sHi, c2_sHi, c3_sHi, c_bc]
  rfl
set_option maxHeartbeats 1000000 in
theorem stA (c : Dev nD) (t : Fin cfg0.N) (hc : cond0_0 (grid0.coords t)) (x0 : Vec Ideal S256x3200 .f32) (x1 : Vec Ideal S128x256 .bf16) (x2 : Vec Ideal S1x256 .f32) (y : S128x256.Idx) :
    sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc x0 x1 x2  y
      = View.canon (sPieces x0 x1 x2 (loOf zeroV) (hiOf zeroV) [⟨Rect.unit ![0, 0] ![128, 256] inb_S128x256_S128x256_0_0, zeroV⟩]) y := by
  frame_out
  simp (disch := (first | rfl | decide)) only [View.readCov_cons_toLoadRect, ↓View.readCov_skip, ↓View.readCov_fill, read_unread_whole, c0_sc, c1_sc, c2_sc, c3_sc, c0_upd, c1_upd, c2_upd, c3_upd, c0_oLo, c1_oLo, c2_oLo, c3_oLo, c0_oHi, c1_oHi, c2_oHi, c3_oHi, c0_sLo, c1_sLo, c2_sLo, c3_sLo, c0_sHi, c1_sHi, c2_sHi, c3_sHi, c_bc]
  rfl
end Cert.MixGlaIdeal.Rows
-- ==== Proof.MixGlaBlocks.lean ====
module

public import proofs.«01_k».proof.Proof.MixGlaChunks

@[expose] public section
set_option maxRecDepth 16384
noncomputable section
open Idealize.ShloMosaic Idealize.ShloMosaic.TcCoe Idealize.SL.Sem
open Idealize.ShloMosaic.Pipeline (Dat)
namespace Cert.MixGlaIdeal.Value
open Cert.MixGlaIdeal Cert.MixGlaIdeal.Gen Cert.MixGlaIdeal.Rows Cert.GlaMath Finset

theorem ld_at {A B a b h w : ℕ} (x : Vec Ideal ⟨2, ![A, B]⟩ .f32) (inb) (i : Fin h) (j : Fin w) :
    View.ld x (Rect.unit (s := ⟨2, ![A, B]⟩) ![a, b] ![h, w] inb) (ix2 i j) = rd x (a + i) (b + j) := by
  have h0 : a + h ≤ A := inb 0
  have h1 : b + w ≤ B := inb 1
  rw [rd_lt x (show a + i.val < A by omega) (show b + j.val < B by omega)]
  show x _ = x _
  congr 1
  funext ax
  apply Fin.ext
  match ax with
  | ⟨0, _⟩ => show a + 1 * (i : ℕ) = a + i; omega
  | ⟨1, _⟩ => show b + 1 * (j : ℕ) = b + j; omega

section Block
variable (x0 : Vec Ideal S256x3200 .f32) (x1 : Vec Ideal S128x256 .bf16) (x2 : Vec Ideal S1x256 .f32) (lo hi : Vec Ideal S128x128 .f32)

theorem bcx_at (r j : Fin 256) : bcx x0 x1 x2 (ix2 r j) = sums (rd x0) (rd x1) (rd x2) r j := by
  refine (bcV_at _ _ _ _ _).trans ?_
  unfold sums cum
  refine sum_congr rfl fun i hi => ?_
  rw [mem_range] at hi
  have hr := r.isLt
  refine gate_congr _ fun l hl => ?_
  rw [rd_lt _ (show r.val - r.val % 64 + i < 256 by omega) hl]
  rw [ld_at, Nat.zero_add]

theorem ld_row {a b h w : ℕ} (inb) (i : Fin h) (j : Fin w) (b' : ℕ) (hb : b = b') :
    View.ld x0 (Rect.unit (s := S256x3200) ![a, b] ![h, w] inb) (ix2 i j) = rd x0 (a + i) (b' + j) := by
  subst hb; exact ld_at x0 inb i j
theorem ld_row0 {a h w : ℕ} (inb) (i : Fin h) (j : Fin w) :
    View.ld x0 (Rect.unit (s := S256x3200) ![a, 0] ![h, w] inb) (ix2 i j) = rd x0 (a + i) j := by
  rw [ld_row x0 inb i j 0 rfl, Nat.zero_add]
theorem ld_bc {a : ℕ} (inb) (i : Fin 64) (j : Fin 256) :
    View.ld (bcx x0 x1 x2) (Rect.unit (s := S256x256) ![a, 0] ![64, 256] inb) (ix2 i j) = sums (rd x0) (rd x1) (rd x2) (a + i) j := by
  have h0 : a + 64 ≤ 256 := inb 0
  have := ld_at (bcx x0 x1 x2) inb i j
  rw [this, Nat.zero_add, rd_lt _ (show a + i.val < 256 by omega) j.isLt, bcx_at]

theorem chunk {a : ℕ} (i1) (i2) (i3) (i4) (i5) (i6) (i7) :
    Chunk (rd x0) (sums (rd x0) (rd x1) (rd x2)) a (View.ld x0 (Rect.unit (s := S256x3200) ![a, 0] ![64, 256] i1)) (View.ld x0 (Rect.unit (s := S256x3200) ![a, 256] ![64, 256] i2))
      (View.ld (bcx x0 x1 x2) (Rect.unit (s := S256x256) ![a, 0] ![64, 256] i3))
      (View.ld x0 (Rect.unit (s := S256x3200) ![a, 512] ![64, 128] i4)) (View.ld x0 (Rect.unit (s := S256x3200) ![a, 640] ![64, 128] i5))
      (View.ld x0 (Rect.unit (s := S256x3200) ![a, 768] ![64, 128] i6)) (View.ld x0 (Rect.unit (s := S256x3200) ![a, 896] ![64, 128] i7)) :=
  ⟨fun i j => ld_row0 x0 i1 i j, fun i j => ld_row x0 i2 i j _ rfl, fun i j => ld_bc x0 x1 x2 i3 i j, fun i j => ld_row x0 i4 i j _ rfl, fun i j => ld_row x0 i5 i j _ rfl,
    fun i j => ld_row x0 i6 i j _ rfl, fun i j => ld_row x0 i7 i j _ rfl⟩

variable (S : ℕ → ℕ → EReal) (hlo : ∀ e j : Fin 128, lo (ix2 e j) = S e j) (hhi : ∀ e j : Fin 128, hi (ix2 e j) = S e (128 + j))
/-- The state after `n` chunks of the block. -/
abbrev bst (n : ℕ) : ℕ → ℕ → EReal := chain (rd x0) (sums (rd x0) (rd x1) (rd x2)) 0 S n
include hlo in
theorem lo1_at (e j : Fin 128) : lo1 x0 x1 x2 lo (ix2 e j) = bst x0 x1 x2 S 1 e j :=
  sLo_at (chunk x0 x1 x2 (a := 0) inb_S256x3200_S64x256_0_0 _ _ _ _ _ _) _ hlo e j
include hhi in
theorem hi1_at (e j : Fin 128) : hi1 x0 x1 x2 hi (ix2 e j) = bst x0 x1 x2 S 1 e (128 + j) :=
  sHi_at (chunk x0 x1 x2 (a := 0) inb_S256x3200_S64x256_0_0 _ _ _ _ _ _) _ hhi e j
include hlo in
theorem lo2_at (e j : Fin 128) : lo2 x0 x1 x2 lo (ix2 e j) = bst x0 x1 x2 S 2 e j :=
  sLo_at (chunk x0 x1 x2 (a := 64) inb_S256x3200_S64x256_64_0 _ _ _ _ _ _) _ (lo1_at x0 x1 x2 lo S hlo) e j
include hhi in
theorem hi2_at (e j : Fin 128) : hi2 x0 x1 x2 hi (ix2 e j) = bst x0 x1 x2 S 2 e (128 + j) :=
  sHi_at (chunk x0 x1 x2 (a := 64) inb_S256x3200_S64x256_64_0 _ _ _ _ _ _) _ (hi1_at x0 x1 x2 hi S hhi) e j
include hlo in
theorem lo3_at (e j : Fin 128) : lo3 x0 x1 x2 lo (ix2 e j) = bst x0 x1 x2 S 3 e j :=
  sLo_at (chunk x0 x1 x2 (a := 128) inb_S256x3200_S64x256_128_0 _ _ _ _ _ _) _ (lo2_at x0 x1 x2 lo S hlo) e j
include hhi in
theorem hi3_at (e j : Fin 128) : hi3 x0 x1 x2 hi (ix2 e j) = bst x0 x1 x2 S 3 e (128 + j) :=
  sHi_at (chunk x0 x1 x2 (a := 128) inb_S256x3200_S64x256_128_0 _ _ _ _ _ _) _ (hi2_at x0 x1 x2 hi S hhi) e j
include hlo in
theorem lo4_at (e j : Fin 128) : lo4 x0 x1 x2 lo (ix2 e j) = bst x0 x1 x2 S 4 e j :=
  sLo_at (chunk x0 x1 x2 (a := 192) inb_S256x3200_S64x256_192_0 _ _ _ _ _ _) _ (lo3_at x0 x1 x2 lo S hlo) e j
include hhi in
theorem hi4_at (e j : Fin 128) : hi4 x0 x1 x2 hi (ix2 e j) = bst x0 x1 x2 S 4 e (128 + j) :=
  sHi_at (chunk x0 x1 x2 (a := 192) inb_S256x3200_S64x256_192_0 _ _ _ _ _ _) _ (hi3_at x0 x1 x2 hi S hhi) e j
include hlo in
theorem outLo0_at (i : Fin 64) (j : Fin 256) : outLo0 x0 x1 x2 lo (ix2 i j) = outc (rd x0) (sums (rd x0) (rd x1) (rd x2)) 0 (bst x0 x1 x2 S 0) i j :=
  oLo_at (chunk x0 x1 x2 (a := 0) _ _ _ inb_S256x3200_S64x128_0_512 inb_S256x3200_S64x128_0_640 inb_S256x3200_S64x128_0_768 inb_S256x3200_S64x128_0_896) _ hlo i j
include hhi in
theorem outHi0_at (i : Fin 64) (j : Fin 256) : outHi0 x0 x1 x2 hi (ix2 i j) = outc (rd x0) (sums (rd x0) (rd x1) (rd x2)) 0 (bst x0 x1 x2 S 0) i (256 + j) :=
  oHi_at (chunk x0 x1 x2 (a := 0) _ _ _ inb_S256x3200_S64x128_0_512 inb_S256x3200_S64x128_0_640 inb_S256x3200_S64x128_0_768 inb_S256x3200_S64x128_0_896) _ hhi i j
include hlo in
theorem outLo1_at (i : Fin 64) (j : Fin 256) : outLo1 x0 x1 x2 lo (ix2 i j) = outc (rd x0) (sums (rd x0) (rd x1) (rd x2)) 64 (bst x0 x1 x2 S 1) i j :=
  oLo_at (chunk x0 x1 x2 (a := 64) _ _ _ inb_S256x3200_S64x128_64_512 inb_S256x3200_S64x128_64_640 inb_S256x3200_S64x128_64_768 inb_S256x3200_S64x128_64_896) _ (lo1_at x0 x1 x2 lo S hlo) i j
include hhi in
theorem outHi1_at (i : Fin 64) (j : Fin 256) : outHi1 x0 x1 x2 hi (ix2 i j) = outc (rd x0) (sums (rd x0) (rd x1) (rd x2)) 64 (bst x0 x1 x2 S 1) i (256 + j) :=
  oHi_at (chunk x0 x1 x2 (a := 64) _ _ _ inb_S256x3200_S64x128_64_512 inb_S256x3200_S64x128_64_640 inb_S256x3200_S64x128_64_768 inb_S256x3200_S64x128_64_896) _ (hi1_at x0 x1 x2 hi S hhi) i j
include hlo in
theorem outLo2_at (i : Fin 64) (j : Fin 256) : outLo2 x0 x1 x2 lo (ix2 i j) = outc (rd x0) (sums (rd x0) (rd x1) (rd x2)) 128 (bst x0 x1 x2 S 2) i j :=
  oLo_at (chunk x0 x1 x2 (a := 128) _ _ _ inb_S256x3200_S64x128_128_512 inb_S256x3200_S64x128_128_640 inb_S256x3200_S64x128_128_768 inb_S256x3200_S64x128_128_896) _ (lo2_at x0 x1 x2 lo S hlo) i j
include hhi in
theorem outHi2_at (i : Fin 64) (j : Fin 256) : outHi2 x0 x1 x2 hi (ix2 i j) = outc (rd x0) (sums (rd x0) (rd x1) (rd x2)) 128 (bst x0 x1 x2 S 2) i (256 + j) :=
  oHi_at (chunk x0 x1 x2 (a := 128) _ _ _ inb_S256x3200_S64x128_128_512 inb_S256x3200_S64x128_128_640 inb_S256x3200_S64x128_128_768 inb_S256x3200_S64x128_128_896) _ (hi2_at x0 x1 x2 hi S hhi) i j
include hlo in
theorem outLo3_at (i : Fin 64) (j : Fin 256) : outLo3 x0 x1 x2 lo (ix2 i j) = outc (rd x0) (sums (rd x0) (rd x1) (rd x2)) 192 (bst x0 x1 x2 S 3) i j :=
  oLo_at (chunk x0 x1 x2 (a := 192) _ _ _ inb_S256x3200_S64x128_192_512 inb_S256x3200_S64x128_192_640 inb_S256x3200_S64x128_192_768 inb_S256x3200_S64x128_192_896) _ (lo3_at x0 x1 x2 lo S hlo) i j
include hhi in
theorem outHi3_at (i : Fin 64) (j : Fin 256) : outHi3 x0 x1 x2 hi (ix2 i j) = outc (rd x0) (sums (rd x0) (rd x1) (rd x2)) 192 (bst x0 x1 x2 S 3) i (256 + j) :=
  oHi_at (chunk x0 x1 x2 (a := 192) _ _ _ inb_S256x3200_S64x128_192_512 inb_S256x3200_S64x128_192_640 inb_S256x3200_S64x128_192_768 inb_S256x3200_S64x128_192_896) _ (hi3_at x0 x1 x2 hi S hhi) i j

theorem canon_skip {A B a b h w : ℕ} (inb) (W) (L) (r : Fin A) (c : Fin B) (hm : r.val < a ∨ a + h ≤ r.val ∨ c.val < b ∨ b + w ≤ c.val) :
    View.canon (Val := Elt Ideal) (e := .f32) (⟨Rect.unit (s := ⟨2, ![A, B]⟩) ![a, b] ![h, w] inb, W⟩ :: L) (ix2 r c) = View.canon L (ix2 r c) := by
  refine View.canon_cons_of_not_mem _ L ?_
  rcases hm with h0 | h0 | h1 | h1
  · exact Rect.not_mem_set_of_axis _ _ 0 a h rfl rfl rfl (.inl h0)
  · exact Rect.not_mem_set_of_axis _ _ 0 a h rfl rfl rfl (.inr h0)
  · exact Rect.not_mem_set_of_axis _ _ 1 b w rfl rfl rfl (.inl h1)
  · exact Rect.not_mem_set_of_axis _ _ 1 b w rfl rfl rfl (.inr h1)
theorem canon_at {A B a b h w : ℕ} (inb) (W) (L) (r : Fin A) (c : Fin B) (i : Fin h) (j : Fin w) (h0 : r.val = a + i) (h1 : c.val = b + j) :
    View.canon (Val := Elt Ideal) (e := .f32) (⟨Rect.unit (s := ⟨2, ![A, B]⟩) ![a, b] ![h, w] inb, W⟩ :: L) (ix2 r c) = W (ix2 i j) := by
  have : (Rect.unit (s := ⟨2, ![A, B]⟩) ![a, b] ![h, w] inb).emb (ix2 i j) = ix2 r c := by
    funext ax
    apply Fin.ext
    match ax with
    | ⟨0, _⟩ => show a + 1 * (i : ℕ) = r.val; omega
    | ⟨1, _⟩ => show b + 1 * (j : ℕ) = c.val; omega
  rw [← this, View.canon_cons_emb]

include hlo hhi in
/-- What a block's run leaves in the carried state. -/
theorem sPieces_at (L) (e : Fin 128) (j : Fin 256) : View.canon (sPieces x0 x1 x2 lo hi L) (ix2 e j) = bst x0 x1 x2 S 4 e j := by
  have he := e.isLt
  have hj := j.isLt
  unfold sPieces
  rcases lt_or_ge j.val 128 with h | h
  · rw [canon_skip _ _ _ _ _ (by omega), canon_at _ _ _ _ _ e ⟨j.val, h⟩ (by omega) (by simp only; omega)]
    exact lo4_at x0 x1 x2 lo S hlo e ⟨j.val, h⟩
  · rw [canon_at _ _ _ _ _ e ⟨j.val - 128, by omega⟩ (by omega) (by simp only; omega)]
    refine (hi4_at x0 x1 x2 hi S hhi e ⟨j.val - 128, by omega⟩).trans ?_
    simp only [show 128 + (j.val - 128) = j.val by omega]
include hlo hhi in
/-- What it leaves in the output's block. -/
theorem oPieces_at (r : Fin 256) (c : Fin 512) : View.canon (oPieces x0 x1 x2 lo hi) (ix2 r c)
    = outc (rd x0) (sums (rd x0) (rd x1) (rd x2)) (64 * (r.val / 64)) (bst x0 x1 x2 S (r.val / 64)) (r.val % 64) c := by
  have hr := r.isLt
  have hc := c.isLt
  have hd : r.val / 64 = 0 ∨ r.val / 64 = 1 ∨ r.val / 64 = 2 ∨ r.val / 64 = 3 := by omega
  unfold oPieces
  rcases hd with hd | hd | hd | hd <;> rcases lt_or_ge c.val 256 with h | h <;> rw [hd]
  · rw [canon_skip _ _ _ _ _ (by omega), canon_skip _ _ _ _ _ (by omega), canon_skip _ _ _ _ _ (by omega), canon_skip _ _ _ _ _ (by omega), canon_skip _ _ _ _ _ (by omega), canon_skip _ _ _ _ _ (by omega), canon_skip _ _ _ _ _ (by omega), canon_at _ _ _ _ _ ⟨r.val % 64, by omega⟩ ⟨c.val, h⟩ (by simp only; omega) (by simp only; omega)]
    refine (outLo0_at x0 x1 x2 lo S hlo ⟨r.val % 64, by omega⟩ ⟨c.val, h⟩).trans ?_
    rfl
  · rw [canon_skip _ _ _ _ _ (by omega), canon_skip _ _ _ _ _ (by omega), canon_skip _ _ _ _ _ (by omega), canon_skip _ _ _ _ _ (by omega), canon_skip _ _ _ _ _ (by omega), canon_skip _ _ _ _ _ (by omega), canon_at _ _ _ _ _ ⟨r.val % 64, by omega⟩ ⟨c.val - 256, by omega⟩ (by simp only; omega) (by simp only; omega)]
    refine (outHi0_at x0 x1 x2 hi S hhi ⟨r.val % 64, by omega⟩ ⟨c.val - 256, by omega⟩).trans ?_
    simp only [show 256 + (c.val - 256) = c.val by omega]
  · rw [canon_skip _ _ _ _ _ (by omega), canon_skip _ _ _ _ _ (by omega), canon_skip _ _ _ _ _ (by omega), canon_skip _ _ _ _ _ (by omega), canon_skip _ _ _ _ _ (by omega), canon_at _ _ _ _ _ ⟨r.val % 64, by omega⟩ ⟨c.val, h⟩ (by simp only; omega) (by simp only; omega)]
    refine (outLo1_at x0 x1 x2 lo S hlo ⟨r.val % 64, by omega⟩ ⟨c.val, h⟩).trans ?_
    rfl
  · rw [canon_skip _ _ _ _ _ (by omega), canon_skip _ _ _ _ _ (by omega), canon_skip _ _ _ _ _ (by omega), canon_skip _ _ _ _ _ (by omega), canon_at _ _ _ _ _ ⟨r.val % 64, by omega⟩ ⟨c.val - 256, by omega⟩ (by simp only; omega) (by simp only; omega)]
    refine (outHi1_at x0 x1 x2 hi S hhi ⟨r.val % 64, by omega⟩ ⟨c.val - 256, by omega⟩).trans ?_
    simp only [show 256 + (c.val - 256) = c.val by omega]
  · rw [canon_skip _ _ _ _ _ (by omega), canon_skip _ _ _ _ _ (by omega), canon_skip _ _ _ _ _ (by omega), canon_at _ _ _ _ _ ⟨r.val % 64, by omega⟩ ⟨c.val, h⟩ (by simp only; omega) (by simp only; omega)]
    refine (outLo2_at x0 x1 x2 lo S hlo ⟨r.val % 64, by omega⟩ ⟨c.val, h⟩).trans ?_
    rfl
  · rw [canon_skip _ _ _ _ _ (by omega), canon_skip _ _ _ _ _ (by omega), canon_at _ _ _ _ _ ⟨r.val % 64, by omega⟩ ⟨c.val - 256, by omega⟩ (by simp only; omega) (by simp only; omega)]
    refine (outHi2_at x0 x1 x2 hi S hhi ⟨r.val % 64, by omega⟩ ⟨c.val - 256, by omega⟩).trans ?_
    simp only [show 256 + (c.val - 256) = c.val by omega]
  · rw [canon_skip _ _ _ _ _ (by omega), canon_at _ _ _ _ _ ⟨r.val % 64, by omega⟩ ⟨c.val, h⟩ (by simp only; omega) (by simp only; omega)]
    refine (outLo3_at x0 x1 x2 lo S hlo ⟨r.val % 64, by omega⟩ ⟨c.val, h⟩).trans ?_
    rfl
  · rw [canon_at _ _ _ _ _ ⟨r.val % 64, by omega⟩ ⟨c.val - 256, by omega⟩ (by simp only; omega) (by simp only; omega)]
    refine (outHi3_at x0 x1 x2 hi S hhi ⟨r.val % 64, by omega⟩ ⟨c.val - 256, by omega⟩).trans ?_
    simp only [show 256 + (c.val - 256) = c.val by omega]
end Block

section Points
variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ t.val < 128 :=
  (by decide +kernel : ∀ t : Fin grid0.N, _)

theorem blk1 (c : Dev nD) (t : Fin cfg0.N) : (iblk m c 1 t : Vec Ideal S128x256 .bf16) = m ((c : Thread nD τ).loc main_arg1) := by
  blk_ext! [iblk, V, idx t]
theorem blk2 (c : Dev nD) (t : Fin cfg0.N) : (iblk m c 2 t : Vec Ideal S1x256 .f32) = m ((c : Thread nD τ).loc main_arg2) := by
  blk_ext! [iblk, V, idx t]
theorem blk0 (c : Dev nD) (t : Fin cfg0.N) (r : Fin 256) (j : Fin 3200) (R : Fin 32768) (hR : (R : ℕ) = t.val * 256 + r) :
    (iblk m c 0 t : Vec Ideal S256x3200 .f32) (ix2 r j) = (m ((c : Thread nD τ).loc main_arg0) : Vec Ideal S32768x3200 .f32) (ix2 R j) := by
  blk_ext [iblk, V, idx t]

/-- The projection, the low-rank factor and the bias on a device, read at natural positions. -/
def gP (c : Dev nD) : ℕ → ℕ → EReal := rd (m ((c : Thread nD τ).loc main_arg0) : Vec Ideal S32768x3200 .f32)
def gW (c : Dev nD) : ℕ → ℕ → EReal := rd (m ((c : Thread nD τ).loc main_arg1) : Vec Ideal S128x256 .bf16)
def gC (c : Dev nD) : ℕ → ℕ → EReal := rd (m ((c : Thread nD τ).loc main_arg2) : Vec Ideal S1x256 .f32)
def gB (c : Dev nD) : ℕ → ℕ → EReal := sums (gP m c) (gW m c) (gC m c)

theorem rows_eq (c : Dev nD) (t : Fin cfg0.N) (r : ℕ) (hr : r < 256) (j : ℕ) : rd (iblk m c 0 t : Vec Ideal S256x3200 .f32) r j = gP m c (256 * t.val + r) j := by
  have ht : t.val < 128 := (idx t).2.2.2.2
  unfold gP
  by_cases hj : j < 3200
  · rw [rd_lt _ hr hj, rd_lt _ (show 256 * t.val + r < 32768 by omega) hj]
    exact blk0 m c t ⟨r, hr⟩ ⟨j, hj⟩ ⟨256 * t.val + r, by omega⟩ (by simp only; omega)
  · unfold rd
    rw [dif_neg (by omega), dif_neg (by omega)]
theorem sums_eq (c : Dev nD) (t : Fin cfg0.N) (r : ℕ) (hr : r < 256) (j : ℕ) :
    sums (rd (iblk m c 0 t : Vec Ideal S256x3200 .f32)) (rd (iblk m c 1 t : Vec Ideal S128x256 .bf16)) (rd (iblk m c 2 t : Vec Ideal S1x256 .f32)) r j = gB m c (256 * t.val + r) j := by
  rw [blk1, blk2]
  exact sums_congr (by omega) (fun i hi cc => rows_eq m c t _ (by omega) cc) j

/-- The state within a block is the state along the whole sequence. -/
theorem bst_eq (c : Dev nD) (t : Fin cfg0.N) (k n : ℕ) (hn : n ≤ 4) (r0 : ℕ) (h : 256 * t.val = r0 + 64 * k) (S : ℕ → ℕ → EReal) (e j : ℕ) (hj : j < 256) :
    bst (iblk m c 0 t : Vec Ideal S256x3200 .f32) (iblk m c 1 t : Vec Ideal S128x256 .bf16) (iblk m c 2 t : Vec Ideal S1x256 .f32) (chain (gP m c) (gB m c) r0 S k) n e j
      = chain (gP m c) (gB m c) r0 S (k + n) e j := by
  rw [← chain_add, ← h]
  exact chain_congr 4 (fun s hs cc => by rw [Nat.zero_add]; exact rows_eq m c t s hs cc) (fun s hs cc _ => by rw [Nat.zero_add]; exact sums_eq m c t s hs cc) n hn e j hj

theorem zeroV_at (e : Fin 128) (j : Fin 256) : zeroV (ix2 e j) = 0 := by
  unfold zeroV
  pointwise [k0_pay3]
theorem loOf_at (S : Vec Ideal S128x256 .f32) (e j : Fin 128) : loOf S (ix2 e j) = S (ix2 e ⟨j.val, by omega⟩) := by
  unfold loOf
  rw [ld_at, Nat.zero_add, Nat.zero_add, rd_lt _ e.isLt (show j.val < 256 by omega)]
theorem hiOf_at (S : Vec Ideal S128x256 .f32) (e j : Fin 128) : hiOf S (ix2 e j) = S (ix2 e ⟨128 + j.val, by omega⟩) := by
  unfold hiOf
  rw [ld_at, Nat.zero_add, rd_lt _ e.isLt (show 128 + j.val < 256 by omega)]

/-- What the carried state holds after a point: the state along its sequence. -/
theorem state_at (c : Dev nD) : ∀ (n : ℕ) (hn : n < cfg0.N) (e : Fin 128) (j : Fin 256),
    (outsAt0 m c n hn).2 (ix2 e j) = chain (gP m c) (gB m c) (4096 * (n / 16)) (fun _ _ => 0) (4 * (n % 16) + 4) e j := by
  intro n
  induction n with
  | zero =>
    intro hn e j
    rw [show outsAt0 m c 0 hn = _ from outsAt0_A m c ⟨0, hn⟩ rfl]
    refine (stA c ⟨0, hn⟩ ((hcond0_0 ⟨0, hn⟩).mpr rfl) _ _ _ (ix2 e j)).trans ?_
    refine (sPieces_at _ _ _ _ _ (fun _ _ => 0) (fun e j => ?_) (fun e j => ?_) _ e j).trans ?_
    · rw [loOf_at, zeroV_at]
    · rw [hiOf_at, zeroV_at]
    · exact bst_eq m c ⟨0, hn⟩ 0 4 le_rfl 0 rfl (fun _ _ => 0) e j j.isLt
  | succ n ih =>
    intro hn e j
    by_cases h0 : (n + 1) % 16 = 0
    · rw [show outsAt0 m c (n + 1) hn = _ from outsAt0_A m c ⟨n + 1, hn⟩ h0]
      refine (stA c ⟨n + 1, hn⟩ ((hcond0_0 ⟨n + 1, hn⟩).mpr h0) _ _ _ (ix2 e j)).trans ?_
      refine (sPieces_at _ _ _ _ _ (fun _ _ => 0) (fun e j => ?_) (fun e j => ?_) _ e j).trans ?_
      · rw [loOf_at, zeroV_at]
      · rw [hiOf_at, zeroV_at]
      · refine (bst_eq m c ⟨n + 1, hn⟩ 0 4 le_rfl (4096 * ((n + 1) / 16)) (by simp only; omega) (fun _ _ => 0) e j j.isLt).trans ?_
        rw [h0]
    · rw [show outsAt0 m c (n + 1) hn = _ from outsAt0_B m c ⟨n + 1, hn⟩ h0]
      refine (stB c ⟨n + 1, hn⟩ (fun h => h0 ((hcond0_0 ⟨n + 1, hn⟩).mp h)) _ _ _ _ (ix2 e j)).trans ?_
      refine (sPieces_at _ _ _ _ _ (chain (gP m c) (gB m c) (4096 * (n / 16)) (fun _ _ => 0) (4 * (n % 16) + 4)) (fun e j => ?_) (fun e j => ?_) _ e j).trans ?_
      · rw [loOf_at]; exact ih _ e ⟨j.val, by omega⟩
      · rw [hiOf_at]; exact ih _ e ⟨128 + j.val, by omega⟩
      · refine (bst_eq m c ⟨n + 1, hn⟩ (4 * (n % 16) + 4) 4 le_rfl (4096 * (n / 16)) (by simp only; omega) (fun _ _ => 0) e j j.isLt).trans ?_
        rw [show n / 16 = (n + 1) / 16 by omega, show 4 * (n % 16) + 4 = 4 * ((n + 1) % 16) by omega]

theorem out_of (c : Dev nD) (t : Fin cfg0.N) (k : ℕ) (r0 : ℕ) (h : 256 * t.val = r0 + 64 * k) (S : ℕ → ℕ → EReal) (r : Fin 256) (cc : Fin 512) :
    outc (rd (iblk m c 0 t : Vec Ideal S256x3200 .f32)) (sums (rd (iblk m c 0 t : Vec Ideal S256x3200 .f32)) (rd (iblk m c 1 t : Vec Ideal S128x256 .bf16)) (rd (iblk m c 2 t : Vec Ideal S1x256 .f32)))
      (64 * (r.val / 64)) (bst (iblk m c 0 t : Vec Ideal S256x3200 .f32) (iblk m c 1 t : Vec Ideal S128x256 .bf16) (iblk m c 2 t : Vec Ideal S1x256 .f32) (chain (gP m c) (gB m c) r0 S k) (r.val / 64)) (r.val % 64) cc
    = outc (gP m c) (gB m c) (256 * t.val + 64 * (r.val / 64)) (chain (gP m c) (gB m c) r0 S (k + r.val / 64)) (r.val % 64) cc := by
  have hr := r.isLt
  refine outc_congr (fun s hs x => ?_) (fun s hs x _ => ?_) _ _ (by omega) cc.isLt (fun e _ j hj => bst_eq m c t k _ (by omega) r0 h S e j hj)
  · rw [Nat.add_assoc]; exact rows_eq m c t _ (by omega) x
  · rw [Nat.add_assoc]; exact sums_eq m c t _ (by omega) x

/-- What a point leaves in the output's block. -/
theorem point (c : Dev nD) (t : Fin cfg0.N) (r : Fin 256) (cc : Fin 512) :
    (outsAt0 m c t.val t.isLt).1 (ix2 r cc) = gla (gP m c) (gB m c) (256 * t.val + r) cc := by
  have hr := r.isLt
  have ht : t.val < 128 := (idx t).2.2.2.2
  unfold gla
  rw [show (256 * t.val + r.val) / 64 * 64 = 256 * t.val + 64 * (r.val / 64) by omega, show (256 * t.val + r.val) / 4096 * 4096 = 4096 * (t.val / 16) by omega,
    show (256 * t.val + r.val) / 64 % 64 = 4 * (t.val % 16) + r.val / 64 by omega, show (256 * t.val + r.val) % 64 = r.val % 64 by omega]
  by_cases h0 : t.val % 16 = 0
  · rw [outsAt0_A m c t h0]
    refine (outA c t ((hcond0_0 t).mpr h0) _ _ _ (ix2 r cc)).trans ?_
    refine (oPieces_at _ _ _ _ _ (chain (gP m c) (gB m c) (4096 * (t.val / 16)) (fun _ _ => 0) 0) (fun e j => ?_) (fun e j => ?_) r cc).trans ?_
    · rw [loOf_at, zeroV_at]; rfl
    · rw [hiOf_at, zeroV_at]; rfl
    · refine (out_of m c t 0 (4096 * (t.val / 16)) (by omega) (fun _ _ => 0) r cc).trans ?_
      rw [h0]
  · rw [outsAt0_B m c t h0]
    refine (outB c t (fun h => h0 ((hcond0_0 t).mp h)) _ _ _ _ (ix2 r cc)).trans ?_
    refine (oPieces_at _ _ _ _ _ (chain (gP m c) (gB m c) (4096 * (t.val / 16)) (fun _ _ => 0) (4 * (t.val % 16))) (fun e j => ?_) (fun e j => ?_) r cc).trans ?_
    · rw [loOf_at, state_at, show (t.val - 1) / 16 = t.val / 16 by omega, show 4 * ((t.val - 1) % 16) + 4 = 4 * (t.val % 16) by omega]
    · rw [hiOf_at, state_at, show (t.val - 1) / 16 = t.val / 16 by omega, show 4 * ((t.val - 1) % 16) + 4 = 4 * (t.val % 16) by omega]
    · exact out_of m c t _ (4096 * (t.val / 16)) (by omega) (fun _ _ => 0) r cc

/-- The result as one function of the arguments. -/
def Gla (c : Dev nD) : Vec Ideal S32768x512 .f32 := fun i => gla (gP m c) (gB m c) (i 0 : Fin 32768).val (i 1 : Fin 512).val

theorem finalGla (c : Dev nD) : (dats m 0 c).arrAt 3 (cfgs 0).N = Gla m c := by
  refine (dats m 0 c).arrAt_eq_of_covers 3 _ (by decide +kernel) fun t _ y => ?_
  blk_simp
  rw [after0_3]
  obtain ⟨r, cc, rfl⟩ : ∃ (r : Fin 256) (cc : Fin 512), y = ix2 r cc := ⟨y 0, y 1, by funext a; fin_cases a <;> rfl⟩
  refine (point m c t r cc).trans ?_
  unfold Gla
  congr 1
  · blk_simp [idx t]; omega
  · blk_simp [idx t]
end Points
end Cert.MixGlaIdeal.Value
-- ==== Proof.MixGlaRef.lean ====
module

public import proofs.«01_k».proof.Proof.Gen.MixGlaRefIdeal.Run
public import proofs.«01_k».proof.Proof.GlaMath
public import Idealize.ShloMosaic.Lib.DynamicIndex
public import Idealize.ShloMosaic.Lib.Pipeline.ValueKit

@[expose] public section

set_option maxRecDepth 16384
noncomputable section
open Idealize.ShloMosaic Idealize.ShloMosaic.TcCoe Idealize.SL.Sem Idealize.ShloMosaic.StableHlo
namespace Cert.MixGlaRefIdeal.Value
open Cert.MixGlaRefIdeal Cert.MixGlaRefIdeal.Gen Cert.GlaMath Finset

/-- The contents of a valuation at the loop's five arrays, its counter and its two carried arrays. -/
abbrev vq (V : Valuation τ sig (Elt Ideal)) : FVec Ideal S64x8x4x64x64 .f32 := V (Proc.devRef .tc main_v33_0)
abbrev vk (V : Valuation τ sig (Elt Ideal)) : FVec Ideal S64x8x4x64x64 .f32 := V (Proc.devRef .tc main_v33_1)
abbrev vv (V : Valuation τ sig (Elt Ideal)) : FVec Ideal S64x8x4x64x128 .f32 := V (Proc.devRef .tc main_v33_2)
abbrev vb (V : Valuation τ sig (Elt Ideal)) : FVec Ideal S64x8x4x64x64 .f32 := V (Proc.devRef .tc main_v33_3)
abbrev vm (V : Valuation τ sig (Elt Ideal)) : IVec S64x64 1 := V (Proc.devRef .tc main_v33_4)
abbrev vn (V : Valuation τ sig (Elt Ideal)) : IVec S_ 32 := V (Proc.devRef .tc main_v33_5)
abbrev vs (V : Valuation τ sig (Elt Ideal)) : FVec Ideal S8x4x64x128 .f32 := V (Proc.devRef .tc main_v33_6)
abbrev vo (V : Valuation τ sig (Elt Ideal)) : FVec Ideal S64x8x4x64x128 .f32 := V (Proc.devRef .tc main_v33_7)

/-- What the loop's five constant arrays hold, in terms of a projection and its running sums. -/
structure Reads (P B : ℕ → ℕ → EReal) (V : Valuation τ sig (Elt Ideal)) : Prop where
  q : ∀ (n : Fin 64) (b : Fin 8) (h : Fin 4) (s d : Fin 64), vq V (ix5 n b h s d) = P (4096 * b + 64 * n + s) (64 * h + d) * Ideal.ofBits .f32 0x3E000000#32
  k : ∀ (n : Fin 64) (b : Fin 8) (h : Fin 4) (s d : Fin 64), vk V (ix5 n b h s d) = P (4096 * b + 64 * n + s) (256 + (64 * h + d))
  v : ∀ (n : Fin 64) (b : Fin 8) (h : Fin 4) (s : Fin 64) (e : Fin 128), vv V (ix5 n b h s e) = P (4096 * b + 64 * n + s) (512 + (128 * h + e))
  b : ∀ (n : Fin 64) (b : Fin 8) (h : Fin 4) (s d : Fin 64), vb V (ix5 n b h s d) = B (4096 * b + 64 * n + s) (64 * h + d)
  m : ∀ i s : Fin 64, vm V (ix2 i s) = if s ≤ i then 1#1 else 0#1

theorem start_eq (n : ℕ) (hn : n < 64) (V : Valuation τ sig (Elt Ideal)) (hV : vn V = fun _ => BitVec.ofNat 32 n) :
    ∀ a : Fin 5, ((((![V (Proc.devRef .tc main_v33_5), constantI S_ 32 0#32, constantI S_ 32 0#32, constantI S_ 32 0#32, constantI S_ 32 0#32] : Fin 5 → (⟨S_, .i32⟩ : BufTy).Contents (Elt Ideal))) a (Shape.Idx.first h_S_)).toInt)
      = ((![n, 0, 0, 0, 0] : Fin 5 → ℕ) a : ℤ) := by
  intro a
  match a with
  | ⟨0, _⟩ =>
    change BitVec.toInt (vn V (Shape.Idx.first h_S_)) = (n : ℤ)
    rw [hV]
    exact toInt_ofNat_of_lt (by omega)
  | ⟨1, _⟩ => rfl
  | ⟨2, _⟩ => rfl
  | ⟨3, _⟩ => rfl
  | ⟨4, _⟩ => rfl

theorem fits64 (n : ℕ) (hn : n < 64) : S64x8x4x64x64.Slices ![n, 0, 0, 0, 0] S1x8x4x64x64 := by
  refine ⟨rfl, fun a => ?_⟩
  match a with
  | ⟨0, _⟩ => change n + 1 ≤ 64; omega
  | ⟨1, _⟩ => exact Nat.le_refl _
  | ⟨2, _⟩ => exact Nat.le_refl _
  | ⟨3, _⟩ => exact Nat.le_refl _
  | ⟨4, _⟩ => exact Nat.le_refl _
theorem fits128 (n : ℕ) (hn : n < 64) : S64x8x4x64x128.Slices ![n, 0, 0, 0, 0] S1x8x4x64x128 := by
  refine ⟨rfl, fun a => ?_⟩
  match a with
  | ⟨0, _⟩ => change n + 1 ≤ 64; omega
  | ⟨1, _⟩ => exact Nat.le_refl _
  | ⟨2, _⟩ => exact Nat.le_refl _
  | ⟨3, _⟩ => exact Nat.le_refl _
  | ⟨4, _⟩ => exact Nat.le_refl _

variable {P B : ℕ → ℕ → EReal} {V : Valuation τ sig (Elt Ideal)}

theorem slice64 (n : Fin 64) (hV : vn V = fun _ => BitVec.ofNat 32 n) (x : FVec Ideal S64x8x4x64x64 .f32) (b : Fin 8) (h : Fin 4) (s d : Fin 64) :
    shapeCast S8x4x64x64 (Host.dynamicSlice S1x8x4x64x64 x (fun k => (((![V (Proc.devRef .tc main_v33_5), constantI S_ 32 0#32, constantI S_ 32 0#32, constantI S_ 32 0#32, constantI S_ 32 0#32] : Fin 5 → (⟨S_, .i32⟩ : BufTy).Contents (Elt Ideal))) k (Shape.Idx.first h_S_)).toInt) sliceFits_S64x8x4x64x64_S1x8x4x64x64) shapeCasts_S1x8x4x64x64_S8x4x64x64 (ix4 b h s d)
      = x (ix5 n b h s d) := by
  rw [Host.dynamicSlice_eq_extractStridedSlice _ _ _ _ _ (fits64 n n.isLt) (start_eq n n.isLt V hV)]
  pointwise []
theorem slice128 (n : Fin 64) (hV : vn V = fun _ => BitVec.ofNat 32 n) (x : FVec Ideal S64x8x4x64x128 .f32) (b : Fin 8) (h : Fin 4) (s : Fin 64) (e : Fin 128) :
    shapeCast S8x4x64x128 (Host.dynamicSlice S1x8x4x64x128 x (fun k => (((![V (Proc.devRef .tc main_v33_5), constantI S_ 32 0#32, constantI S_ 32 0#32, constantI S_ 32 0#32, constantI S_ 32 0#32] : Fin 5 → (⟨S_, .i32⟩ : BufTy).Contents (Elt Ideal))) k (Shape.Idx.first h_S_)).toInt) sliceFits_S64x8x4x64x128_S1x8x4x64x128) shapeCasts_S1x8x4x64x128_S8x4x64x128 (ix4 b h s e)
      = x (ix5 n b h s e) := by
  rw [Host.dynamicSlice_eq_extractStridedSlice _ _ _ _ _ (fits128 n n.isLt) (start_eq n n.isLt V hV)]
  pointwise []

/-- The chunk a trip reads, entry by entry. -/
abbrev cq (V : Valuation τ sig (Elt Ideal)) (b : Fin 8) (h : Fin 4) (s d : Fin 64) : EReal := (res_main_while0b_v37 V : FVec Ideal S8x4x64x64 .f32) (ix4 b h s d)
abbrev ck (V : Valuation τ sig (Elt Ideal)) (b : Fin 8) (h : Fin 4) (s d : Fin 64) : EReal := (res_main_while0b_v38 V : FVec Ideal S8x4x64x64 .f32) (ix4 b h s d)
abbrev cv (V : Valuation τ sig (Elt Ideal)) (b : Fin 8) (h : Fin 4) (s : Fin 64) (e : Fin 128) : EReal := (res_main_while0b_v39 V : FVec Ideal S8x4x64x128 .f32) (ix4 b h s e)
abbrev cb (V : Valuation τ sig (Elt Ideal)) (b : Fin 8) (h : Fin 4) (s d : Fin 64) : EReal := (res_main_while0b_v40 V : FVec Ideal S8x4x64x64 .f32) (ix4 b h s d)
abbrev cs (V : Valuation τ sig (Elt Ideal)) (b : Fin 8) (h : Fin 4) (d : Fin 64) (e : Fin 128) : EReal := vs V (ix4 b h d e)

theorem q_at (hR : Reads P B V) (n : Fin 64) (hV : vn V = fun _ => BitVec.ofNat 32 n) (b : Fin 8) (h : Fin 4) (s d : Fin 64) :
    cq V b h s d = P (4096 * b + 64 * n + s) (64 * h + d) * Ideal.ofBits .f32 0x3E000000#32 :=
  (slice64 n hV _ b h s d).trans (hR.q n b h s d)
theorem k_at (hR : Reads P B V) (n : Fin 64) (hV : vn V = fun _ => BitVec.ofNat 32 n) (b : Fin 8) (h : Fin 4) (s d : Fin 64) :
    ck V b h s d = P (4096 * b + 64 * n + s) (256 + (64 * h + d)) :=
  (slice64 n hV _ b h s d).trans (hR.k n b h s d)
theorem v_at (hR : Reads P B V) (n : Fin 64) (hV : vn V = fun _ => BitVec.ofNat 32 n) (b : Fin 8) (h : Fin 4) (s : Fin 64) (e : Fin 128) :
    cv V b h s e = P (4096 * b + 64 * n + s) (512 + (128 * h + e)) :=
  (slice128 n hV _ b h s e).trans (hR.v n b h s e)
theorem b_at (hR : Reads P B V) (n : Fin 64) (hV : vn V = fun _ => BitVec.ofNat 32 n) (b : Fin 8) (h : Fin 4) (s d : Fin 64) :
    cb V b h s d = B (4096 * b + 64 * n + s) (64 * h + d) :=
  (slice64 n hV _ b h s d).trans (hR.b n b h s d)

/-- The chunk's arrays as arrays. -/
abbrev tq (V : Valuation τ sig (Elt Ideal)) : FVec Ideal S8x4x64x64 .f32 := res_main_while0b_v37 V
abbrev tk (V : Valuation τ sig (Elt Ideal)) : FVec Ideal S8x4x64x64 .f32 := res_main_while0b_v38 V
abbrev tv (V : Valuation τ sig (Elt Ideal)) : FVec Ideal S8x4x64x128 .f32 := res_main_while0b_v39 V
abbrev tb (V : Valuation τ sig (Elt Ideal)) : FVec Ideal S8x4x64x64 .f32 := res_main_while0b_v40 V
abbrev tm (V : Valuation τ sig (Elt Ideal)) : FVec Ideal S8x4x1x64 .f32 := res_main_while0b_v42 V
abbrev te (V : Valuation τ sig (Elt Ideal)) : FVec Ideal S8x4x1x64 .f32 := res_main_while0b_v41 V

/-- One trip's state. -/
def stateTerm (V : Valuation τ sig (Elt Ideal)) : FVec Ideal S8x4x64x128 .f32 :=
  addf (mulf (broadcastInDim S8x4x64x128 ![0, 1, 2, 3] bcast_S8x4x64x1_S8x4x64x128_0_1_2_3 (broadcastInDim S8x4x64x1 ![0, 1, 2] bcast_S8x4x64_S8x4x64x1_0_1_2 (Host.exp (shapeCast S8x4x64 (te V) shapeCasts_S8x4x1x64_S8x4x64)))) (vs V)) (Host.dotGeneral dot_S8x4x64x64_S8x4x64x128_S8x4x64x128_2_2_3_3_01_01 none (mulf (tk V) (Host.exp (subf (broadcastInDim S8x4x64x64 ![0, 1, 2, 3] bcast_S8x4x1x64_S8x4x64x64_0_1_2_3 (te V)) (tb V)))) (tv V))

theorem state_term (b : Fin 8) (h : Fin 4) (d : Fin 64) (e : Fin 128) :
    (step_main_v33_6 V : FVec Ideal S8x4x64x128 .f32) (ix4 b h d e)
      = Ideal.exp (cb V b h 63 d) * cs V b h d e + ∑ s : Fin 64, ck V b h s d * Ideal.exp (cb V b h 63 d - cb V b h s d) * cv V b h s e := by
  change stateTerm V (ix4 b h d e) = _
  pointwise [stateTerm, res_main_while0b_v41]

/-- One trip's new state. -/
theorem state_step (hR : Reads P B V) (n : Fin 64) (hV : vn V = fun _ => BitVec.ofNat 32 n) (S : Fin 8 → ℕ → ℕ → EReal)
    (hS : ∀ (b : Fin 8) (h : Fin 4) (d : Fin 64) (e : Fin 128), cs V b h d e = S b e (64 * h + d)) (b : Fin 8) (h : Fin 4) (d : Fin 64) (e : Fin 128) :
    (step_main_v33_6 V : FVec Ideal S8x4x64x128 .f32) (ix4 b h d e) = stc P B (4096 * b + 64 * n) (S b) e (64 * h + d) := by
  have hd := d.isLt
  rw [state_term]
  simp only [b_at hR n hV, k_at hR n hV, v_at hR n hV, hS]
  unfold stc
  rw [show (64 * h.val + d.val) / 64 = h.val by omega, ← Fin.sum_univ_eq_sum_range (fun s => P (4096 * b + 64 * n + s) (512 + 128 * h + e) * (P (4096 * b + 64 * n + s) (256 + (64 * h + d)) * Ideal.exp (B (4096 * b + 64 * n + 63) (64 * h + d) - B (4096 * b + 64 * n + s) (64 * h + d))))]
  refine congrArg₂ (HAdd.hAdd (α := EReal) (β := EReal)) (mul_comm _ _) (Finset.sum_congr rfl fun s _ => ?_)
  rw [mul_comm, Nat.add_assoc 512]
  rfl

/-- What one trip adds to the output, entry by entry. -/
def row (V : Valuation τ sig (Elt Ideal)) (b : Fin 8) (h : Fin 4) (i : Fin 64) (e : Fin 128) : EReal :=
  (∑ d : Fin 64, cq V b h i d * Ideal.exp (cb V b h i d) * cs V b h d e)
    + ∑ s : Fin 64, Scalar.select (vm V (ix2 i s)) ((∑ d : Fin 64, cq V b h i d * Ideal.exp (cb V b h i d - cb V b h 31 d) * (ck V b h s d * Ideal.exp (cb V b h 31 d - cb V b h s d))) * cv V b h s e) 0

/-- One trip's output block. -/
def blockTerm (V : Valuation τ sig (Elt Ideal)) : FVec Ideal S1x8x4x64x128 .f32 :=
  (broadcastInDim S1x8x4x64x128 ![1, 2, 3, 4] bcast_S8x4x64x128_S1x8x4x64x128_1_2_3_4 (addf (Host.dotGeneral dot_S8x4x64x64_S8x4x64x128_S8x4x64x128_3_2_2_3_01_01 none (mulf (tq V) (Host.exp (tb V))) (vs V)) (Host.dotGeneral (φ₁ := .f32) dot_S8x4x64x64_S8x4x64x128_S8x4x64x128_3_2_2_3_01_01 none (select (broadcastInDim S8x4x64x64 ![2, 3] bcast_S64x64_S8x4x64x64_2_3 (vm V)) (Host.dotGeneral dot_S8x4x64x64_S8x4x64x64_S8x4x64x64_3_3_2_2_01_01 none (mulf (tq V) (Host.exp (subf (tb V) (broadcastInDim S8x4x64x64 ![0, 1, 2, 3] bcast_S8x4x1x64_S8x4x64x64_0_1_2_3 (tm V))))) (mulf (tk V) (Host.exp (subf (broadcastInDim S8x4x64x64 ![0, 1, 2, 3] bcast_S8x4x1x64_S8x4x64x64_0_1_2_3 (tm V)) (tb V))))) (broadcastInDim S8x4x64x64 ![] bcast_S_S8x4x64x64 (constant S_ .f32 0x00000000#32))) (tv V))))

theorem block_at (b : Fin 8) (h : Fin 4) (i : Fin 64) (e : Fin 128) : blockTerm V (ix5 0 b h i e) = row V b h i e := by
  unfold row
  pointwise [blockTerm, res_main_while0b_v42]

theorem step_out_eq (n : Fin 64) (hV : vn V = fun _ => BitVec.ofNat 32 n) :
    (step_main_v33_7 V : FVec Ideal S64x8x4x64x128 .f32) = updateSlice (vo V) (blockTerm V) ![n.val, 0, 0, 0, 0] (fits128 n n.isLt) := by
  refine (show (step_main_v33_7 V : FVec Ideal S64x8x4x64x128 .f32) = Host.dynamicUpdateSlice (vo V) (blockTerm V) _ updateFits_S64x8x4x64x128_S1x8x4x64x128 from rfl).trans
    (Host.dynamicUpdateSlice_eq_updateSlice _ _ _ _ _ (fun a => ?_) _)
  rw [start_eq n n.isLt V hV]
  match a with
  | ⟨0, _⟩ => change (min (max (n.val : ℤ) 0) ((64 - 1 : ℕ) : ℤ)).toNat = n.val; have := n.isLt; omega
  | ⟨1, _⟩ => rfl
  | ⟨2, _⟩ => rfl
  | ⟨3, _⟩ => rfl
  | ⟨4, _⟩ => rfl

theorem upd_at (n : Fin 64) (x : FVec Ideal S64x8x4x64x128 .f32) (u : FVec Ideal S1x8x4x64x128 .f32) (n' : Fin 64) (b : Fin 8) (h : Fin 4) (i : Fin 64) (e : Fin 128) :
    updateSlice x u ![n.val, 0, 0, 0, 0] (fits128 n n.isLt) (ix5 n' b h i e) = if n' = n then u (ix5 0 b h i e) else x (ix5 n' b h i e) := by
  have hb := b.isLt
  have hh := h.isLt
  have hi := i.isLt
  have he := e.isLt
  by_cases hn : n' = n
  · subst hn
    rw [if_pos rfl]
    unfold updateSlice
    refine (dif_pos (fun a => ?_)).trans (congrArg u (funext fun a => Fin.ext ?_))
    · match a with
      | ⟨0, _⟩ => exact ⟨Nat.le_refl n'.val, Nat.lt_succ_self n'.val⟩
      | ⟨1, _⟩ => exact ⟨Nat.zero_le _, by change b.val < 0 + 8; omega⟩
      | ⟨2, _⟩ => exact ⟨Nat.zero_le _, by change h.val < 0 + 4; omega⟩
      | ⟨3, _⟩ => exact ⟨Nat.zero_le _, by change i.val < 0 + 64; omega⟩
      | ⟨4, _⟩ => exact ⟨Nat.zero_le _, by change e.val < 0 + 128; omega⟩
    · match a with
      | ⟨0, _⟩ => exact Nat.sub_self n'.val
      | ⟨1, _⟩ => rfl
      | ⟨2, _⟩ => rfl
      | ⟨3, _⟩ => rfl
      | ⟨4, _⟩ => rfl
  · rw [if_neg hn]
    unfold updateSlice
    refine dif_neg fun H => hn (Fin.ext ?_)
    have h0 : n.val ≤ n'.val ∧ n'.val < n.val + 1 := H 0
    omega

theorem row_at (hR : Reads P B V) (n : Fin 64) (hV : vn V = fun _ => BitVec.ofNat 32 n) (S : Fin 8 → ℕ → ℕ → EReal)
    (hS : ∀ (b : Fin 8) (h : Fin 4) (d : Fin 64) (e : Fin 128), cs V b h d e = S b e (64 * h + d)) (b : Fin 8) (h : Fin 4) (i : Fin 64) (e : Fin 128) :
    row V b h i e = outc P B (4096 * b + 64 * n) (S b) i (128 * h + e) := by
  have he := e.isLt
  unfold row
  simp only [b_at hR n hV, k_at hR n hV, v_at hR n hV, q_at hR n hV, hS, hR.m]
  unfold outc score
  rw [show (128 * h.val + e.val) / 128 = h.val by omega, show (128 * h.val + e.val) % 128 = e.val by omega]
  simp only [← Fin.sum_univ_eq_sum_range]
  refine congrArg₂ (HAdd.hAdd (α := EReal) (β := EReal)) rfl (Finset.sum_congr rfl fun s _ => ?_)
  by_cases hs : s ≤ i
  · rw [if_pos hs, if_pos (Fin.le_def.mp hs)]; rfl
  · rw [if_neg hs, if_neg (fun x => hs (Fin.le_def.mpr x)), zero_mul]; rfl

/-- One trip's row of the output. -/
theorem out_step (hR : Reads P B V) (n : Fin 64) (hV : vn V = fun _ => BitVec.ofNat 32 n) (S : Fin 8 → ℕ → ℕ → EReal)
    (hS : ∀ (b : Fin 8) (h : Fin 4) (d : Fin 64) (e : Fin 128), cs V b h d e = S b e (64 * h + d)) (n' : Fin 64) (b : Fin 8) (h : Fin 4) (i : Fin 64) (e : Fin 128) :
    (step_main_v33_7 V : FVec Ideal S64x8x4x64x128 .f32) (ix5 n' b h i e)
      = if n' = n then outc P B (4096 * b + 64 * n) (S b) i (128 * h + e) else vo V (ix5 n' b h i e) := by
  rw [step_out_eq n hV, upd_at, block_at, row_at hR n hV S hS]

/-- The loop after `k` trips: the constants as they were, the counter, the state and the rows written so far. -/
structure Inv (P B : ℕ → ℕ → EReal) (V : Valuation τ sig (Elt Ideal)) (k : ℕ) : Prop where
  reads : Reads P B V
  cnt : vn V = fun _ => BitVec.ofNat 32 k
  st : ∀ (b : Fin 8) (h : Fin 4) (d : Fin 64) (e : Fin 128), cs V b h d e = chain P B (4096 * b) (fun _ _ => 0) k e (64 * h + d)
  out : ∀ (n : Fin 64) (b : Fin 8) (h : Fin 4) (i : Fin 64) (e : Fin 128), n < k →
    vo V (ix5 n b h i e) = outc P B (4096 * b + 64 * n) (chain P B (4096 * b) (fun _ _ => 0) n) i (128 * h + e)

theorem inv_step (k : ℕ) (hk : k < 64) (h : Inv P B V k) : Inv P B (STEP V) (k + 1) where
  reads := {
    q := fun n b hh s d => (congrFun (STEP_main_v33_0 V) _).trans (h.reads.q n b hh s d)
    k := fun n b hh s d => (congrFun (STEP_main_v33_1 V) _).trans (h.reads.k n b hh s d)
    v := fun n b hh s d => (congrFun (STEP_main_v33_2 V) _).trans (h.reads.v n b hh s d)
    b := fun n b hh s d => (congrFun (STEP_main_v33_3 V) _).trans (h.reads.b n b hh s d)
    m := fun i s => (congrFun (STEP_main_v33_4 V) _).trans (h.reads.m i s) }
  cnt := by
    refine (STEP_main_v33_5 V).trans ?_
    change addi (vn V) (constantI S_ 32 1#32) = _
    rw [h.cnt]
    funext x
    change BitVec.ofNat 32 k + 1#32 = BitVec.ofNat 32 (k + 1)
    exact (BitVec.ofNat_add k 1).symm
  st := fun b hh d e => (congrFun (STEP_main_v33_6 V) _).trans (state_step h.reads ⟨k, hk⟩ h.cnt (fun b => chain P B (4096 * b) (fun _ _ => 0) k) h.st b hh d e)
  out := fun n b hh i e hn => by
    refine (congrFun (STEP_main_v33_7 V) _).trans ((out_step h.reads ⟨k, hk⟩ h.cnt (fun b => chain P B (4096 * b) (fun _ _ => 0) k) h.st n b hh i e).trans ?_)
    by_cases hnk : n = ⟨k, hk⟩
    · rw [if_pos hnk, hnk]
    · rw [if_neg hnk]
      exact h.out n b hh i e (by have : n.val ≠ k := fun x => hnk (Fin.ext x); omega)

theorem inv_iter (h : Inv P B V 0) : ∀ k, k ≤ 64 → Inv P B (STEP^[k] V) k
  | 0, _ => h
  | k + 1, hk => by
    rw [Function.iterate_succ_apply']
    exact inv_step k (by omega) (inv_iter h k (by omega))

/-- The result after the loop. -/
theorem out_at (h : Inv P B V 64) (r : Fin 32768) (c : Fin 512) : (out_main_v36 V : FVec Ideal S32768x512 .f32) (ix2 r c) = gla P B r c := by
  have hr := r.isLt
  have hc := c.isLt
  have A : (out_main_v36 V : FVec Ideal S32768x512 .f32) (ix2 r c)
      = vo V (ix5 (⟨r.val / 64 % 64, by omega⟩ : Fin 64) (⟨r.val / 4096, by omega⟩ : Fin 8) (⟨c.val / 128, by omega⟩ : Fin 4) (⟨r.val % 64, by omega⟩ : Fin 64) (⟨c.val % 128, by omega⟩ : Fin 128)) := by
    pointwise [out_main_v36]
  rw [A, h.out _ _ _ _ _ (by simp only; omega)]
  unfold gla
  simp only
  rw [show 4096 * (r.val / 4096) + 64 * (r.val / 64 % 64) = r.val / 64 * 64 by omega, show 4096 * (r.val / 4096) = r.val / 4096 * 4096 by omega, show 128 * (c.val / 128) + c.val % 128 = c.val by omega]

end Cert.MixGlaRefIdeal.Value
-- ==== Proof.MixGlaGate.lean ====
module

public import proofs.«01_k».proof.Proof.GlaMath
public import Idealize.ShloMosaic.Lib.Pipeline.ValueKit
public import Idealize.ShloMosaic.Lib.IdealHost

@[expose] public section

set_option maxRecDepth 16384
noncomputable section
open Idealize.ShloMosaic
namespace Cert.GlaMath
open Finset

theorem sixteen : Ideal.ofBits .f32 0x41800000#32 = ((16 : ℝ) : EReal) := by
  simp [Ideal.ofBits, Ideal.ieee, -EReal.coe_mul]; norm_num
theorem sixteenth : Ideal.ofBits .f32 0x3D800000#32 = ((16 : ℝ)⁻¹ : ℝ) := by
  simp [Ideal.ofBits, Ideal.ieee, -EReal.coe_mul]; norm_num

/-- Division by sixteen is multiplication by a sixteenth. -/
theorem div_sixteen (x : EReal) : Ideal.div x (Ideal.ofBits .f32 0x41800000#32) = x * Ideal.ofBits .f32 0x3D800000#32 := by
  rw [sixteen, sixteenth]
  unfold Ideal.div
  rw [if_neg (by norm_num), EReal.coe_inv]

theorem log_ne_bot (y : EReal) : Ideal.log (1 + Ideal.exp y) ≠ ⊥ := by
  induction y with
  | bot =>
    change Ideal.log (1 + ((0 : ℝ) : EReal)) ≠ ⊥
    change Ideal.log (((1 : ℝ) : EReal) + ((0 : ℝ) : EReal)) ≠ ⊥
    rw [← EReal.coe_add]
    change (if (1 : ℝ) + 0 ≤ 0 then (⊥ : EReal) else (Real.log (1 + 0) : EReal)) ≠ ⊥
    rw [if_neg (by norm_num)]
    exact EReal.coe_ne_bot _
  | top =>
    change Ideal.log (((1 : ℝ) : EReal) + ⊤) ≠ ⊥
    rw [EReal.coe_add_top]
    exact top_ne_bot
  | coe r =>
    change Ideal.log (((1 : ℝ) : EReal) + ((Real.exp r : ℝ) : EReal)) ≠ ⊥
    rw [← EReal.coe_add]
    change (if (1 : ℝ) + Real.exp r ≤ 0 then (⊥ : EReal) else (Real.log (1 + Real.exp r) : EReal)) ≠ ⊥
    rw [if_neg (by have := Real.exp_pos r; linarith)]
    exact EReal.coe_ne_bot _

/-- The logarithm of the logistic function as minus the softplus of the opposite. -/
theorem lsig_eq (x : EReal) : -(max (-x) 0 + Ideal.log (1 + Ideal.exp (-(max (-x) (-(-x)))))) = lsig x := by
  unfold lsig
  rw [EReal.neg_add (Or.inl (fun h => by
      have : (0 : EReal) ≤ ⊥ := h ▸ le_max_right (-x) 0
      exact absurd this (by simp))) (Or.inr (log_ne_bot _)), neg_neg, zero_sub, max_comm (-x) x]
  congr 1
  have := EReal.min_neg_neg (-x) 0
  rw [neg_neg, neg_zero] at this
  exact this.symm
end Cert.GlaMath
-- ==== Proof.MixGlaRefEntry.lean ====
module

public import proofs.«01_k».proof.Proof.MixGlaRef
public import proofs.«01_k».proof.Proof.MixGlaGate

@[expose] public section

set_option maxRecDepth 16384
noncomputable section
open Idealize.ShloMosaic Idealize.ShloMosaic.TcCoe Idealize.SL.Sem Idealize.ShloMosaic.StableHlo
namespace Cert.MixGlaRefIdeal.Value
open Cert.MixGlaRefIdeal Cert.MixGlaRefIdeal.Gen Cert.GlaMath Finset

variable (m : (ℓ : Loc nD τ sig) → Buf (Elt Ideal) ℓ)

/-- The queries by chunk. -/
def qTerm (p : FVec Ideal S32768x3200 .f32) : FVec Ideal S64x8x4x64x64 .f32 :=
  transpose S64x8x4x64x64 [1, 0, 3, 2, 4] (shapeCast S8x64x64x4x64 (mulf (shapeCast S8x4096x4x64 (extractStridedSlice S8x4096x256 ![0, 0, 0] (shapeCast S8x4096x3200 p shapeCasts_S32768x3200_S8x4096x3200) slices_S8x4096x3200_S8x4096x256_0_0_0) shapeCasts_S8x4096x256_S8x4096x4x64) (broadcastInDim S8x4096x4x64 ![] bcast_S_S8x4096x4x64 (constant S_ .f32 0x3E000000#32))) shapeCasts_S8x4096x4x64_S8x64x64x4x64) transposes_S8x64x64x4x64_S64x8x4x64x64_1_0_3_2_4
/-- The keys by chunk. -/
def kTerm (p : FVec Ideal S32768x3200 .f32) : FVec Ideal S64x8x4x64x64 .f32 :=
  transpose S64x8x4x64x64 [1, 0, 3, 2, 4] (shapeCast S8x64x64x4x64 (shapeCast S8x4096x4x64 (extractStridedSlice S8x4096x256 ![0, 0, 256] (shapeCast S8x4096x3200 p shapeCasts_S32768x3200_S8x4096x3200) slices_S8x4096x3200_S8x4096x256_0_0_256) shapeCasts_S8x4096x256_S8x4096x4x64) shapeCasts_S8x4096x4x64_S8x64x64x4x64) transposes_S8x64x64x4x64_S64x8x4x64x64_1_0_3_2_4
/-- The values by chunk. -/
def vTerm (p : FVec Ideal S32768x3200 .f32) : FVec Ideal S64x8x4x64x128 .f32 :=
  transpose S64x8x4x64x128 [1, 0, 3, 2, 4] (shapeCast S8x64x64x4x128 (shapeCast S8x4096x4x128 (extractStridedSlice S8x4096x512 ![0, 0, 512] (shapeCast S8x4096x3200 p shapeCasts_S32768x3200_S8x4096x3200) slices_S8x4096x3200_S8x4096x512_0_0_512) shapeCasts_S8x4096x512_S8x4096x4x128) shapeCasts_S8x4096x4x128_S8x64x64x4x128) transposes_S8x64x64x4x128_S64x8x4x64x128_1_0_3_2_4
/-- The gates' arguments. -/
def aTerm (p : FVec Ideal S32768x3200 .f32) (w : FVec Ideal S128x256 .bf16) (b : FVec Ideal S1x256 .f32) : FVec Ideal S8x4096x256 .f32 :=
  addf (Host.dotGeneral dot_S8x4096x128_S128x256_S8x4096x256_2_0_01_1_n_n none (extractStridedSlice S8x4096x128 ![0, 0, 3072] (shapeCast S8x4096x3200 p shapeCasts_S32768x3200_S8x4096x3200) slices_S8x4096x3200_S8x4096x128_0_0_3072) (extf .f32 w bitsLt_bf16_f32)) (broadcastInDim S8x4096x256 ![0, 1, 2] bcast_S1x1x256_S8x4096x256_0_1_2 (broadcastInDim S1x1x256 ![2] bcast_S256_S1x1x256_2 (shapeCast S256 b shapeCasts_S1x256_S256)))
/-- Zero, spread. -/
def zTerm : FVec Ideal S8x4096x256 .f32 := broadcastInDim S8x4096x256 ![] bcast_S_S8x4096x256 (constant S_ .f32 0x00000000#32)
/-- The softplus. -/
def spTerm (x : FVec Ideal S8x4096x256 .f32) : FVec Ideal S8x4096x256 .f32 :=
  select (cmpf .une (subf x zTerm) (subf x zTerm)) (addf x zTerm) (addf (maximumf x zTerm) (Host.log1p (Host.exp (Host.negf (Host.absf (subf x zTerm))))))
/-- The gates by chunk. -/
def gTerm (a : FVec Ideal S8x4096x256 .f32) : FVec Ideal S64x8x4x64x64 .f32 :=
  transpose S64x8x4x64x64 [1, 0, 3, 2, 4] (shapeCast S8x64x64x4x64 (shapeCast S8x4096x4x64 (Host.divf (Host.negf (spTerm (Host.negf a))) (broadcastInDim S8x4096x256 ![] bcast_S_S8x4096x256 (constant S_ .f32 0x41800000#32))) shapeCasts_S8x4096x256_S8x4096x4x64) shapeCasts_S8x4096x4x64_S8x64x64x4x64) transposes_S8x64x64x4x64_S64x8x4x64x64_1_0_3_2_4
/-- The running sums by chunk. -/
def bTerm (g : FVec Ideal S64x8x4x64x64 .f32) : FVec Ideal S64x8x4x64x64 .f32 :=
  Host.reduceWindowAdd ![1, 1, 1, 64, 1] ![1, 1, 1, 1, 1] ![0, 0, 0, 63, 0] ![0, 0, 0, 0, 0] g (broadcastInDim S_ ![] bcast_S_S_ (constant S_ .f32 0x00000000#32)) reduceWindows_S64x8x4x64x64_S64x8x4x64x64_w1s1p0_0_w1s1p0_0_w1s1p0_0_w64s1p63_0_w1s1p0_0 h_S_
/-- The mask. -/
def mTerm : IVec S64x64 1 :=
  select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))

abbrev aP (c : Dev nD) : FVec Ideal S32768x3200 .f32 := m ((c.tc : Thread nD τ).loc main_arg0)
abbrev aW (c : Dev nD) : FVec Ideal S128x256 .bf16 := m ((c.tc : Thread nD τ).loc main_arg1)
abbrev aC (c : Dev nD) : FVec Ideal S1x256 .f32 := m ((c.tc : Thread nD τ).loc main_arg2)

theorem entry_q (c : Dev nD) : vq (entryContents preI m c) = qTerm (aP m c) := by
  unfold vq
  simp only [entryContents, afterL_cons, afterL_nil]
  after_results
  rfl
theorem entry_k (c : Dev nD) : vk (entryContents preI m c) = kTerm (aP m c) := by
  unfold vk
  simp only [entryContents, afterL_cons, afterL_nil]
  after_results
  rfl
theorem entry_v (c : Dev nD) : vv (entryContents preI m c) = vTerm (aP m c) := by
  unfold vv
  simp only [entryContents, afterL_cons, afterL_nil]
  after_results
  rfl
theorem entry_b (c : Dev nD) : vb (entryContents preI m c) = bTerm (gTerm (aTerm (aP m c) (aW m c) (aC m c))) := by
  unfold vb
  simp only [entryContents, afterL_cons, afterL_nil]
  after_results
  rfl
theorem entry_m (c : Dev nD) : vm (entryContents preI m c) = mTerm := by
  unfold vm
  simp only [entryContents, afterL_cons, afterL_nil]
  after_results
  rfl
theorem entry_s (c : Dev nD) : vs (entryContents preI m c) = broadcastInDim S8x4x64x128 ![] bcast_S_S8x4x64x128 (constant S_ .f32 0x00000000#32) := by
  unfold vs
  simp only [entryContents, afterL_cons, afterL_nil]
  after_results
  rfl

section Readings
variable (p : FVec Ideal S32768x3200 .f32) (w : FVec Ideal S128x256 .bf16) (cc : FVec Ideal S1x256 .f32)

theorem q_read (n : Fin 64) (b : Fin 8) (h : Fin 4) (s d : Fin 64) : qTerm p (ix5 n b h s d) = rd p (4096 * b + 64 * n + s) (64 * h + d) * Ideal.ofBits .f32 0x3E000000#32 := by
  have A : qTerm p (ix5 n b h s d) = p (ix2 ⟨b * 4096 + (n * 64 + s), by omega⟩ ⟨h * 64 + d, by omega⟩) * Ideal.ofBits .f32 0x3E000000#32 := by
    pointwise [qTerm]
  rw [A, rd_of p]
  simp only [show b.val * 4096 + (n.val * 64 + s.val) = 4096 * b.val + 64 * n.val + s.val by omega, show h.val * 64 + d.val = 64 * h.val + d.val by omega]
theorem k_read (n : Fin 64) (b : Fin 8) (h : Fin 4) (s d : Fin 64) : kTerm p (ix5 n b h s d) = rd p (4096 * b + 64 * n + s) (256 + (64 * h + d)) := by
  have A : kTerm p (ix5 n b h s d) = p (ix2 ⟨b * 4096 + (n * 64 + s), by omega⟩ ⟨256 + (h * 64 + d), by omega⟩) := by
    pointwise [kTerm]
  rw [A, rd_of p]
  simp only [show b.val * 4096 + (n.val * 64 + s.val) = 4096 * b.val + 64 * n.val + s.val by omega, show h.val * 64 + d.val = 64 * h.val + d.val by omega]
theorem v_read (n : Fin 64) (b : Fin 8) (h : Fin 4) (s : Fin 64) (e : Fin 128) : vTerm p (ix5 n b h s e) = rd p (4096 * b + 64 * n + s) (512 + (128 * h + e)) := by
  have A : vTerm p (ix5 n b h s e) = p (ix2 ⟨b * 4096 + (n * 64 + s), by omega⟩ ⟨512 + (h * 128 + e), by omega⟩) := by
    pointwise [vTerm]
  rw [A, rd_of p]
  simp only [show b.val * 4096 + (n.val * 64 + s.val) = 4096 * b.val + 64 * n.val + s.val by omega, show h.val * 128 + e.val = 128 * h.val + e.val by omega]
theorem m_read : ∀ i s : Fin 64, mTerm (ix2 i s) = if s ≤ i then 1#1 else 0#1 := by decide +kernel

theorem sp_read (x : FVec Ideal S8x4096x256 .f32) (b : Fin 8) (t : Fin 4096) (j : Fin 256) :
    spTerm x (ix3 b t j) = max (x (ix3 b t j)) 0 + Ideal.log (1 + Ideal.exp (-(max (x (ix3 b t j)) (-(x (ix3 b t j)))))) := by
  have e0 : (zTerm (ix3 b t j) : EReal) = 0 := by pointwise [zTerm]
  have e1 : ∀ y : EReal, FloatOps.cmpf (F := Ideal) (φ := .f32) .une y y = 0#1 := fun y => by
    change BitVec.ofBool (decide (y ≠ y)) = 0#1
    simp
  change Scalar.select (FloatOps.cmpf (F := Ideal) (φ := .f32) .une (x (ix3 b t j) - zTerm (ix3 b t j)) (x (ix3 b t j) - zTerm (ix3 b t j))) _
    (max (x (ix3 b t j)) (zTerm (ix3 b t j)) + Ideal.log (1 + Ideal.exp (-(max (x (ix3 b t j) - zTerm (ix3 b t j)) (-(x (ix3 b t j) - zTerm (ix3 b t j))))))) = _
  rw [e1, e0, sub_zero]
  rfl

theorem g_read (a : FVec Ideal S8x4096x256 .f32) (n : Fin 64) (b : Fin 8) (h : Fin 4) (s d : Fin 64) :
    gTerm a (ix5 n b h s d) = lsig (a (ix3 b ⟨n * 64 + s, by omega⟩ ⟨h * 64 + d, by omega⟩)) * Ideal.ofBits .f32 0x3D800000#32 := by
  have A : gTerm a (ix5 n b h s d) = Ideal.div (-(spTerm (Host.negf a) (ix3 b ⟨n * 64 + s, by omega⟩ ⟨h * 64 + d, by omega⟩))) (Ideal.ofBits .f32 0x41800000#32) := by
    pointwise [gTerm]
  rw [A, sp_read, div_sixteen]
  exact congrArg (· * Ideal.ofBits .f32 0x3D800000#32) (lsig_eq _)

theorem a_read (b : Fin 8) (t : Fin 4096) (j : Fin 256) :
    aTerm p w cc (ix3 b t j) = ∑ l ∈ range 128, rd p (4096 * b + t) (3072 + l) * rd w l j + rd cc 0 j := by
  have A : aTerm p w cc (ix3 b t j) = ∑ l : Fin 128, p (ix2 ⟨b * 4096 + t, by omega⟩ ⟨3072 + l, by omega⟩) * w (ix2 l j) + cc (ix2 0 j) := by
    pointwise [aTerm]
  rw [A, ← Fin.sum_univ_eq_sum_range (fun l => rd p (4096 * b + t) (3072 + l) * rd w l j)]
  simp only [rd_of, Nat.mul_comm b.val]
  rfl

theorem foldl_sum {α : Type} (f : α → EReal) : ∀ (l : List α) (z : EReal), l.foldl (fun r n => r + f n) z = z + (l.map f).sum
  | [], z => by simp
  | a :: l, z => by rw [List.foldl_cons, foldl_sum f l, List.map_cons, List.sum_cons, add_assoc]

/-- A window sum from zero is a sum over the window's positions. -/
theorem window_sum {s t : Shape} (window strides lo hi : Fin s.rank → ℕ) (h : s.ReduceWindows window strides lo hi t) (x : s.Idx → EReal) (j : t.Idx) :
    Ideal.hostReduceWindowAdd window strides lo hi h x 0 j
      = ∑ y : (⟨s.rank, window⟩ : Shape).Idx, (if hin : ∀ a, lo a ≤ (j (a.cast h.1.symm)).val * strides a + (y a).val ∧ (j (a.cast h.1.symm)).val * strides a + (y a).val - lo a < s.size a then
          x (fun a => ⟨(j (a.cast h.1.symm)).val * strides a + (y a).val - lo a, (hin a).2⟩) else 0) := by
  unfold Ideal.hostReduceWindowAdd Host.reduceWindow
  dsimp only
  rw [foldl_sum, zero_add, ← Fin.sum_univ_def]
  refine (Finset.sum_congr rfl fun n _ => ?_).trans (Equiv.sum_comp (⟨s.rank, window⟩ : Shape).rowMajor.symm _)
  split_ifs <;> rfl

/-- A sum of a sequence delayed by 63 places keeps its first terms. -/
theorem shifted_sum (g : ℕ → EReal) (s : ℕ) (hs : s < 64) : (∑ k ∈ range 64, if 63 ≤ s + k then g (s + k - 63) else 0) = ∑ i ∈ range (s + 1), g i := by
  rw [show 64 = (63 - s) + (s + 1) by omega, sum_range_add, sum_eq_zero (fun k hk => if_neg (by rw [mem_range] at hk; omega)), zero_add]
  refine sum_congr rfl fun i _ => ?_
  rw [if_pos (by omega)]
  congr 1
  omega

/-- The running sum along the rows of a chunk. -/
theorem b_window (x : FVec Ideal S64x8x4x64x64 .f32) (n : Fin 64) (b : Fin 8) (h : Fin 4) (s d : Fin 64) (g : ℕ → EReal) (hg : ∀ i : Fin 64, x (ix5 n b h i d) = g i) :
    bTerm x (ix5 n b h s d) = ∑ i ∈ range (s + 1), g i := by
  let W : Shape := ⟨5, ![1, 1, 1, 64, 1]⟩
  have hs := s.isLt
  have z0 : (broadcastInDim S_ ![] bcast_S_S_ (constant (F := Ideal) S_ .f32 0x00000000#32)) (Shape.Idx.first h_S_) = (0 : EReal) := by
    change Ideal.ofBits .f32 0x00000000#32 = 0
    exact Ideal.ofBits_zero_f32
  unfold bTerm Host.reduceWindowAdd
  rw [z0]
  refine (window_sum _ _ _ _ reduceWindows_S64x8x4x64x64_S64x8x4x64x64_w1s1p0_0_w1s1p0_0_w1s1p0_0_w64s1p63_0_w1s1p0_0 x (ix5 n b h s d)).trans ?_
  let e : Fin 64 ≃ W.Idx :=
    { toFun := fun k => (ix5 (0 : Fin 1) (0 : Fin 1) (0 : Fin 1) k (0 : Fin 1))
      invFun := fun y => y 3
      left_inv := fun k => rfl
      right_inv := fun y => by
        funext a
        match a with
        | ⟨0, _⟩ => exact Subsingleton.elim (α := Fin 1) _ _
        | ⟨1, _⟩ => exact Subsingleton.elim (α := Fin 1) _ _
        | ⟨2, _⟩ => exact Subsingleton.elim (α := Fin 1) _ _
        | ⟨3, _⟩ => rfl
        | ⟨4, _⟩ => exact Subsingleton.elim (α := Fin 1) _ _ }
  refine (Equiv.sum_comp e _).symm.trans ?_
  refine (Finset.sum_congr (g := fun k : Fin 64 => if 63 ≤ s.val + k.val then g (s.val + k.val - 63) else 0) rfl fun k _ => ?_).trans ?_
  · have hk := k.isLt
    by_cases H : 63 ≤ s.val + k.val
    · rw [if_pos H, ← hg ⟨s.val + k.val - 63, by omega⟩]
      refine (dif_pos (fun a => ?_)).trans (congrArg x (funext fun a => Fin.ext ?_))
      · match a with
        | ⟨0, _⟩ => exact ⟨Nat.zero_le _, by change n.val * 1 + 0 - 0 < 64; omega⟩
        | ⟨1, _⟩ => exact ⟨Nat.zero_le _, by change b.val * 1 + 0 - 0 < 8; omega⟩
        | ⟨2, _⟩ => exact ⟨Nat.zero_le _, by change h.val * 1 + 0 - 0 < 4; omega⟩
        | ⟨3, _⟩ => exact ⟨by change 63 ≤ s.val * 1 + k.val; omega, by change s.val * 1 + k.val - 63 < 64; omega⟩
        | ⟨4, _⟩ => exact ⟨Nat.zero_le _, by change d.val * 1 + 0 - 0 < 64; omega⟩
      · match a with
        | ⟨0, _⟩ => change n.val * 1 + 0 - 0 = n.val; omega
        | ⟨1, _⟩ => change b.val * 1 + 0 - 0 = b.val; omega
        | ⟨2, _⟩ => change h.val * 1 + 0 - 0 = h.val; omega
        | ⟨3, _⟩ => change s.val * 1 + k.val - 63 = s.val + k.val - 63; omega
        | ⟨4, _⟩ => change d.val * 1 + 0 - 0 = d.val; omega
    · rw [if_neg H]
      refine dif_neg fun hin => H ?_
      have h3 : 63 ≤ s.val * 1 + k.val := (hin 3).1
      omega
  exact (Fin.sum_univ_eq_sum_range (fun k => if 63 ≤ s.val + k then g (s.val + k - 63) else 0) 64).trans (shifted_sum g s.val hs)

theorem b_read (n : Fin 64) (b : Fin 8) (h : Fin 4) (s d : Fin 64) :
    bTerm (gTerm (aTerm p w cc)) (ix5 n b h s d) = sums (rd p) (rd w) (rd cc) (4096 * b + 64 * n + s) (64 * h + d) := by
  have hs := s.isLt
  rw [b_window _ n b h s d (fun i => gate (fun a l => rd p a (3072 + l)) (rd w) (rd cc) (4096 * b + 64 * n + i) (64 * h + d)) (fun i => by
    rw [g_read, a_read]
    unfold gate
    simp only [show 4096 * b.val + (n.val * 64 + i.val) = 4096 * b.val + 64 * n.val + i.val by omega, show h.val * 64 + d.val = 64 * h.val + d.val by omega])]
  unfold sums cum
  rw [show (4096 * b.val + 64 * n.val + s.val) % 64 = s.val by omega, show 4096 * b.val + 64 * n.val + s.val - s.val = 4096 * b.val + 64 * n.val by omega]
end Readings

/-- The loop's entry. -/
theorem inv_entry (c : Dev nD) : Inv (rd (aP m c)) (sums (rd (aP m c)) (rd (aW m c)) (rd (aC m c))) (entryContents preI m c) 0 where
  reads := {
    q := fun n b h s d => by rw [entry_q]; exact q_read _ n b h s d
    k := fun n b h s d => by rw [entry_k]; exact k_read _ n b h s d
    v := fun n b h s e => by rw [entry_v]; exact v_read _ n b h s e
    b := fun n b h s d => by rw [entry_b]; exact b_read _ _ _ n b h s d
    m := fun i s => by rw [entry_m]; exact m_read i s }
  cnt := ctr_entry m c
  st := fun b h d e => by
    unfold cs
    rw [entry_s]
    change Ideal.ofBits .f32 0x00000000#32 = 0
    exact Ideal.ofBits_zero_f32
  out := fun n b h i e hn => absurd hn (Nat.not_lt_zero _)

/-- The reference's result as one function of the arguments. -/
theorem ref_gla (c : Dev nD) (r : Fin 32768) (cc : Fin 512) :
    (out_main_v36 (STEP^[64] (entryContents preI m c)) : FVec Ideal S32768x512 .f32) (ix2 r cc)
      = gla (rd (aP m c)) (sums (rd (aP m c)) (rd (aW m c)) (rd (aC m c))) r cc :=
  out_at (inv_iter (inv_entry m c) 64 le_rfl) r cc

end Cert.MixGlaRefIdeal.Value
-- ==== Proof.MixGlaEq.lean ====
module

public import proofs.«01_k».proof.Proof.MixGlaBlocks
public import proofs.«01_k».proof.Proof.MixGlaRefEntry

@[expose] public section

noncomputable section

/-! The kernel's gated linear attention and the reference's are the same array. -/

open Idealize.ShloMosaic Idealize.ShloMosaic.TcCoe Idealize.SL.Sem Idealize.ShloMosaic.StableHlo
namespace Cert.MixGlaEq
open Cert.GlaMath Cert.MixGlaRefIdeal.Value Cert.MixGlaRefIdeal.Gen

/-- From the same arguments the reference's loop leaves the array the kernel leaves. -/
theorem res (m : (ℓ : Loc Cert.MixGlaIdeal.nD Cert.MixGlaIdeal.τ Cert.MixGlaIdeal.sig) → Buf (Elt Ideal) ℓ)
    (m' : (ℓ : Loc Cert.MixGlaRefIdeal.nD Cert.MixGlaRefIdeal.τ Cert.MixGlaRefIdeal.sig) → Buf (Elt Ideal) ℓ) (c : Dev Cert.MixGlaIdeal.nD)
    (h : m' ((c.tc : Thread Cert.MixGlaRefIdeal.nD Cert.MixGlaRefIdeal.τ).loc Cert.MixGlaRefIdeal.main_arg0) = m ((c.tc : Thread Cert.MixGlaIdeal.nD Cert.MixGlaIdeal.τ).loc Cert.MixGlaIdeal.main_arg0)
      ∧ m' ((c.tc : Thread Cert.MixGlaRefIdeal.nD Cert.MixGlaRefIdeal.τ).loc Cert.MixGlaRefIdeal.main_arg1) = m ((c.tc : Thread Cert.MixGlaIdeal.nD Cert.MixGlaIdeal.τ).loc Cert.MixGlaIdeal.main_arg1)
      ∧ m' ((c.tc : Thread Cert.MixGlaRefIdeal.nD Cert.MixGlaRefIdeal.τ).loc Cert.MixGlaRefIdeal.main_arg2) = m ((c.tc : Thread Cert.MixGlaIdeal.nD Cert.MixGlaIdeal.τ).loc Cert.MixGlaIdeal.main_arg2)) :
    (out_main_v36 (STEP^[64] (entryContents preI m' c)) : FVec Ideal Cert.MixGlaRefIdeal.S32768x512 .f32) = Cert.MixGlaIdeal.Value.Gla m c := by
  funext i
  obtain ⟨r, j, rfl⟩ : ∃ (r : Fin 32768) (j : Fin 512), i = ix2 r j := ⟨i 0, i 1, by funext a; fin_cases a <;> rfl⟩
  refine (ref_gla m' c r j).trans ?_
  have e0 : aP m' c = (m ((c.tc : Thread Cert.MixGlaIdeal.nD Cert.MixGlaIdeal.τ).loc Cert.MixGlaIdeal.main_arg0) : FVec Ideal Cert.MixGlaRefIdeal.S32768x3200 .f32) := h.1
  have e1 : aW m' c = (m ((c.tc : Thread Cert.MixGlaIdeal.nD Cert.MixGlaIdeal.τ).loc Cert.MixGlaIdeal.main_arg1) : FVec Ideal Cert.MixGlaRefIdeal.S128x256 .bf16) := h.2.1
  have e2 : aC m' c = (m ((c.tc : Thread Cert.MixGlaIdeal.nD Cert.MixGlaIdeal.τ).loc Cert.MixGlaIdeal.main_arg2) : FVec Ideal Cert.MixGlaRefIdeal.S1x256 .f32) := h.2.2
  rw [e0, e1, e2]
  rfl

end Cert.MixGlaEq

end
-- ==== Proof.lean ====
module

public import proofs.«01_k».proof.Defs
public import proofs.«01_k».proof.Proof.Gen.FfnProj
public import proofs.«01_k».proof.Proof.Gen.FfnProj.Skeleton
public import proofs.«01_k».proof.Proof.Gen.FfnProj.Launch
public import proofs.«01_k».proof.Proof.Gen.FfnProj.Points
public import proofs.«01_k».proof.Proof.Gen.FfnProj.Frame
public import proofs.«01_k».proof.Proof.Gen.FfnProjIdeal
public import proofs.«01_k».proof.Proof.Gen.FfnProjIdeal.Skeleton
public import proofs.«01_k».proof.Proof.Gen.FfnProjIdeal.Launch
public import proofs.«01_k».proof.Proof.Gen.FfnProjIdeal.Points
public import proofs.«01_k».proof.Proof.Gen.FfnProjIdeal.Frame
public import proofs.«01_k».proof.Proof.Gen.FfnProjRefIdeal
public import proofs.«01_k».proof.Proof.Gen.Pre_finite2
public import proofs.«01_k».proof.Proof.Gen.FfnProjIdeal.Value
public import proofs.«01_k».proof.Proof.Gen.FfnProjRefIdeal.Run
public import proofs.«01_k».proof.Proof.FfnProjEq
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixTail
public import proofs.«01_k».proof.Proof.Gen.MixTail.Skeleton
public import proofs.«01_k».proof.Proof.Gen.MixTail.Launch
public import proofs.«01_k».proof.Proof.Gen.MixTail.Points
public import proofs.«01_k».proof.Proof.Gen.MixTail.Frame
public import proofs.«01_k».proof.Proof.Gen.MixTailIdeal
public import proofs.«01_k».proof.Proof.Gen.MixTailIdeal.Skeleton
public import proofs.«01_k».proof.Proof.Gen.MixTailIdeal.Launch
public import proofs.«01_k».proof.Proof.Gen.MixTailIdeal.Points
public import proofs.«01_k».proof.Proof.Gen.MixTailIdeal.Frame
public import proofs.«01_k».proof.Proof.Gen.MixTailRefIdeal
public import proofs.«01_k».proof.Proof.Gen.MixTailRefIdeal.Run
public import proofs.«01_k».proof.Proof.Gen.Pre_finite3
public import proofs.«01_k».proof.Proof.MixFrame
public import proofs.«01_k».proof.Proof.MixIdealFrame
public import proofs.«01_k».proof.Proof.MixTailFrame
public import proofs.«01_k».proof.Proof.MixTailIdealFrame
public import proofs.«01_k».proof.Proof.MixTailEq
public import proofs.«01_k».proof.Proof.MixGlaEq
public import proofs.«01_k».proof.Proof.Gen.MixGla
public import proofs.«01_k».proof.Proof.Gen.MixGla.Skeleton
public import proofs.«01_k».proof.Proof.Gen.MixGla.Launch
public import proofs.«01_k».proof.Proof.Gen.MixGla.Points
public import proofs.«01_k».proof.Proof.Gen.MixGla.Frame
public import proofs.«01_k».proof.Proof.Gen.MixGlaIdeal
public import proofs.«01_k».proof.Proof.Gen.MixGlaIdeal.Skeleton
public import proofs.«01_k».proof.Proof.Gen.MixGlaIdeal.Launch
public import proofs.«01_k».proof.Proof.Gen.MixGlaIdeal.Points
public import proofs.«01_k».proof.Proof.Gen.MixGlaIdeal.Frame
public import proofs.«01_k».proof.Proof.Gen.MixGlaIdeal.Value
public import proofs.«01_k».proof.Proof.Gen.MixGlaRefIdeal
public import proofs.«01_k».proof.Proof.Gen.MixGlaRefIdeal.Run
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.FfnProj

/-- The kernel and its reference end with the same two results. -/
theorem algebraic_ffn : Cert.algebraic_FfnProjIdeal_FfnProjRefIdeal := by
  pair_intro
  · run_from Cert.FfnProjIdeal.Gen.run_main m g
  · run_from Cert.FfnProjRefIdeal.Value.run m' g'
    · exact (Cert.FfnProjEq.res0 m m' c (hpre c) (hagree c)).trans (Cert.FfnProjIdeal.Value.final7 m c).symm
    · exact (Cert.FfnProjEq.res1 m m' c (hpre c) (hagree c)).trans (Cert.FfnProjIdeal.Value.final8 m c).symm

/-- The tail's kernel and its reference end with the same result. -/
theorem algebraic_tail : Cert.algebraic_MixTailIdeal_MixTailRefIdeal := fun m g m' g' hpre hagree =>
  ⟨fun c => (Cert.MixTailIdeal.Body.dats m 0 c).arrAt 14 (Cert.MixTailIdeal.cfgs 0).N,
    (θ_run Cert.MixTailIdeal.defs _ _).mono (fun _ h c => ⟨(h.1.1 c).1 14, h.2.1 c⟩)
      (θ_run_and (Cert.MixTailIdeal.Body.run_all m g) (Cert.MixTailIdeal.Body.frame m g)),
    (θ_run Cert.MixTailRefIdeal.defs _ _).mono
      (fun _ h c => ⟨(h c).1.trans ((Cert.MixTailEq.res m m' c (hpre c) (hagree c)).trans (Cert.MixTailIdeal.Value.final14 m c).symm), (h c).2⟩)
      (Cert.MixTailRefIdeal.Value.run m' g')⟩

/-- The gated linear attention's kernel and its reference end with the same result. -/
theorem algebraic_gla : Cert.algebraic_MixGlaIdeal_MixGlaRefIdeal := fun m g m' g' _ hagree =>
  ⟨fun c => (Cert.MixGlaIdeal.Gen.dats m 0 c).arrAt 3 (Cert.MixGlaIdeal.cfgs 0).N,
    Cert.MixGlaIdeal.Value.run_blocks m g,
    (θ_run Cert.MixGlaRefIdeal.defs _ _).mono
      (fun _ h c => ⟨(h c).1.trans ((Cert.MixGlaEq.res m m' c (hagree c)).trans (Cert.MixGlaIdeal.Value.finalGla m c).symm), (h c).2⟩)
      (Cert.MixGlaRefIdeal.Value.run m' g')⟩

theorem claim : Cert.Claim := ⟨Cert.FfnProj.Gen.facts, Cert.FfnProjIdeal.Gen.facts, Cert.FfnProjRefIdeal.Gen.facts, Cert.Mix.Gen.facts, Cert.MixIdeal.Gen.facts,
  Cert.MixTail.Gen.facts, Cert.MixTailIdeal.Gen.facts, Cert.MixTailRefIdeal.Gen.facts,
  Cert.MixGla.Gen.facts, Cert.MixGlaIdeal.Gen.facts, Cert.MixGlaRefIdeal.Gen.facts, Cert.Pre_finite2.Gen.facts, Cert.Pre_finite3.Gen.facts,
  fun m g _ => Cert.FfnProj.Gen.frame m g,
  fun m g _ => Cert.FfnProjIdeal.Gen.frame m g,
  fun m g _ => Cert.FfnProjIdeal.Gen.frame m g,
  fun m g _ => (θ_run Cert.FfnProjRefIdeal.defs _ _).mono (fun r h => ⟨fun c => (h c).2.2, sem_eq_zero_of_no_sems (sig := Cert.FfnProjRefIdeal.sig) (by decide) r.2⟩)
    (Cert.FfnProjRefIdeal.Value.run m g),
  fun m g _ => Cert.Mix.Body.frame m g,
  fun m g _ => Cert.MixIdeal.Body.frame m g,
  fun m g _ => Cert.MixTail.Body.frame m g,
  fun m g _ => Cert.MixTailIdeal.Body.frame m g,
  fun m g _ => Cert.MixTailIdeal.Body.frame m g,
  fun m g _ => (θ_run Cert.MixTailRefIdeal.defs _ _).mono (fun r h => ⟨fun c => (h c).2, sem_eq_zero_of_no_sems (sig := Cert.MixTailRefIdeal.sig) (by decide) r.2⟩)
    (Cert.MixTailRefIdeal.Value.run m g),
  fun m g _ => Cert.MixGla.Gen.frame m g,
  fun m g _ => Cert.MixGlaIdeal.Gen.frame m g,
  fun m g _ => (θ_run Cert.MixGlaRefIdeal.defs _ _).mono (fun r h => ⟨fun c => (h c).2, sem_eq_zero_of_no_sems (sig := Cert.MixGlaRefIdeal.sig) (by decide) r.2⟩)
    (Cert.MixGlaRefIdeal.Value.run m g),
  ⟨IdealRules.named_const.statement Cert.FfnProjIdeal.κ "half_over_alpha" .f32 0x3ED744FD#32 _ rfl,
    IdealRules.named_const.statement Cert.FfnProjIdeal.κ "eps_over_alpha2" .f32 0x36ED4403#32 _ rfl⟩,
  algebraic_ffn,
  ⟨IdealRules.named_const.statement Cert.MixIdeal.κ "half_over_alpha" .f32 0x3ED744FD#32 _ rfl,
    IdealRules.named_const.statement Cert.MixIdeal.κ "eps_over_alpha2" .f32 0x36ED4403#32 _ rfl,
    IdealRules.named_const.statement Cert.MixIdeal.κ "one_over_alpha" .f32 0x3F5744FD#32 _ rfl⟩,
  ⟨IdealRules.named_const.statement Cert.MixTailIdeal.κ "one_over_alpha" .f32 0x3F5744FD#32 _ rfl,
    IdealRules.named_const.statement Cert.MixTailIdeal.κ "eps_over_alpha2" .f32 0x36ED4403#32 _ rfl,
    IdealRules.named_const.statement Cert.MixTailIdeal.κ "half_over_alpha" .f32 0x3ED744FD#32 _ rfl⟩,
  algebraic_tail,
  trivial,
  algebraic_gla⟩

end Cert.Proof

end
